-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite_KernelIdeal [hPre_gates_finite_KernelIdeal : Cert.Pre_gates_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite_ReferenceIdeal [hPre_gates_finite_ReferenceIdeal : Cert.Pre_gates_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_finite_KernelIdeal [hKernelIdeal : Cert.KernelIdeal.Facts] [hPre_gates_finite_KernelIdeal : Cert.Pre_gates_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_finite_ReferenceIdeal [hReferenceIdeal : Cert.ReferenceIdeal.Facts] [hPre_gates_finite_ReferenceIdeal : Cert.Pre_gates_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_gates_finite_KernelIdeal [hKernelIdeal : Cert.KernelIdeal.Facts] [hReferenceIdeal : Cert.ReferenceIdeal.Facts] [hPre_gates_finite_KernelIdeal : Cert.Pre_gates_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 16]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![16, 1024, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![16, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 1024]⟩ ⟨2, ![1024, 1024]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v74) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gates_finite_KernelIdeal : Cert.Pre_gates_finite_KernelIdeal.Facts) (hPre_gates_finite_ReferenceIdeal : Cert.Pre_gates_finite_ReferenceIdeal.Facts),
    quiescent_Kernel (hKernel := hKernel)
    ∧ quiescent_KernelIdeal (hKernelIdeal := hKernelIdeal)
    ∧ quiescent_KernelIdeal_pre_gates_finite_KernelIdeal (hKernelIdeal := hKernelIdeal) (hPre_gates_finite_KernelIdeal := hPre_gates_finite_KernelIdeal)
    ∧ quiescent_ReferenceIdeal (hReferenceIdeal := hReferenceIdeal)
    ∧ quiescent_ReferenceIdeal_pre_gates_finite_ReferenceIdeal (hReferenceIdeal := hReferenceIdeal) (hPre_gates_finite_ReferenceIdeal := hPre_gates_finite_ReferenceIdeal)
    ∧ preserves_Kernel_KernelIdeal
    ∧ algebraic_KernelIdeal_ReferenceIdeal_pre_gates_finite_KernelIdeal (hKernelIdeal := hKernelIdeal) (hReferenceIdeal := hReferenceIdeal) (hPre_gates_finite_KernelIdeal := hPre_gates_finite_KernelIdeal)
-- ==== Pre_gates_finite_KernelIdeal.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S256x1024 .f32) (main_arg1 : FVec F S1024x4 .f32) (main_arg2 : FVec F S4x1024x2048 .f32) (main_arg3 : FVec F S4x2048x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Pre_gates_finite_ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x1024 .f32) (main_arg1 : FVec F S1024x16 .f32) (main_arg2 : FVec F S16x1024x2048 .f32) (main_arg3 : FVec F S16x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S4x256x1024 : Shape := ⟨3, ![4, 256, 1024]⟩
abbrev S4x1024x4 : Shape := ⟨3, ![4, 1024, 4]⟩
abbrev S4x256x4 : Shape := ⟨3, ![4, 256, 4]⟩
abbrev S3x256x1024 : Shape := ⟨3, ![3, 256, 1024]⟩
abbrev S1024x1024 : Shape := ⟨2, ![1024, 1024]⟩
abbrev S2x1024x2048 : Shape := ⟨3, ![2, 1024, 2048]⟩
abbrev S2x2048x1024 : Shape := ⟨3, ![2, 2048, 1024]⟩
abbrev S3 : Shape := ⟨1, ![3]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1x1024x4 : Shape := ⟨3, ![1, 1024, 4]⟩
abbrev S1024x16 : Shape := ⟨2, ![1024, 16]⟩
abbrev S256x16 : Shape := ⟨2, ![256, 16]⟩
abbrev S256 : Shape := ⟨1, ![256]⟩
abbrev S256x1 : Shape := ⟨2, ![256, 1]⟩
abbrev S256x4 : Shape := ⟨2, ![256, 4]⟩
abbrev S1x256x1024 : Shape := ⟨3, ![1, 256, 1024]⟩
abbrev S1x256x4 : Shape := ⟨3, ![1, 256, 4]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S256x1024, .f32⟩
  | .local _ .vmem, ⟨0, _⟩ => ⟨S256x1024, .f32⟩
  | .local _ .vmem, ⟨1, _⟩ => ⟨S1024x4, .f32⟩
  | .local _ .vmem, ⟨2, _⟩ => ⟨S256x1024, .f32⟩
  | .local _ .vmem, ⟨3, _⟩ => ⟨S4x256x1024, .bf16⟩
  | .local _ .vmem, ⟨4, _⟩ => ⟨S4x1024x4, .f32⟩
  | .local _ .vmem, ⟨5, _⟩ => ⟨S4x256x4, .f32⟩
  | .local _ .vmem, ⟨6, _⟩ => ⟨S3x256x1024, .bf16⟩
  | .local _ .vmem, ⟨7, _⟩ => ⟨S3x256x1024, .bf16⟩
  | .local _ .vmem, ⟨8, _⟩ => ⟨S1024x1024, .f32⟩
  | .local _ .vmem, ⟨9, _⟩ => ⟨S2x1024x2048, .f32⟩
  | .local _ .vmem, ⟨10, _⟩ => ⟨S2x2048x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v39 : BitVec 32 := Scalar.muli v2 c16_i32_35
  let v40 : BitVec 32 := Scalar.addi c0_i32_36 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v41 : BitVec 32 := Scalar.muli v5 c4_i32_37
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_38 : BitVec 32 := 1#32
  let v43 : BitVec 32 := Scalar.muli v13 c1_i32_38
  let v44 : BitVec 32 := Scalar.addi v42 v43
  v44.toNat
def k0_dev2 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v45 : BitVec 32 := Scalar.muli v2 c16_i32_40
  let v46 : BitVec 32 := Scalar.addi c0_i32_41 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v47 : BitVec 32 := Scalar.muli v5 c4_i32_42
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_43 : BitVec 32 := 1#32
  let v49 : BitVec 32 := Scalar.muli v10 c1_i32_43
  let v50 : BitVec 32 := Scalar.addi v48 v49
  v50.toNat
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v56 : BitVec 32 := Scalar.muli v2 c16_i32_53
  let v57 : BitVec 32 := Scalar.addi c0_i32_54 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v58 : BitVec 32 := Scalar.muli v5 c4_i32_55
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_56 : BitVec 32 := 1#32
  let v60 : BitVec 32 := Scalar.muli v10 c1_i32_56
  let v61 : BitVec 32 := Scalar.addi v59 v60
  v61.toNat
def k0_dev4 (d0 : Dev nD) : Nat :=
  let c0_i32_87 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_86 : BitVec 32 := 16#32
  let v88 : BitVec 32 := Scalar.muli v2 c16_i32_86
  let v89 : BitVec 32 := Scalar.addi c0_i32_87 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v90 : BitVec 32 := Scalar.muli v5 c4_i32_88
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_89 : BitVec 32 := 1#32
  let v92 : BitVec 32 := Scalar.muli v10 c1_i32_89
  let v93 : BitVec 32 := Scalar.addi v91 v92
  v93.toNat
def k0_dev5 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_118 : BitVec 32 := 16#32
  let v120 : BitVec 32 := Scalar.muli v2 c16_i32_118
  let v121 : BitVec 32 := Scalar.addi c0_i32_119 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v122 : BitVec 32 := Scalar.muli v5 c4_i32_120
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_121 : BitVec 32 := 1#32
  let v124 : BitVec 32 := Scalar.muli v10 c1_i32_121
  let v125 : BitVec 32 := Scalar.addi v123 v124
  v125.toNat
def k0_dev6 (d0 : Dev nD) : Nat :=
  let c0_i32_229 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_228 : BitVec 32 := 16#32
  let v298 : BitVec 32 := Scalar.muli v2 c16_i32_228
  let v299 : BitVec 32 := Scalar.addi c0_i32_229 v298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_230 : BitVec 32 := 4#32
  let v300 : BitVec 32 := Scalar.muli v5 c4_i32_230
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_231 : BitVec 32 := 1#32
  let v302 : BitVec 32 := Scalar.muli v10 c1_i32_231
  let v303 : BitVec 32 := Scalar.addi v301 v302
  v303.toNat
def k0_dev7 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_240 : BitVec 32 := 16#32
  let v312 : BitVec 32 := Scalar.muli v2 c16_i32_240
  let v313 : BitVec 32 := Scalar.addi c0_i32_241 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v314 : BitVec 32 := Scalar.muli v5 c4_i32_242
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_243 : BitVec 32 := 1#32
  let v316 : BitVec 32 := Scalar.muli v10 c1_i32_243
  let v317 : BitVec 32 := Scalar.addi v315 v316
  v317.toNat
@[reducible] def k0_t1_loop : Scf.Loop 32 :=
  let c0_i32_264 : BitVec 32 := 0#32
  let c2_i32_265 : BitVec 32 := 2#32
  let v342 : BitVec 32 := Scalar.addi c0_i32_264 c2_i32_265
  let c1_i32_266 : BitVec 32 := 1#32
  ⟨c0_i32_264, v342, c1_i32_266⟩
def k0_off1 (k0_t1 : Fin k0_t1_loop.trips) : Fin 3 → Nat :=
  let c0_i32_264 : BitVec 32 := 0#32
  let c1_i32_266 : BitVec 32 := 1#32
  let arg23 : BitVec 32 := Scf.iv c0_i32_264 c1_i32_266 k0_t1
  let v840 : Index := Scalar.indexCast arg23
  let c0_772 : Index := 0#32
  let c0_773 : Index := 0#32
  ![v840.toNat, 0, 0]
def k0_off2 (k0_t1 : Fin k0_t1_loop.trips) : Fin 3 → Nat :=
  let c0_i32_264 : BitVec 32 := 0#32
  let c1_i32_266 : BitVec 32 := 1#32
  let arg23 : BitVec 32 := Scf.iv c0_i32_264 c1_i32_266 k0_t1
  let v846 : Index := Scalar.indexCast arg23
  let c0_776 : Index := 0#32
  let c0_777 : Index := 0#32
  ![v846.toNat, 0, 0]
def k0_dev8 (d0 : Dev nD) : Nat :=
  let c0_i32_317 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_316 : BitVec 32 := 16#32
  let v383 : BitVec 32 := Scalar.muli v2 c16_i32_316
  let v384 : BitVec 32 := Scalar.addi c0_i32_317 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_318 : BitVec 32 := 4#32
  let v385 : BitVec 32 := Scalar.muli v5 c4_i32_318
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_319 : BitVec 32 := 1#32
  let v387 : BitVec 32 := Scalar.muli v10 c1_i32_319
  let v388 : BitVec 32 := Scalar.addi v386 v387
  v388.toNat
def k0_dev9 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v397 : BitVec 32 := Scalar.muli v2 c16_i32_328
  let v398 : BitVec 32 := Scalar.addi c0_i32_329 v397
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v399 : BitVec 32 := Scalar.muli v5 c4_i32_330
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_331 : BitVec 32 := 1#32
  let v401 : BitVec 32 := Scalar.muli v10 c1_i32_331
  let v402 : BitVec 32 := Scalar.addi v400 v401
  v402.toNat
@[reducible] def k0_t2_loop : Scf.Loop 32 :=
  let c0_i32_352 : BitVec 32 := 0#32
  let c2_i32_353 : BitVec 32 := 2#32
  let v427 : BitVec 32 := Scalar.addi c0_i32_352 c2_i32_353
  let c1_i32_354 : BitVec 32 := 1#32
  ⟨c0_i32_352, v427, c1_i32_354⟩
def k0_off3 (k0_t2 : Fin k0_t2_loop.trips) : Fin 3 → Nat :=
  let c0_i32_352 : BitVec 32 := 0#32
  let c1_i32_354 : BitVec 32 := 1#32
  let arg23 : BitVec 32 := Scf.iv c0_i32_352 c1_i32_354 k0_t2
  let v840 : Index := Scalar.indexCast arg23
  let c0_772 : Index := 0#32
  let c0_773 : Index := 0#32
  ![v840.toNat, 0, 0]
def k0_off4 (k0_t2 : Fin k0_t2_loop.trips) : Fin 3 → Nat :=
  let c0_i32_352 : BitVec 32 := 0#32
  let c1_i32_354 : BitVec 32 := 1#32
  let arg23 : BitVec 32 := Scf.iv c0_i32_352 c1_i32_354 k0_t2
  let v846 : Index := Scalar.indexCast arg23
  let c0_776 : Index := 0#32
  let c0_777 : Index := 0#32
  ![v846.toNat, 0, 0]
def k0_dev10 (d0 : Dev nD) : Nat :=
  let c0_i32_404 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_403 : BitVec 32 := 16#32
  let v468 : BitVec 32 := Scalar.muli v2 c16_i32_403
  let v469 : BitVec 32 := Scalar.addi c0_i32_404 v468
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_405 : BitVec 32 := 4#32
  let v470 : BitVec 32 := Scalar.muli v5 c4_i32_405
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_406 : BitVec 32 := 1#32
  let v472 : BitVec 32 := Scalar.muli v10 c1_i32_406
  let v473 : BitVec 32 := Scalar.addi v471 v472
  v473.toNat
def k0_dev11 (d0 : Dev nD) : Nat :=
  let c0_i32_416 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_415 : BitVec 32 := 16#32
  let v482 : BitVec 32 := Scalar.muli v2 c16_i32_415
  let v483 : BitVec 32 := Scalar.addi c0_i32_416 v482
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_417 : BitVec 32 := 4#32
  let v484 : BitVec 32 := Scalar.muli v5 c4_i32_417
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_418 : BitVec 32 := 1#32
  let v486 : BitVec 32 := Scalar.muli v10 c1_i32_418
  let v487 : BitVec 32 := Scalar.addi v485 v486
  v487.toNat
@[reducible] def k0_t3_loop : Scf.Loop 32 :=
  let c0_i32_439 : BitVec 32 := 0#32
  let c2_i32_440 : BitVec 32 := 2#32
  let v512 : BitVec 32 := Scalar.addi c0_i32_439 c2_i32_440
  let c1_i32_441 : BitVec 32 := 1#32
  ⟨c0_i32_439, v512, c1_i32_441⟩
def k0_off5 (k0_t3 : Fin k0_t3_loop.trips) : Fin 3 → Nat :=
  let c0_i32_439 : BitVec 32 := 0#32
  let c1_i32_441 : BitVec 32 := 1#32
  let arg23 : BitVec 32 := Scf.iv c0_i32_439 c1_i32_441 k0_t3
  let v840 : Index := Scalar.indexCast arg23
  let c0_772 : Index := 0#32
  let c0_773 : Index := 0#32
  ![v840.toNat, 0, 0]
def k0_off6 (k0_t3 : Fin k0_t3_loop.trips) : Fin 3 → Nat :=
  let c0_i32_439 : BitVec 32 := 0#32
  let c1_i32_441 : BitVec 32 := 1#32
  let arg23 : BitVec 32 := Scf.iv c0_i32_439 c1_i32_441 k0_t3
  let v846 : Index := Scalar.indexCast arg23
  let c0_776 : Index := 0#32
  let c0_777 : Index := 0#32
  ![v846.toNat, 0, 0]
@[reducible] def k0_t4_loop : Scf.Loop 32 :=
  let c0_i32_502 : BitVec 32 := 0#32
  let c2_i32_503 : BitVec 32 := 2#32
  let v569 : BitVec 32 := Scalar.addi c0_i32_502 c2_i32_503
  let c1_i32_504 : BitVec 32 := 1#32
  ⟨c0_i32_502, v569, c1_i32_504⟩
def k0_off7 (k0_t4 : Fin k0_t4_loop.trips) : Fin 3 → Nat :=
  let c0_i32_502 : BitVec 32 := 0#32
  let c1_i32_504 : BitVec 32 := 1#32
  let arg23 : BitVec 32 := Scf.iv c0_i32_502 c1_i32_504 k0_t4
  let v840 : Index := Scalar.indexCast arg23
  let c0_772 : Index := 0#32
  let c0_773 : Index := 0#32
  ![v840.toNat, 0, 0]
def k0_off8 (k0_t4 : Fin k0_t4_loop.trips) : Fin 3 → Nat :=
  let c0_i32_502 : BitVec 32 := 0#32
  let c1_i32_504 : BitVec 32 := 1#32
  let arg23 : BitVec 32 := Scf.iv c0_i32_502 c1_i32_504 k0_t4
  let v846 : Index := Scalar.indexCast arg23
  let c0_776 : Index := 0#32
  let c0_777 : Index := 0#32
  ![v846.toNat, 0, 0]
@[reducible] def k0_t5_loop : Scf.Loop 32 :=
  let c0_i32_579 : BitVec 32 := 0#32
  let c2_i32_580 : BitVec 32 := 2#32
  let v638 : BitVec 32 := Scalar.addi c0_i32_579 c2_i32_580
  let c1_i32_581 : BitVec 32 := 1#32
  ⟨c0_i32_579, v638, c1_i32_581⟩
def k0_off9 (k0_t5 : Fin k0_t5_loop.trips) : Fin 3 → Nat :=
  let c0_i32_579 : BitVec 32 := 0#32
  let c1_i32_581 : BitVec 32 := 1#32
  let arg23 : BitVec 32 := Scf.iv c0_i32_579 c1_i32_581 k0_t5
  let v840 : Index := Scalar.indexCast arg23
  let c0_772 : Index := 0#32
  let c0_773 : Index := 0#32
  ![v840.toNat, 0, 0]
def k0_off10 (k0_t5 : Fin k0_t5_loop.trips) : Fin 3 → Nat :=
  let c0_i32_579 : BitVec 32 := 0#32
  let c1_i32_581 : BitVec 32 := 1#32
  let arg23 : BitVec 32 := Scf.iv c0_i32_579 c1_i32_581 k0_t5
  let v846 : Index := Scalar.indexCast arg23
  let c0_776 : Index := 0#32
  let c0_777 : Index := 0#32
  ![v846.toNat, 0, 0]
def k0_dev12 (d0 : Dev nD) : Nat :=
  let c0_i32_593 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_592 : BitVec 32 := 16#32
  let v646 : BitVec 32 := Scalar.muli v2 c16_i32_592
  let v647 : BitVec 32 := Scalar.addi c0_i32_593 v646
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_594 : BitVec 32 := 4#32
  let v648 : BitVec 32 := Scalar.muli v5 c4_i32_594
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_595 : BitVec 32 := 1#32
  let v650 : BitVec 32 := Scalar.muli v10 c1_i32_595
  let v651 : BitVec 32 := Scalar.addi v649 v650
  v651.toNat
@[reducible] def k0_t6_loop : Scf.Loop 32 :=
  let c0_i32_616 : BitVec 32 := 0#32
  let c2_i32_617 : BitVec 32 := 2#32
  let v676 : BitVec 32 := Scalar.addi c0_i32_616 c2_i32_617
  let c1_i32_618 : BitVec 32 := 1#32
  ⟨c0_i32_616, v676, c1_i32_618⟩
def k0_off11 (k0_t6 : Fin k0_t6_loop.trips) : Fin 3 → Nat :=
  let c0_i32_616 : BitVec 32 := 0#32
  let c1_i32_618 : BitVec 32 := 1#32
  let arg23 : BitVec 32 := Scf.iv c0_i32_616 c1_i32_618 k0_t6
  let v840 : Index := Scalar.indexCast arg23
  let c0_772 : Index := 0#32
  let c0_773 : Index := 0#32
  ![v840.toNat, 0, 0]
def k0_off12 (k0_t6 : Fin k0_t6_loop.trips) : Fin 3 → Nat :=
  let c0_i32_616 : BitVec 32 := 0#32
  let c1_i32_618 : BitVec 32 := 1#32
  let arg23 : BitVec 32 := Scf.iv c0_i32_616 c1_i32_618 k0_t6
  let v846 : Index := Scalar.indexCast arg23
  let c0_776 : Index := 0#32
  let c0_777 : Index := 0#32
  ![v846.toNat, 0, 0]
def k0_dev13 (d0 : Dev nD) : Nat :=
  let c0_i32_654 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_653 : BitVec 32 := 16#32
  let v706 : BitVec 32 := Scalar.muli v2 c16_i32_653
  let v707 : BitVec 32 := Scalar.addi c0_i32_654 v706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_655 : BitVec 32 := 4#32
  let v708 : BitVec 32 := Scalar.muli v5 c4_i32_655
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_656 : BitVec 32 := 1#32
  let v710 : BitVec 32 := Scalar.muli v10 c1_i32_656
  let v711 : BitVec 32 := Scalar.addi v709 v710
  v711.toNat
@[reducible] def k0_t7_loop : Scf.Loop 32 :=
  let c0_i32_677 : BitVec 32 := 0#32
  let c2_i32_678 : BitVec 32 := 2#32
  let v736 : BitVec 32 := Scalar.addi c0_i32_677 c2_i32_678
  let c1_i32_679 : BitVec 32 := 1#32
  ⟨c0_i32_677, v736, c1_i32_679⟩
def k0_off13 (k0_t7 : Fin k0_t7_loop.trips) : Fin 3 → Nat :=
  let c0_i32_677 : BitVec 32 := 0#32
  let c1_i32_679 : BitVec 32 := 1#32
  let arg23 : BitVec 32 := Scf.iv c0_i32_677 c1_i32_679 k0_t7
  let v840 : Index := Scalar.indexCast arg23
  let c0_772 : Index := 0#32
  let c0_773 : Index := 0#32
  ![v840.toNat, 0, 0]
def k0_off14 (k0_t7 : Fin k0_t7_loop.trips) : Fin 3 → Nat :=
  let c0_i32_677 : BitVec 32 := 0#32
  let c1_i32_679 : BitVec 32 := 1#32
  let arg23 : BitVec 32 := Scf.iv c0_i32_677 c1_i32_679 k0_t7
  let v846 : Index := Scalar.indexCast arg23
  let c0_776 : Index := 0#32
  let c0_777 : Index := 0#32
  ![v846.toNat, 0, 0]
def k0_dev14 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v766 : BitVec 32 := Scalar.muli v2 c16_i32_714
  let v767 : BitVec 32 := Scalar.addi c0_i32_715 v766
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_716 : BitVec 32 := 4#32
  let v768 : BitVec 32 := Scalar.muli v5 c4_i32_716
  let v769 : BitVec 32 := Scalar.addi v767 v768
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_717 : BitVec 32 := 1#32
  let v770 : BitVec 32 := Scalar.muli v10 c1_i32_717
  let v771 : BitVec 32 := Scalar.addi v769 v770
  v771.toNat
@[reducible] def k0_t8_loop : Scf.Loop 32 :=
  let c0_i32_740 : BitVec 32 := 0#32
  let c2_i32_741 : BitVec 32 := 2#32
  let v797 : BitVec 32 := Scalar.addi c0_i32_740 c2_i32_741
  let c1_i32_742 : BitVec 32 := 1#32
  ⟨c0_i32_740, v797, c1_i32_742⟩
def k0_off15 (k0_t8 : Fin k0_t8_loop.trips) : Fin 3 → Nat :=
  let c0_i32_740 : BitVec 32 := 0#32
  let c1_i32_742 : BitVec 32 := 1#32
  let arg23 : BitVec 32 := Scf.iv c0_i32_740 c1_i32_742 k0_t8
  let v840 : Index := Scalar.indexCast arg23
  let c0_772 : Index := 0#32
  let c0_773 : Index := 0#32
  ![v840.toNat, 0, 0]
def k0_off16 (k0_t8 : Fin k0_t8_loop.trips) : Fin 3 → Nat :=
  let c0_i32_740 : BitVec 32 := 0#32
  let c1_i32_742 : BitVec 32 := 1#32
  let arg23 : BitVec 32 := Scf.iv c0_i32_740 c1_i32_742 k0_t8
  let v846 : Index := Scalar.indexCast arg23
  let c0_776 : Index := 0#32
  let c0_777 : Index := 0#32
  ![v846.toNat, 0, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩
abbrev S1024x16x1 : Shape := ⟨3, ![1024, 16, 1]⟩
abbrev S1024x1x16 : Shape := ⟨3, ![1024, 1, 16]⟩
abbrev S1024x16x16 : Shape := ⟨3, ![1024, 16, 16]⟩
abbrev S1024 : Shape := ⟨1, ![1024]⟩
abbrev S1024x1 : Shape := ⟨2, ![1024, 1]⟩
abbrev S1024x16x2048 : Shape := ⟨3, ![1024, 16, 2048]⟩
abbrev S16x1024x1024 : Shape := ⟨3, ![16, 1024, 1024]⟩
abbrev S16x1024 : Shape := ⟨2, ![16, 1024]⟩
abbrev S16x1024x1 : Shape := ⟨3, ![16, 1024, 1]⟩
abbrev S1x1024x1 : Shape := ⟨3, ![1, 1024, 1]⟩

abbrev nBuf : Space → Nat
  | .hbm => 108
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x16, .i32⟩
  | .hbm, ⟨6, _⟩ => ⟨S_, .i32⟩
  | .hbm, ⟨7, _⟩ => ⟨S1024x16, .i32⟩
  | .hbm, ⟨8, _⟩ => ⟨S1024x16, .i32⟩
  | .hbm, ⟨9, _⟩ => ⟨S1024x16, .i32⟩
  | .hbm, ⟨10, _⟩ => ⟨S_, .i32⟩
  | .hbm, ⟨11, _⟩ => ⟨S1024x16, .i32⟩
  | .hbm, ⟨12, _⟩ => ⟨S1024x16, .i32⟩
  | .hbm, ⟨13, _⟩ => ⟨S1024x16, .i32⟩
  | .hbm, ⟨14, _⟩ => ⟨S_, .i32⟩
  | .hbm, ⟨15, _⟩ => ⟨S1024x16, .i32⟩
  | .hbm, ⟨16, _⟩ => ⟨S1024x16, .i32⟩
  | .hbm, ⟨17, _⟩ => ⟨S_, .i32⟩
  | .hbm, ⟨18, _⟩ => ⟨S1024x16, .i32⟩
  | .hbm, ⟨19, _⟩ => ⟨S1024x16, .i32⟩
  | .hbm, ⟨20, _⟩ => ⟨S_, .i32⟩
  | .hbm, ⟨21, _⟩ => ⟨S1024x16, .i32⟩
  | .hbm, ⟨22, _⟩ => ⟨S1024x16, .i32⟩
  | .hbm, ⟨23, _⟩ => ⟨S_, .i32⟩
  | .hbm, ⟨24, _⟩ => ⟨S1024x16, .i32⟩
  | .hbm, ⟨25, _⟩ => ⟨S1024x16, .i32⟩
  | .hbm, ⟨26, _⟩ => ⟨S1024x16, .i32⟩
  | .hbm, ⟨27, _⟩ => ⟨S1024x16x1, .f32⟩
  | .hbm, ⟨28, _⟩ => ⟨S1024x1x16, .f32⟩
  | .hbm, ⟨29, _⟩ => ⟨S1024x16x16, .f32⟩
  | .hbm, ⟨30, _⟩ => ⟨S1024x16x16, .f32⟩
  | .hbm, ⟨31, _⟩ => ⟨S1024x16x16, .i1⟩
  | .hbm, ⟨32, _⟩ => ⟨S1024x16x16, .f32⟩
  | .hbm, ⟨33, _⟩ => ⟨S1024x16x16, .f32⟩
  | .hbm, ⟨34, _⟩ => ⟨S1024x16x16, .i1⟩
  | .hbm, ⟨35, _⟩ => ⟨S1024x1x16, .i32⟩
  | .hbm, ⟨36, _⟩ => ⟨S1024x16x1, .i32⟩
  | .hbm, ⟨37, _⟩ => ⟨S1024x16x16, .i32⟩
  | .hbm, ⟨38, _⟩ => ⟨S1024x16x16, .i32⟩
  | .hbm, ⟨39, _⟩ => ⟨S1024x16x16, .i1⟩
  | .hbm, ⟨40, _⟩ => ⟨S1024x16x16, .i1⟩
  | .hbm, ⟨41, _⟩ => ⟨S1024x16x16, .i1⟩
  | .hbm, ⟨42, _⟩ => ⟨S1024x16x16, .i32⟩
  | .hbm, ⟨43, _⟩ => ⟨S_, .i32⟩
  | .hbm, ⟨44, _⟩ => ⟨S1024x16, .i32⟩
  | .hbm, ⟨45, _⟩ => ⟨S_, .i32⟩
  | .hbm, ⟨46, _⟩ => ⟨S1024x16, .i32⟩
  | .hbm, ⟨47, _⟩ => ⟨S1024x16, .i1⟩
  | .hbm, ⟨48, _⟩ => ⟨S_, .i32⟩
  | .hbm, ⟨49, _⟩ => ⟨S1024x16, .i32⟩
  | .hbm, ⟨50, _⟩ => ⟨S1024x16, .i1⟩
  | .hbm, ⟨51, _⟩ => ⟨S_, .f32⟩
  | .hbm, ⟨52, _⟩ => ⟨S_, .f32⟩
  | .hbm, ⟨53, _⟩ => ⟨S1024x16, .f32⟩
  | .hbm, ⟨54, _⟩ => ⟨S1024x16, .f32⟩
  | .hbm, ⟨55, _⟩ => ⟨S_, .f32⟩
  | .hbm, ⟨56, _⟩ => ⟨S1024, .f32⟩
  | .hbm, ⟨57, _⟩ => ⟨S1024x1, .f32⟩
  | .hbm, ⟨58, _⟩ => ⟨S_, .f32⟩
  | .hbm, ⟨59, _⟩ => ⟨S_, .f32⟩
  | .hbm, ⟨60, _⟩ => ⟨S1024x16, .f32⟩
  | .hbm, ⟨61, _⟩ => ⟨S1024x16, .f32⟩
  | .hbm, ⟨62, _⟩ => ⟨S_, .f32⟩
  | .hbm, ⟨63, _⟩ => ⟨S1024, .f32⟩
  | .hbm, ⟨64, _⟩ => ⟨S1024x1, .f32⟩
  | .hbm, ⟨65, _⟩ => ⟨S1024x1, .f32⟩
  | .hbm, ⟨66, _⟩ => ⟨S1024x1, .f32⟩
  | .hbm, ⟨67, _⟩ => ⟨S1024x1, .f32⟩
  | .hbm, ⟨68, _⟩ => ⟨S1024x1, .f32⟩
  | .hbm, ⟨69, _⟩ => ⟨S1024x1, .f32⟩
  | .hbm, ⟨70, _⟩ => ⟨S1024x1, .f32⟩
  | .hbm, ⟨71, _⟩ => ⟨S1024x16x2048, .f32⟩
  | .hbm, ⟨72, _⟩ => ⟨S_, .f32⟩
  | .hbm, ⟨73, _⟩ => ⟨S1024x16x2048, .f32⟩
  | .hbm, ⟨74, _⟩ => ⟨S1024x16x2048, .f32⟩
  | .hbm, ⟨75, _⟩ => ⟨S16x1024x1024, .f32⟩
  | .hbm, ⟨76, _⟩ => ⟨S_, .f32⟩
  | .hbm, ⟨77, _⟩ => ⟨S1024x1024, .f32⟩
  | .hbm, ⟨78, _⟩ => ⟨S1024x1, .f32⟩
  | .hbm, ⟨79, _⟩ => ⟨S1024x1, .f32⟩
  | .hbm, ⟨80, _⟩ => ⟨S16x1024, .i1⟩
  | .hbm, ⟨81, _⟩ => ⟨S16x1024x1, .i1⟩
  | .hbm, ⟨82, _⟩ => ⟨S1x1024x1, .f32⟩
  | .hbm, ⟨83, _⟩ => ⟨S16x1024x1024, .f32⟩
  | .hbm, ⟨84, _⟩ => ⟨S16x1024x1024, .f32⟩
  | .hbm, ⟨85, _⟩ => ⟨S_, .f32⟩
  | .hbm, ⟨86, _⟩ => ⟨S_, .f32⟩
  | .hbm, ⟨87, _⟩ => ⟨S16x1024x1024, .i1⟩
  | .hbm, ⟨88, _⟩ => ⟨S16x1024x1024, .f32⟩
  | .hbm, ⟨89, _⟩ => ⟨S16x1024x1024, .f32⟩
  | .hbm, ⟨90, _⟩ => ⟨S_, .f32⟩
  | .hbm, ⟨91, _⟩ => ⟨S1024x1024, .f32⟩
  | .hbm, ⟨92, _⟩ => ⟨S1024x1024, .f32⟩
  | .hbm, ⟨93, _⟩ => ⟨S1024x1, .f32⟩
  | .hbm, ⟨94, _⟩ => ⟨S1024x1, .f32⟩
  | .hbm, ⟨95, _⟩ => ⟨S16x1024, .i1⟩
  | .hbm, ⟨96, _⟩ => ⟨S16x1024x1, .i1⟩
  | .hbm, ⟨97, _⟩ => ⟨S1x1024x1, .f32⟩
  | .hbm, ⟨98, _⟩ => ⟨S16x1024x1024, .f32⟩
  | .hbm, ⟨99, _⟩ => ⟨S16x1024x1024, .f32⟩
  | .hbm, ⟨100, _⟩ => ⟨S_, .f32⟩
  | .hbm, ⟨101, _⟩ => ⟨S_, .f32⟩
  | .hbm, ⟨102, _⟩ => ⟨S16x1024x1024, .i1⟩
  | .hbm, ⟨103, _⟩ => ⟨S16x1024x1024, .f32⟩
  | .hbm, ⟨104, _⟩ => ⟨S16x1024x1024, .f32⟩
  | .hbm, ⟨105, _⟩ => ⟨S_, .f32⟩
  | .hbm, ⟨106, _⟩ => ⟨S1024x1024, .f32⟩
  | .hbm, ⟨107, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_cst : Ref sig .tc := ⟨.hbm, 51, rfl⟩
abbrev main_call0_v0 : Ref sig .tc := ⟨.hbm, 52, rfl⟩
abbrev main_call0_v1 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v72 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Proof.Slot.lean ====
/-
# Slots

A buffer of the kernel is used in slots: unit-stride rectangles of it, each owned apart at what it reads. The
lemmas here restate the rules of a load, a store, a copy within a device and a copy to another device for an
owned slot, and cut a whole buffer into its slots and back.
-/
module

public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {nD : Nat} {τ : Topo} {sig : RefSig} {Val : EltTy → Type} {Ix : Type} [DecidableEq Ix]
variable {Name : Type} [DecidableEq Name] {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V)
variable {α : Type} {Q : α → sProp (MT nD τ sig Ix Val Name U Lvl)} {s s' s₁ : Shape} {e : EltTy}

/-- A load of a slot reads its contents and leaves it as it was. -/
theorem slot_load {cs : CoreSpace} (M : Memref sig c.2.kind cs s e) (r : Rect s) {hr : ∀ a, r.stride a = 1}
    {hl : M.view.LoadsAt r} {k : (r.shape.Idx → Val e) → Prog (TpuEff nD τ sig Val Λ c.2) α} {q : PosShare TreeShare}
    {X : r.shape.Idx → Val e} {E : Set Name} :
    (owns c (M.slice r hr) q X : sProp 𝕄)
      ⊢ iprop((owns c (M.slice r hr) q X -∗ wp frame (wpE defs 𝒱 c bd) E (k X) Q)
        -∗ wp frame (wpE defs 𝒱 c bd) E (.op (.load M r hl) k) Q) := by
  unfold owns
  iintro ⟨%f, %hf, H⟩ Hk
  subst hf
  iapply (wp_load_rect 𝒱 c bd E (m := M) (r := r) (S := (M.access r).set) subset_rfl) $$ H
  iintro H
  iapply Hk
  iexists f
  isplitr
  · ipureintro; rfl
  iexact H

/-- A load of a whole memref. -/
theorem whole_load {cs : CoreSpace} (M : Memref sig c.2.kind cs s e) (r : Rect s) (hset : (M.access r).set ⊆ M.view.set)
    {hl : M.view.LoadsAt r} {k : (r.shape.Idx → Val e) → Prog (TpuEff nD τ sig Val Λ c.2) α} {q : PosShare TreeShare}
    {f : Buf Val (M.view.loc c)} {E : Set Name} :
    (M.view.loc c ↦[M.view.set]{q} f : sProp 𝕄)
      ⊢ iprop(((M.view.loc c ↦[M.view.set]{q} f) -∗ wp frame (wpE defs 𝒱 c bd) E (k (fun j => M.view.read Val f (r.emb j))) Q)
        -∗ wp frame (wpE defs 𝒱 c bd) E (.op (.load M r hl) k) Q) :=
  wp_load_rect 𝒱 c bd E (m := M) (r := r) hset

/-- A store over a slot replaces its contents. -/
theorem slot_store {cs : CoreSpace} (M : Memref sig c.2.kind cs s e) (r : Rect s) {hr : ∀ a, r.stride a = 1}
    {w : r.shape.Idx → Val e} {hx : (M.access r).Stores Finset.univ} {hm : (Finset.univ : Finset r.shape.Idx) = Finset.univ ∨ ∀ a, r.stride a = 1}
    {k : PUnit → Prog (TpuEff nD τ sig Val Λ c.2) α}
    {X : r.shape.Idx → Val e} {E : Set Name} :
    (owns c (M.slice r hr) fullShare X : sProp 𝕄)
      ⊢ iprop((owns c (M.slice r hr) fullShare w -∗ wp frame (wpE defs 𝒱 c bd) E (k ⟨⟩) Q)
        -∗ wp frame (wpE defs 𝒱 c bd) E (.op (.store M r w Finset.univ hx hm) k) Q) := by
  unfold owns
  iintro ⟨%f, %hf, H⟩ Hk
  iapply (wp_store 𝒱 c bd E (m := M) (r := r) (Mk := Finset.univ) (w := w) (S := (M.access r).set) (View.setOn_subset_set _ _)) $$ H
  iintro H
  iapply Hk
  iexists _
  isplitr
  rotate_left
  · iexact H
  · ipureintro
    funext x
    exact View.read_write_of_mem (v := M.access r) f w (Finset.mem_univ x)

/-- What a copy from a squeezed slot to a squeezed slot leaves to be read. -/
theorem landed {κ κ' : Kind} {sp sp' : Space} (v : View sig κ sp s e) (v' : View sig κ' sp' s e) (h : s₁.numel = s.numel)
    (h' : s₁.numel = s.numel) (fs : v.ty.Contents Val) (fd : v'.ty.Contents Val) :
    v'.read Val ((v'.reshape s₁ h').write Val fd ((v.reshape s₁ h).read Val fs) Finset.univ) = v.read Val fs := by
  funext x
  have := View.read_write_reshape v' h' fd ((v.reshape s₁ h).read Val fs) ((Shape.reshapeEquiv h').symm x)
  rw [Equiv.apply_symm_apply] at this
  rw [this]
  show v.read Val fs (Shape.reshapeEquiv h ((Shape.reshapeEquiv h').symm x)) = _
  rw [Equiv.apply_symm_apply]

/-- The elements of a squeezed slot are the slot's. -/
theorem owns_squeeze {sp : Space} (M : Memref sig c.2.kind sp s e) (h : s.Squeezes s₁) (q : PosShare TreeShare) (f : M.view.ty.Contents Val) :
    ((M.squeeze s₁ h).view.loc c ↦[(M.squeeze s₁ h).view.set]{q} f : sProp 𝕄) ⊢ owns c M q (M.view.read Val f) := by
  have hS : (M.squeeze s₁ h).view.set = M.view.set := View.set_reshape _ _
  rw [hS]
  exact owns_intro c M q f

variable {M₁ M₂ : Shape}

/-- A copy between two slots of one device under way: its wait delivers the destination at the source's contents
    and the source back. -/
theorem slot_dma (EC : UEmb Counters (MT nD τ sig Ix Val Name U Lvl)) [Infinite Name] [EC.LandsIn (upEmb : UEmb _ 𝕄)] {sp sp' : Space}
    (src : Memref sig c.2.kind sp s e) (dst : Memref sig c.2.kind sp' s e) (h : s.Squeezes s₁) (h' : s.Squeezes s₁) {sm : SemLoc sig}
    {hsrc : (src.squeeze s₁ h).view.WordExact} {hdst : (dst.squeeze s₁ h').view.WordExact}
    {hsem : DmaTarget.Typed (nD := nD) sp sm (.here (dst.squeeze s₁ h'))}
    {k : PUnit → Prog (TpuEff nD τ sig Val Λ c.2) α} {q : PosShare TreeShare} {X Y : s.Idx → Val e}
    (ι : Ix) (N : ℕ) (hN : (dst.squeeze s₁ h').view.amount sm = N) (hN0 : 0 < N) :
    (iprop(owns c src q X ∗ owns c dst fullShare Y ∗ semVal (c, sm) 0) : sProp 𝕄)
      ⊢ iprop((Flight EC c sm ι N iprop(owns c dst fullShare X ∗ owns c src q X) -∗ wp frame (wpE defs 𝒱 c bd) Set.univ (k ⟨⟩) Q)
          -∗ wp frame (wpE defs 𝒱 c bd) Set.univ (.op (.enqueueDma (src.squeeze s₁ h) (.here (dst.squeeze s₁ h')) sm hsrc hdst hsem) k) Q) := by
  have hS : (src.squeeze s₁ h).view.set = src.view.set := View.set_reshape _ _
  have hS' : (dst.squeeze s₁ h').view.set = dst.view.set := View.set_reshape _ _
  iintro ⟨Hs, Hd, Hv⟩ Hk
  ihave Hs' := (show owns c src q X ⊢ iprop(∃ f, ⌜src.view.read Val f = X⌝ ∗ src.view.loc c ↦[src.view.set]{q} f) from .rfl) $$ Hs
  icases Hs' with ⟨%fs, %hfs, Hs⟩
  ihave Hd' := (show owns c dst fullShare Y ⊢ iprop(∃ f, ⌜dst.view.read Val f = Y⌝ ∗ dst.view.loc c ↦[dst.view.set]{fullShare} f) from .rfl) $$ Hd
  icases Hd' with ⟨%fd, %hfd, Hd⟩
  subst hfs
  rw [← hS, ← hS']
  iapply (wp_dmaLocal EC 𝒱 c bd (src := src.squeeze s₁ h) (via := .same) (dst := dst.squeeze s₁ h') (q := q) (fs := fs) (fd := fd)
    ι N hN hN0 subset_rfl) $$ [Hs Hd Hv]
  · isplitl [Hs]; · iexact Hs
    isplitl [Hd]; · iexact Hd
    iexact Hv
  iintro HF
  iapply Hk
  iapply (Flight_mono EC c (D := iprop(((dst.squeeze s₁ h').view.loc c ↦[(dst.squeeze s₁ h').view.set]{fullShare}
      ((dst.squeeze s₁ h').view.write Val fd ((src.squeeze s₁ h).view.read Val fs) Finset.univ))
    ∗ ((src.squeeze s₁ h).view.loc c ↦[(src.squeeze s₁ h).view.set]{q} fs)))) $$ HF
  refine BI.sep_mono ?_ (owns_squeeze c src h q fs)
  refine (owns_squeeze c dst h' fullShare _).trans ?_
  rw [show dst.view.read Val ((dst.squeeze s₁ h').view.write Val fd ((src.squeeze s₁ h).view.read Val fs) Finset.univ)
      = src.view.read Val fs from landed src.view dst.view h.numel_eq h'.numel_eq fs fd]

section Send

variable {D : Type} [DecidableEq D] (E : Emb (URounds (GSem nD τ sig) D) (MT nD τ sig Ix Val Name U Lvl))
  (Rd : Schedule (GSem nD τ sig) D (MT nD τ sig Ix Val Name U Lvl))

/-- A copy of a slot to a slot of another device: the two payloads are made from the source at its contents and
    from the destination at the same contents. -/
theorem slot_send {c' : Thread nD τ} {sp sp' : Space} (src : Memref sig c.2.kind sp s e) (dst : Memref sig c'.2.kind sp' s e)
    (h : s.Squeezes s₁) (h' : s.Squeezes s₁) {hsc : (dst.squeeze s₁ h').view.ref.isScScratch = false} {sS sem : SemLoc sig}
    {hsrc : (src.squeeze s₁ h).view.WordExact} {hdst : (dst.squeeze s₁ h').view.WordExact}
    {hsem : DmaTarget.Typed sp sem (.remote c' (dst.squeeze s₁ h') sS hsc)}
    {k : PUnit → Prog (TpuEff nD τ sig Val Λ c.2) α} {q : PosShare TreeShare} {X Y : s.Idx → Val e} {r₁ r₂ : ℕ} {d₁ d₂ : D}
    {κ₁ κ₂ : Name}
    (hd₁ : d₁ ∈ Rd.duties (c, sS) r₁) (hd₂ : d₂ ∈ Rd.duties (c', sem) r₂)
    (ι ι' : Ix) (N : ℕ) (hN : (dst.squeeze s₁ h').view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂) (hr : τ.routes c c' = true := by routes) :
    (iprop(cellInv E Rd κ₁ (c, sS) ∗ cellInv E Rd κ₂ (c', sem)
        ∗ owns c src q X ∗ owns c' dst fullShare Y
        ∗ owes c O₀ W
        ∗ dutyTok E (c, sS) r₁ d₁ ∗ reached E (c, sS) r₁
        ∗ dutyTok E (c', sem) r₂ d₂ ∗ reached E (c', sem) r₂) : sProp 𝕄)
      ⊢ iprop(((cred (tallyAt (c, sS) ι' N) ∗ owes c O W) -∗ wp frame (wpE defs 𝒱 c bd) Set.univ (k ⟨⟩) Q)
          -∗ wp frame (wpE defs 𝒱 c bd) Set.univ (.op (.enqueueDma (src.squeeze s₁ h) (.remote c' (dst.squeeze s₁ h') sS hsc) sem hsrc hdst hsem) k) Q) := by
  have hS : (src.squeeze s₁ h).view.set = src.view.set := View.set_reshape _ _
  have hS' : (dst.squeeze s₁ h').view.set = dst.view.set := View.set_reshape _ _
  iintro ⟨Hi, Hi', Hs, Hd, HO, Ht, Hre, Ht', Hre'⟩
  ihave Hs' := (show owns c src q X ⊢ iprop(∃ f, ⌜src.view.read Val f = X⌝ ∗ src.view.loc c ↦[src.view.set]{q} f) from .rfl) $$ Hs
  icases Hs' with ⟨%fs, %hfs, Hs⟩
  ihave Hd' := (show owns c' dst fullShare Y ⊢ iprop(∃ f, ⌜dst.view.read Val f = Y⌝ ∗ dst.view.loc c' ↦[dst.view.set]{fullShare} f) from .rfl) $$ Hd
  icases Hd' with ⟨%fd, %hfd, Hd⟩
  subst hfs
  rw [← hS, ← hS']
  iapply (wp_send_pointsTo 𝒱 E Rd c bd (src := src.squeeze s₁ h) (dst := dst.squeeze s₁ h') (fs := fs) (fd := fd) hd₁ hd₂ ι ι' N hN hk₁ hk₂ O hO
    ((owns_squeeze c src h q fs).trans hpay₁)
    ((owns_squeeze c' dst h' fullShare _).trans (by
      rw [show dst.view.read Val ((dst.squeeze s₁ h').view.write Val fd ((src.squeeze s₁ h).view.read Val fs) Finset.univ)
        = src.view.read Val fs from landed src.view dst.view h.numel_eq h'.numel_eq fs fd]
      exact hpay₂)) hr)
  isplitl [Hi]; · iexact Hi
  isplitl [Hi']; · iexact Hi'
  isplitl [Hs]; · iexact Hs
  isplitl [Hd]; · iexact Hd
  isplitl [HO]; · iexact HO
  isplitl [Ht]; · iexact Ht
  isplitl [Hre]; · iexact Hre
  isplitl [Ht'] <;> iassumption

end Send

/-- A memref's elements at the full share are the two half shares. -/
theorem pts_halves {sp : Space} (M : Memref sig c.2.kind sp s e) (f : M.view.ty.Contents Val) :
    (M.view.loc c ↦[M.view.set]{fullShare} f : sProp 𝕄)
      ⊣⊢ iprop((M.view.loc c ↦[M.view.set]{fullShare.left} f) ∗ (M.view.loc c ↦[M.view.set]{fullShare.right} f)) :=
  pointsTo_share (PosShare.mem_left_op_right fullShare)

/-- An owned memref in two half shares. -/
theorem owns_halves {sp : Space} (M : Memref sig c.2.kind sp s e) (X : s.Idx → Val e) :
    (owns c M fullShare X : sProp 𝕄) ⊢ iprop(owns c M fullShare.left X ∗ owns c M fullShare.right X) := by
  unfold owns
  iintro ⟨%f, %hf, H⟩
  ihave H := (pointsTo_share (PosShare.mem_left_op_right fullShare)).1 $$ H
  icases H with ⟨Ha, Hb⟩
  isplitl [Ha]
  · iexists f; isplitr
    · ipureintro; exact hf
    iexact Ha
  · iexists f; isplitr
    · ipureintro; exact hf
    iexact Hb

/-- The two half shares together. -/
theorem owns_unhalve {sp : Space} (M : Memref sig c.2.kind sp s e) (X : s.Idx → Val e) :
    iprop(owns c M fullShare.left X ∗ owns c M fullShare.right X) ⊢ (owns c M fullShare X : sProp 𝕄) := by
  unfold owns
  iintro ⟨⟨%f, %hf, Ha⟩, ⟨%g, %hg, Hb⟩⟩
  iexists f
  isplitr
  · ipureintro; exact hf
  have hfg : (M.view.loc c ↦[M.view.set]{fullShare.right} g : sProp 𝕄) = (M.view.loc c ↦[M.view.set]{fullShare.right} f) :=
    pointsTo_congr fun i hi => by
      obtain ⟨x, -, rfl⟩ := Finset.mem_map.mp hi
      exact View.eq_of_read_eq (congrFun (hg.trans hf.symm) x)
  ihave Hb := (BIBase.Entails.of_eq hfg) $$ Hb
  ihave H := (pts_halves c M f).2 $$ [Ha Hb]
  · isplitl [Ha] <;> iassumption
  iexact H

/-- Two disjoint slots cover the elements that are in one or the other. -/
theorem slots_glue [∀ e, Nonempty (Val e)] {n : ℕ} {sp : Space} (M : Memref sig c.2.kind sp s e) (q : PosShare TreeShare) (r : Fin n → Rect s)
    (hr : ∀ t a, (r t).stride a = 1) (hd : ∀ t t', t ≠ t' → Disjoint (r t).set (r t').set)
    (hcov : (Finset.univ : Finset (Fin n)).biUnion (fun t => (r t).set) = Finset.univ) (X : ∀ t, (r t).shape.Idx → Val e) :
    BI.bigSep Finset.univ (fun t => owns c (M.slice (r t) (hr t)) q (X t)) ⊢ (iprop(∃ Y, owns c M q Y) : sProp 𝕄) := by
  classical
  let Y : s.Idx → Val e := fun i =>
    if h : ∃ t, ∃ j, (r t).emb j = i then X h.choose h.choose_spec.choose else Classical.arbitrary _
  have hY : ∀ t j, Y ((r t).emb j) = X t j := by
    intro t j
    have hex : ∃ t', ∃ j', (r t').emb j' = (r t).emb j := ⟨t, j, rfl⟩
    have key : ∀ t' j', (r t').emb j' = (r t).emb j → X t' j' = X t j := by
      intro t' j' hj
      have htt : t' = t := by
        by_contra hne
        have h₁ : (r t).emb j ∈ (r t').set := by rw [← hj]; exact (r t').idx_mem j'
        exact Finset.disjoint_left.mp (hd t' t hne) h₁ ((r t).idx_mem j)
      subst htt
      rw [(r t').emb.injective hj]
    show (if h : ∃ t', ∃ j', (r t').emb j' = (r t).emb j then X h.choose h.choose_spec.choose else Classical.arbitrary _) = _
    rw [dif_pos hex]
    exact key _ _ hex.choose_spec.choose_spec
  iintro H
  iexists Y
  iapply (owns_of_rects c M q r hr hd hcov Y)
  rw [show (fun t => owns c (M.slice (r t) (hr t)) q (fun j => Y ((r t).emb j)) : Fin n → sProp 𝕄)
      = fun t => owns c (M.slice (r t) (hr t)) q (X t) from
    funext fun t => by rw [show (fun j => Y ((r t).emb j)) = X t from funext (hY t)]]
  iexact H

end Cert.SlotProof
-- ==== Proof.KernelIdealRing.lean ====
/-
# The ring: what each device holds, sends and waits for

The kernel runs on rings of four devices (the last mesh axis). A device sends only to the next device of its ring.
First each device signals both neighbours' barrier semaphore and waits for two units: with the next device's unit
come the slots of that device which it writes. Then twelve transfers follow, numbered in the order of their sends:
three hops of the router's columns, three hops of the tokens and of their gate data, and three sends of the reduced
partial results. Each transfer has a send and a receive semaphore, each of them used once.

Here: the devices, the buffers' slots, the contents every slot holds, the schedule of the semaphores, what a device
owes, the levels that order the waits, and the rules of a send and of a wait in these terms.
-/
module

public import proofs.«01_k».proof.Proof.Slot
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.IntervalCases

@[expose] public section

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

def s₀ : MemSt nD τ sig (Elt F) := ⟨m, fun _ => 0, ρ⟩

/-! ## The devices -/

set_option backward.proofsInPublic true in
/-- The next device of the ring. -/
def nxt (c : Dev nD) : Dev nD := ⟨16 * (c.val / 16) + 4 * ((c.val / 4) % 4) + (((c.val % 4) + 1) % 4), by have h : c.val < 32 := c.isLt; show _ < 32; omega⟩
set_option backward.proofsInPublic true in
/-- The previous one. -/
def prv (c : Dev nD) : Dev nD := ⟨16 * (c.val / 16) + 4 * ((c.val / 4) % 4) + (((c.val % 4) + 3) % 4), by have h : c.val < 32 := c.isLt; show _ < 32; omega⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The device `h` places back in the ring. -/
def back : ℕ → Dev nD → Dev nD
  | 0, c => c
  | h + 1, c => back h (prv c)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = nxt c := Fin.ext (k0_dev10_eq c)
theorem dev11_eq (c : Dev nD) : (⟨k0_dev11 c, k0_dev11_lt c⟩ : Dev nD) = nxt c := Fin.ext (k0_dev11_eq c)
theorem dev12_eq (c : Dev nD) : (⟨k0_dev12 c, k0_dev12_lt c⟩ : Dev nD) = nxt c := Fin.ext (k0_dev12_eq c)
theorem dev13_eq (c : Dev nD) : (⟨k0_dev13 c, k0_dev13_lt c⟩ : Dev nD) = nxt c := Fin.ext (k0_dev13_eq c)
theorem dev14_eq (c : Dev nD) : (⟨k0_dev14 c, k0_dev14_lt c⟩ : Dev nD) = nxt c := Fin.ext (k0_dev14_eq c)

/-! ## The buffers and their slots -/

theorem wh {b : Ref sig .tc} : (Memref.whole b).IsWhole := Memref.isWhole_whole b

abbrev xM : Memref sig .tc .vmem S256x1024 .f32 := Memref.whole cc0_stg0_0
abbrev gM : Memref sig .tc .vmem S1024x4 .f32 := Memref.whole cc0_stg1_0
abbrev w1M : Memref sig .tc .hbm S4x1024x2048 .f32 := Memref.whole main_arg2
abbrev w2M : Memref sig .tc .hbm S4x2048x1024 .f32 := Memref.whole main_arg3
abbrev oM : Memref sig .tc .vmem S256x1024 .f32 := Memref.whole cc0_stg2_0
abbrev xcM : Memref sig .tc .vmem S4x256x1024 .bf16 := Memref.whole cc0_scratch0
abbrev rcM : Memref sig .tc .vmem S4x1024x4 .f32 := Memref.whole cc0_scratch1
abbrev icM : Memref sig .tc .vmem S4x256x4 .f32 := Memref.whole cc0_scratch2
abbrev sbM : Memref sig .tc .vmem S3x256x1024 .bf16 := Memref.whole cc0_scratch3
abbrev rbM : Memref sig .tc .vmem S3x256x1024 .bf16 := Memref.whole cc0_scratch4
abbrev ptM : Memref sig .tc .vmem S1024x1024 .f32 := Memref.whole cc0_scratch5
abbrev f1M : Memref sig .tc .vmem S2x1024x2048 .f32 := Memref.whole cc0_scratch6
abbrev f2M : Memref sig .tc .vmem S2x2048x1024 .f32 := Memref.whole cc0_scratch7

abbrev xS0 : Memref sig .tc .vmem S1x256x1024 .bf16 := xcM.slice (Rect.unit (s := S4x256x1024) ![0, 0, 0] S1x256x1024.size inb_S4x256x1024_S1x256x1024_0_0_0) (fun _ => rfl)
abbrev xS1 : Memref sig .tc .vmem S1x256x1024 .bf16 := xcM.slice (Rect.unit (s := S4x256x1024) ![1, 0, 0] S1x256x1024.size inb_S4x256x1024_S1x256x1024_1_0_0) (fun _ => rfl)
abbrev xS2 : Memref sig .tc .vmem S1x256x1024 .bf16 := xcM.slice (Rect.unit (s := S4x256x1024) ![2, 0, 0] S1x256x1024.size inb_S4x256x1024_S1x256x1024_2_0_0) (fun _ => rfl)
abbrev xS3 : Memref sig .tc .vmem S1x256x1024 .bf16 := xcM.slice (Rect.unit (s := S4x256x1024) ![3, 0, 0] S1x256x1024.size inb_S4x256x1024_S1x256x1024_3_0_0) (fun _ => rfl)
abbrev rS0 : Memref sig .tc .vmem S1x1024x4 .f32 := rcM.slice (Rect.unit (s := S4x1024x4) ![0, 0, 0] S1x1024x4.size inb_S4x1024x4_S1x1024x4_0_0_0) (fun _ => rfl)
abbrev rS1 : Memref sig .tc .vmem S1x1024x4 .f32 := rcM.slice (Rect.unit (s := S4x1024x4) ![1, 0, 0] S1x1024x4.size inb_S4x1024x4_S1x1024x4_1_0_0) (fun _ => rfl)
abbrev rS2 : Memref sig .tc .vmem S1x1024x4 .f32 := rcM.slice (Rect.unit (s := S4x1024x4) ![2, 0, 0] S1x1024x4.size inb_S4x1024x4_S1x1024x4_2_0_0) (fun _ => rfl)
abbrev rS3 : Memref sig .tc .vmem S1x1024x4 .f32 := rcM.slice (Rect.unit (s := S4x1024x4) ![3, 0, 0] S1x1024x4.size inb_S4x1024x4_S1x1024x4_3_0_0) (fun _ => rfl)
abbrev iS0 : Memref sig .tc .vmem S1x256x4 .f32 := icM.slice (Rect.unit (s := S4x256x4) ![0, 0, 0] S1x256x4.size inb_S4x256x4_S1x256x4_0_0_0) (fun _ => rfl)
abbrev iS1 : Memref sig .tc .vmem S1x256x4 .f32 := icM.slice (Rect.unit (s := S4x256x4) ![1, 0, 0] S1x256x4.size inb_S4x256x4_S1x256x4_1_0_0) (fun _ => rfl)
abbrev iS2 : Memref sig .tc .vmem S1x256x4 .f32 := icM.slice (Rect.unit (s := S4x256x4) ![2, 0, 0] S1x256x4.size inb_S4x256x4_S1x256x4_2_0_0) (fun _ => rfl)
abbrev iS3 : Memref sig .tc .vmem S1x256x4 .f32 := icM.slice (Rect.unit (s := S4x256x4) ![3, 0, 0] S1x256x4.size inb_S4x256x4_S1x256x4_3_0_0) (fun _ => rfl)
abbrev sbS0 : Memref sig .tc .vmem S1x256x1024 .bf16 := sbM.slice (Rect.unit (s := S3x256x1024) ![0, 0, 0] S1x256x1024.size inb_S3x256x1024_S1x256x1024_0_0_0) (fun _ => rfl)
abbrev sbS1 : Memref sig .tc .vmem S1x256x1024 .bf16 := sbM.slice (Rect.unit (s := S3x256x1024) ![1, 0, 0] S1x256x1024.size inb_S3x256x1024_S1x256x1024_1_0_0) (fun _ => rfl)
abbrev sbS2 : Memref sig .tc .vmem S1x256x1024 .bf16 := sbM.slice (Rect.unit (s := S3x256x1024) ![2, 0, 0] S1x256x1024.size inb_S3x256x1024_S1x256x1024_2_0_0) (fun _ => rfl)
abbrev rbS0 : Memref sig .tc .vmem S1x256x1024 .bf16 := rbM.slice (Rect.unit (s := S3x256x1024) ![0, 0, 0] S1x256x1024.size inb_S3x256x1024_S1x256x1024_0_0_0) (fun _ => rfl)
abbrev rbS1 : Memref sig .tc .vmem S1x256x1024 .bf16 := rbM.slice (Rect.unit (s := S3x256x1024) ![1, 0, 0] S1x256x1024.size inb_S3x256x1024_S1x256x1024_1_0_0) (fun _ => rfl)
abbrev rbS2 : Memref sig .tc .vmem S1x256x1024 .bf16 := rbM.slice (Rect.unit (s := S3x256x1024) ![2, 0, 0] S1x256x1024.size inb_S3x256x1024_S1x256x1024_2_0_0) (fun _ => rfl)
abbrev pS0 : Memref sig .tc .vmem S256x1024 .f32 := ptM.slice (Rect.unit (s := S1024x1024) ![0, 0] S256x1024.size inb_S1024x1024_S256x1024_0_0) (fun _ => rfl)
abbrev pS1 : Memref sig .tc .vmem S256x1024 .f32 := ptM.slice (Rect.unit (s := S1024x1024) ![256, 0] S256x1024.size inb_S1024x1024_S256x1024_256_0) (fun _ => rfl)
abbrev pS2 : Memref sig .tc .vmem S256x1024 .f32 := ptM.slice (Rect.unit (s := S1024x1024) ![512, 0] S256x1024.size inb_S1024x1024_S256x1024_512_0) (fun _ => rfl)
abbrev pS3 : Memref sig .tc .vmem S256x1024 .f32 := ptM.slice (Rect.unit (s := S1024x1024) ![768, 0] S256x1024.size inb_S1024x1024_S256x1024_768_0) (fun _ => rfl)
abbrev f1S0 : Memref sig .tc .vmem S1x1024x2048 .f32 := f1M.slice (Rect.unit (s := S2x1024x2048) ![0, 0, 0] S1x1024x2048.size inb_S2x1024x2048_S1x1024x2048_0_0_0) (fun _ => rfl)
abbrev f1S1 : Memref sig .tc .vmem S1x1024x2048 .f32 := f1M.slice (Rect.unit (s := S2x1024x2048) ![1, 0, 0] S1x1024x2048.size inb_S2x1024x2048_S1x1024x2048_1_0_0) (fun _ => rfl)
abbrev f2S0 : Memref sig .tc .vmem S1x2048x1024 .f32 := f2M.slice (Rect.unit (s := S2x2048x1024) ![0, 0, 0] S1x2048x1024.size inb_S2x2048x1024_S1x2048x1024_0_0_0) (fun _ => rfl)
abbrev f2S1 : Memref sig .tc .vmem S1x2048x1024 .f32 := f2M.slice (Rect.unit (s := S2x2048x1024) ![1, 0, 0] S1x2048x1024.size inb_S2x2048x1024_S1x2048x1024_1_0_0) (fun _ => rfl)
abbrev w1S0 : Memref sig .tc .hbm S1x1024x2048 .f32 := w1M.slice (Rect.unit (s := S4x1024x2048) ![0, 0, 0] S1x1024x2048.size inb_S4x1024x2048_S1x1024x2048_0_0_0) (fun _ => rfl)
abbrev w1S1 : Memref sig .tc .hbm S1x1024x2048 .f32 := w1M.slice (Rect.unit (s := S4x1024x2048) ![1, 0, 0] S1x1024x2048.size inb_S4x1024x2048_S1x1024x2048_1_0_0) (fun _ => rfl)
abbrev w1S2 : Memref sig .tc .hbm S1x1024x2048 .f32 := w1M.slice (Rect.unit (s := S4x1024x2048) ![2, 0, 0] S1x1024x2048.size inb_S4x1024x2048_S1x1024x2048_2_0_0) (fun _ => rfl)
abbrev w1S3 : Memref sig .tc .hbm S1x1024x2048 .f32 := w1M.slice (Rect.unit (s := S4x1024x2048) ![3, 0, 0] S1x1024x2048.size inb_S4x1024x2048_S1x1024x2048_3_0_0) (fun _ => rfl)
abbrev w2S0 : Memref sig .tc .hbm S1x2048x1024 .f32 := w2M.slice (Rect.unit (s := S4x2048x1024) ![0, 0, 0] S1x2048x1024.size inb_S4x2048x1024_S1x2048x1024_0_0_0) (fun _ => rfl)
abbrev w2S1 : Memref sig .tc .hbm S1x2048x1024 .f32 := w2M.slice (Rect.unit (s := S4x2048x1024) ![1, 0, 0] S1x2048x1024.size inb_S4x2048x1024_S1x2048x1024_1_0_0) (fun _ => rfl)
abbrev w2S2 : Memref sig .tc .hbm S1x2048x1024 .f32 := w2M.slice (Rect.unit (s := S4x2048x1024) ![2, 0, 0] S1x2048x1024.size inb_S4x2048x1024_S1x2048x1024_2_0_0) (fun _ => rfl)
abbrev w2S3 : Memref sig .tc .hbm S1x2048x1024 .f32 := w2M.slice (Rect.unit (s := S4x2048x1024) ![3, 0, 0] S1x2048x1024.size inb_S4x2048x1024_S1x2048x1024_3_0_0) (fun _ => rfl)

/-! ## The semaphores -/

abbrev barS : Sem sig := sig.barrier 0 rfl
abbrev dsem (q : ℕ) (h : q < 31 := by decide) : DmaSem sig := ⟨q, h⟩

theorem slice3 : ((cc0_scratch8.slice (Rect.unit (s := S3) ![0] S1.size inb_S3_S1_0)).squeeze S_ squeezes_S1_S_).sem = dsem 3 := rfl
theorem slice4 : ((cc0_scratch8.slice (Rect.unit (s := S3) ![1] S1.size inb_S3_S1_1)).squeeze S_ squeezes_S1_S_).sem = dsem 4 := rfl
theorem slice5 : ((cc0_scratch8.slice (Rect.unit (s := S3) ![2] S1.size inb_S3_S1_2)).squeeze S_ squeezes_S1_S_).sem = dsem 5 := rfl
theorem slice6 : ((cc0_scratch9.slice (Rect.unit (s := S3) ![0] S1.size inb_S3_S1_0)).squeeze S_ squeezes_S1_S_).sem = dsem 6 := rfl
theorem slice7 : ((cc0_scratch9.slice (Rect.unit (s := S3) ![1] S1.size inb_S3_S1_1)).squeeze S_ squeezes_S1_S_).sem = dsem 7 := rfl
theorem slice8 : ((cc0_scratch9.slice (Rect.unit (s := S3) ![2] S1.size inb_S3_S1_2)).squeeze S_ squeezes_S1_S_).sem = dsem 8 := rfl
theorem slice9 : ((cc0_scratch10.slice (Rect.unit (s := S3) ![0] S1.size inb_S3_S1_0)).squeeze S_ squeezes_S1_S_).sem = dsem 9 := rfl
theorem slice10 : ((cc0_scratch10.slice (Rect.unit (s := S3) ![1] S1.size inb_S3_S1_1)).squeeze S_ squeezes_S1_S_).sem = dsem 10 := rfl
theorem slice11 : ((cc0_scratch10.slice (Rect.unit (s := S3) ![2] S1.size inb_S3_S1_2)).squeeze S_ squeezes_S1_S_).sem = dsem 11 := rfl
theorem slice12 : ((cc0_scratch11.slice (Rect.unit (s := S3) ![0] S1.size inb_S3_S1_0)).squeeze S_ squeezes_S1_S_).sem = dsem 12 := rfl
theorem slice13 : ((cc0_scratch11.slice (Rect.unit (s := S3) ![1] S1.size inb_S3_S1_1)).squeeze S_ squeezes_S1_S_).sem = dsem 13 := rfl
theorem slice14 : ((cc0_scratch11.slice (Rect.unit (s := S3) ![2] S1.size inb_S3_S1_2)).squeeze S_ squeezes_S1_S_).sem = dsem 14 := rfl
theorem slice15 : ((cc0_scratch12.slice (Rect.unit (s := S3) ![0] S1.size inb_S3_S1_0)).squeeze S_ squeezes_S1_S_).sem = dsem 15 := rfl
theorem slice16 : ((cc0_scratch12.slice (Rect.unit (s := S3) ![1] S1.size inb_S3_S1_1)).squeeze S_ squeezes_S1_S_).sem = dsem 16 := rfl
theorem slice17 : ((cc0_scratch12.slice (Rect.unit (s := S3) ![2] S1.size inb_S3_S1_2)).squeeze S_ squeezes_S1_S_).sem = dsem 17 := rfl
theorem slice18 : ((cc0_scratch13.slice (Rect.unit (s := S3) ![0] S1.size inb_S3_S1_0)).squeeze S_ squeezes_S1_S_).sem = dsem 18 := rfl
theorem slice19 : ((cc0_scratch13.slice (Rect.unit (s := S3) ![1] S1.size inb_S3_S1_1)).squeeze S_ squeezes_S1_S_).sem = dsem 19 := rfl
theorem slice20 : ((cc0_scratch13.slice (Rect.unit (s := S3) ![2] S1.size inb_S3_S1_2)).squeeze S_ squeezes_S1_S_).sem = dsem 20 := rfl
theorem slice21 : ((cc0_scratch14.slice (Rect.unit (s := S3) ![0] S1.size inb_S3_S1_0)).squeeze S_ squeezes_S1_S_).sem = dsem 21 := rfl
theorem slice22 : ((cc0_scratch14.slice (Rect.unit (s := S3) ![1] S1.size inb_S3_S1_1)).squeeze S_ squeezes_S1_S_).sem = dsem 22 := rfl
theorem slice23 : ((cc0_scratch14.slice (Rect.unit (s := S3) ![2] S1.size inb_S3_S1_2)).squeeze S_ squeezes_S1_S_).sem = dsem 23 := rfl
theorem slice24 : ((cc0_scratch15.slice (Rect.unit (s := S3) ![0] S1.size inb_S3_S1_0)).squeeze S_ squeezes_S1_S_).sem = dsem 24 := rfl
theorem slice25 : ((cc0_scratch15.slice (Rect.unit (s := S3) ![1] S1.size inb_S3_S1_1)).squeeze S_ squeezes_S1_S_).sem = dsem 25 := rfl
theorem slice26 : ((cc0_scratch15.slice (Rect.unit (s := S3) ![2] S1.size inb_S3_S1_2)).squeeze S_ squeezes_S1_S_).sem = dsem 26 := rfl
theorem slice27 : ((cc0_scratch16.slice (Rect.unit (s := S2) ![0] S1.size inb_S2_S1_0)).squeeze S_ squeezes_S1_S_).sem = dsem 27 := rfl
theorem slice28 : ((cc0_scratch16.slice (Rect.unit (s := S2) ![1] S1.size inb_S2_S1_1)).squeeze S_ squeezes_S1_S_).sem = dsem 28 := rfl
theorem slice29 : ((cc0_scratch17.slice (Rect.unit (s := S2) ![0] S1.size inb_S2_S1_0)).squeeze S_ squeezes_S1_S_).sem = dsem 29 := rfl
theorem slice30 : ((cc0_scratch17.slice (Rect.unit (s := S2) ![1] S1.size inb_S2_S1_1)).squeeze S_ squeezes_S1_S_).sem = dsem 30 := rfl

abbrev barCell (c : Dev nD) : GSem nD τ sig := (c.tc, .reg barS)
abbrev dCell (c : Dev nD) (q : DmaSem sig) : GSem nD τ sig := (c.tc, .dma q)

/-- The cells of the protocol on one device: the barrier, then the twenty-four transfer semaphores. -/
def csem (k : Fin 25) : SemLoc sig := if k.val = 0 then .reg barS else .dma ⟨k.val + 2, by have := k.isLt; show _ < 31; omega⟩
abbrev kcell (ck : Dev nD × Fin 25) : GSem nD τ sig := (ck.1.tc, csem ck.2)

/-- The bytes a copy of one expert's weights credits. -/
abbrev NW1 : ℕ := (f1S0.squeeze S1024x2048 squeezes_S1x1024x2048_S1024x2048).view.dmaCredit
abbrev NW2 : ℕ := (f2S0.squeeze S2048x1024 squeezes_S1x2048x1024_S2048x1024).view.dmaCredit
theorem NW1_pos : 0 < NW1 := View.dmaCredit_pos _ (by decide)
theorem NW2_pos : 0 < NW2 := View.dmaCredit_pos _ (by decide)

/-- The bytes one transfer of each kind credits. -/
abbrev NX : ℕ := (xS1.squeeze S256x1024 squeezes_S1x256x1024_S256x1024).view.dmaCredit
abbrev NR : ℕ := (rS1.squeeze S1024x4 squeezes_S1x1024x4_S1024x4).view.dmaCredit
abbrev NI : ℕ := (iS1.squeeze S256x4 squeezes_S1x256x4_S256x4).view.dmaCredit
abbrev NS : ℕ := (rbS0.squeeze S256x1024 squeezes_S1x256x1024_S256x1024).view.dmaCredit
theorem NX_pos : 0 < NX := View.dmaCredit_pos _ (by decide)
theorem NR_pos : 0 < NR := View.dmaCredit_pos _ (by decide)
theorem NI_pos : 0 < NI := View.dmaCredit_pos _ (by decide)
theorem NS_pos : 0 < NS := View.dmaCredit_pos _ (by decide)

def dmaAmt (q : ℕ) : ℕ := if q < 9 then NX else if q < 15 then NR else if q < 21 then NI else NS
theorem dmaAmt_pos (q : ℕ) : 0 < dmaAmt q := by
  unfold dmaAmt; split; · exact NX_pos
  split; · exact NR_pos
  split; · exact NI_pos
  exact NS_pos

/-- The receive semaphore of transfer `k`. -/
def recvQ : ℕ → DmaSem sig
  | 0 => dsem 12
  | 1 => dsem 13
  | 2 => dsem 14
  | 3 => dsem 6
  | 4 => dsem 18
  | 5 => dsem 7
  | 6 => dsem 19
  | 7 => dsem 8
  | 8 => dsem 20
  | 9 => dsem 24
  | 10 => dsem 25
  | 11 => dsem 26
  | _ => dsem 26

/-! ## The contents -/

/-- The device's tokens, its router columns and its experts' weights. -/
def xstg (c : Dev nD) : (cc0_stg0_0 : Ref sig .tc).ty.Contents (Elt F) :=
  (win0_0.blk (0 : Fin 1)).view.read (Elt F) (m (c.tc.loc main_arg0))
def gstg (c : Dev nD) : (cc0_stg1_0 : Ref sig .tc).ty.Contents (Elt F) :=
  (win0_1.blk (0 : Fin 1)).view.read (Elt F) (m (c.tc.loc main_arg1))

/-- The device's place in its ring, as the kernel computes it. -/
abbrev zw (c : Dev nD) : BitVec 32 := Scalar.remsi (Scalar.divsi (Dev.word c) 1#32) 4#32

/-- The router columns a device starts with, and those `h` hops have brought it. -/
def R0 (c : Dev nD) : Vec F S1x1024x4 .f32 := k0_pay2 (gstg m c)
def Rh (h : ℕ) (c : Dev nD) : Vec F S1x1024x4 .f32 := R0 m (back h c)

/-- The tokens in the transfers' type. -/
def xb (c : Dev nD) : Vec F S1x256x1024 .bf16 := k0_pay17 (k0_pay3 (xstg m c))
def Xh (h : ℕ) (c : Dev nD) : Vec F S1x256x1024 .bf16 := xb m (back h c)

abbrev io16 : IVec S256x16 32 := iota .tc S256x16 32 [1] iota_S256x16_d1_w32
def gat (c : Dev nD) : FVec F S256x16 .f32 := k0_pay4 (xstg m c) (Rh m 0 c) (Rh m 1 c) (Rh m 2 c) (Rh m 3 c)
def top (c : Dev nD) : FVec F S256x1 .f32 := k0_pay5 (xstg m c) (Rh m 0 c) (Rh m 1 c) (Rh m 2 c) (Rh m 3 c)
def hit (c : Dev nD) : IVec S256x16 1 := k0_pay6 (xstg m c) (Rh m 0 c) (Rh m 1 c) (Rh m 2 c) (Rh m 3 c)
def snd2 (c : Dev nD) : FVec F S256x1 .f32 := k0_pay10 (gat m c) io16 (hit m c) k0_pay7

/-- The gate data of a device's tokens: the two experts and their weights. -/
def info (c : Dev nD) : Vec F S1x256x4 .f32 :=
  k0_pay18 (F := F) (k0_pay13 (k0_pay8 io16 (hit m c) k0_pay7) (k0_pay12 (zw c) io16 (hit m c) k0_pay7) 4#32)
    (k0_pay14 (zw c) (k0_pay11 (gat m c) io16 (hit m c) k0_pay7))
    (k0_pay15 (top m c) (snd2 m c)) (k0_pay16 (top m c) (snd2 m c))
def Ih (h : ℕ) (c : Dev nD) : Vec F S1x256x4 .f32 := info m (back h c)

def w1v0 (c : Dev nD) : Vec F S1x1024x2048 .f32 :=
  fun j => m (c.tc.loc main_arg2) ((Rect.unit (s := S4x1024x2048) ![0, 0, 0] S1x1024x2048.size inb_S4x1024x2048_S1x1024x2048_0_0_0).emb j)
def w2v0 (c : Dev nD) : Vec F S1x2048x1024 .f32 :=
  fun j => m (c.tc.loc main_arg3) ((Rect.unit (s := S4x2048x1024) ![0, 0, 0] S1x2048x1024.size inb_S4x2048x1024_S1x2048x1024_0_0_0).emb j)
def w1v1 (c : Dev nD) : Vec F S1x1024x2048 .f32 :=
  fun j => m (c.tc.loc main_arg2) ((Rect.unit (s := S4x1024x2048) ![1, 0, 0] S1x1024x2048.size inb_S4x1024x2048_S1x1024x2048_1_0_0).emb j)
def w2v1 (c : Dev nD) : Vec F S1x2048x1024 .f32 :=
  fun j => m (c.tc.loc main_arg3) ((Rect.unit (s := S4x2048x1024) ![1, 0, 0] S1x2048x1024.size inb_S4x2048x1024_S1x2048x1024_1_0_0).emb j)
def w1v2 (c : Dev nD) : Vec F S1x1024x2048 .f32 :=
  fun j => m (c.tc.loc main_arg2) ((Rect.unit (s := S4x1024x2048) ![2, 0, 0] S1x1024x2048.size inb_S4x1024x2048_S1x1024x2048_2_0_0).emb j)
def w2v2 (c : Dev nD) : Vec F S1x2048x1024 .f32 :=
  fun j => m (c.tc.loc main_arg3) ((Rect.unit (s := S4x2048x1024) ![2, 0, 0] S1x2048x1024.size inb_S4x2048x1024_S1x2048x1024_2_0_0).emb j)
def w1v3 (c : Dev nD) : Vec F S1x1024x2048 .f32 :=
  fun j => m (c.tc.loc main_arg2) ((Rect.unit (s := S4x1024x2048) ![3, 0, 0] S1x1024x2048.size inb_S4x1024x2048_S1x1024x2048_3_0_0).emb j)
def w2v3 (c : Dev nD) : Vec F S1x2048x1024 .f32 :=
  fun j => m (c.tc.loc main_arg3) ((Rect.unit (s := S4x2048x1024) ![3, 0, 0] S1x2048x1024.size inb_S4x2048x1024_S1x2048x1024_3_0_0).emb j)

/-! The two trips of each loop over the experts. -/

theorem trips1 : k0_t1_loop.trips = 2 := by decide
def lp1 (c : Dev nD) : FVec F S256x1024 .f32 :=
  k0_pay20 (zw c) (Xh m 0 c) (Ih m 0 c) (Ih m 0 c) (Ih m 0 c) (Ih m 0 c) ⟨1, by rw [trips1]; decide⟩
    (k0_pay20 (zw c) (Xh m 0 c) (Ih m 0 c) (Ih m 0 c) (Ih m 0 c) (Ih m 0 c) ⟨0, by rw [trips1]; decide⟩ (k0_pay19 (F := F)) (w1v0 m c) (w2v0 m c))
    (w1v1 m c) (w2v1 m c)
theorem trips2 : k0_t2_loop.trips = 2 := by decide
def lp2 (c : Dev nD) : FVec F S256x1024 .f32 :=
  k0_pay23 (zw c) (Xh m 1 c) (Ih m 1 c) (Ih m 1 c) (Ih m 1 c) (Ih m 1 c) ⟨1, by rw [trips2]; decide⟩
    (k0_pay23 (zw c) (Xh m 1 c) (Ih m 1 c) (Ih m 1 c) (Ih m 1 c) (Ih m 1 c) ⟨0, by rw [trips2]; decide⟩ (k0_pay22 (F := F)) (w1v0 m c) (w2v0 m c))
    (w1v1 m c) (w2v1 m c)
theorem trips3 : k0_t3_loop.trips = 2 := by decide
def lp3 (c : Dev nD) : FVec F S256x1024 .f32 :=
  k0_pay26 (zw c) (Xh m 2 c) (Ih m 2 c) (Ih m 2 c) (Ih m 2 c) (Ih m 2 c) ⟨1, by rw [trips3]; decide⟩
    (k0_pay26 (zw c) (Xh m 2 c) (Ih m 2 c) (Ih m 2 c) (Ih m 2 c) (Ih m 2 c) ⟨0, by rw [trips3]; decide⟩ (k0_pay25 (F := F)) (w1v0 m c) (w2v0 m c))
    (w1v1 m c) (w2v1 m c)
theorem trips4 : k0_t4_loop.trips = 2 := by decide
def lp4 (c : Dev nD) : FVec F S256x1024 .f32 :=
  k0_pay29 (zw c) (Xh m 3 c) (Ih m 3 c) (Ih m 3 c) (Ih m 3 c) (Ih m 3 c) ⟨1, by rw [trips4]; decide⟩
    (k0_pay29 (zw c) (Xh m 3 c) (Ih m 3 c) (Ih m 3 c) (Ih m 3 c) (Ih m 3 c) ⟨0, by rw [trips4]; decide⟩ (k0_pay28 (F := F)) (w1v0 m c) (w2v0 m c))
    (w1v1 m c) (w2v1 m c)
theorem trips5 : k0_t5_loop.trips = 2 := by decide
def lp5 (c : Dev nD) : FVec F S256x1024 .f32 :=
  k0_pay33 (zw c) (k0_pay31 (Xh m 1 c)) (Ih m 1 c) (Ih m 1 c) (Ih m 1 c) (Ih m 1 c) ⟨1, by rw [trips5]; decide⟩
    (k0_pay33 (zw c) (k0_pay31 (Xh m 1 c)) (Ih m 1 c) (Ih m 1 c) (Ih m 1 c) (Ih m 1 c) ⟨0, by rw [trips5]; decide⟩ (k0_pay32 (F := F)) (w1v2 m c) (w2v2 m c))
    (w1v3 m c) (w2v3 m c)
theorem trips6 : k0_t6_loop.trips = 2 := by decide
def lp6 (c : Dev nD) : FVec F S256x1024 .f32 :=
  k0_pay36 (zw c) (Xh m 2 c) (Ih m 2 c) (Ih m 2 c) (Ih m 2 c) (Ih m 2 c) ⟨1, by rw [trips6]; decide⟩
    (k0_pay36 (zw c) (Xh m 2 c) (Ih m 2 c) (Ih m 2 c) (Ih m 2 c) (Ih m 2 c) ⟨0, by rw [trips6]; decide⟩ (k0_pay35 (F := F)) (w1v2 m c) (w2v2 m c))
    (w1v3 m c) (w2v3 m c)
theorem trips7 : k0_t7_loop.trips = 2 := by decide
def lp7 (c : Dev nD) : FVec F S256x1024 .f32 :=
  k0_pay39 (zw c) (Xh m 3 c) (Ih m 3 c) (Ih m 3 c) (Ih m 3 c) (Ih m 3 c) ⟨1, by rw [trips7]; decide⟩
    (k0_pay39 (zw c) (Xh m 3 c) (Ih m 3 c) (Ih m 3 c) (Ih m 3 c) (Ih m 3 c) ⟨0, by rw [trips7]; decide⟩ (k0_pay38 (F := F)) (w1v2 m c) (w2v2 m c))
    (w1v3 m c) (w2v3 m c)
theorem trips8 : k0_t8_loop.trips = 2 := by decide
def lp8 (c : Dev nD) : FVec F S256x1024 .f32 :=
  k0_pay47 (zw c) (k0_pay41 (Xh m 0 c)) (k0_pay42 (Ih m 0 c)) (k0_pay43 (Ih m 0 c)) (k0_pay44 (Ih m 0 c)) (k0_pay45 (Ih m 0 c)) 0#32 1#32 ⟨1, by rw [trips8]; decide⟩
    (k0_pay47 (zw c) (k0_pay41 (Xh m 0 c)) (k0_pay42 (Ih m 0 c)) (k0_pay43 (Ih m 0 c)) (k0_pay44 (Ih m 0 c)) (k0_pay45 (Ih m 0 c)) 0#32 1#32 ⟨0, by rw [trips8]; decide⟩ (k0_pay46 (F := F)) (w1v2 m c) (w2v2 m c))
    (w1v3 m c) (w2v3 m c)

/-- The partial results of the first expert pair, the reduced blocks sent on, and the output. -/
def pt0 (c : Dev nD) : FVec F S256x1024 .f32 := k0_pay21 (lp1 m c)
def pt1 (c : Dev nD) : FVec F S256x1024 .f32 := k0_pay24 (lp2 m c)
def pt2 (c : Dev nD) : FVec F S256x1024 .f32 := k0_pay27 (lp3 m c)
def pt3 (c : Dev nD) : FVec F S256x1024 .f32 := k0_pay30 (lp4 m c)
def red0 (c : Dev nD) : Vec F S1x256x1024 .bf16 := k0_pay34 (lp5 m c) (pt1 m c)
def red1 (c : Dev nD) : Vec F S1x256x1024 .bf16 := k0_pay37 (lp6 m c) (pt2 m c) (red0 m (prv c))
def red2 (c : Dev nD) : Vec F S1x256x1024 .bf16 := k0_pay40 (lp7 m c) (pt3 m c) (red1 m (prv c))
def outv (c : Dev nD) : FVec F S256x1024 .f32 := k0_pay1 (k0_pay48 (pt0 m c) (lp8 m c)) (red2 m (prv c))

/-! ## The schedule -/

/-- What the wait on transfer semaphore `q` of device `c` hands over. -/
def dmaPay (q : ℕ) (c : Dev nD) : sProp 𝕄 :=
  match q with
  | 3 => owns c.tc xS0 fullShare.right (Xh m 0 c)
  | 4 => owns c.tc xS1 fullShare.right (Xh m 1 c)
  | 5 => owns c.tc xS2 fullShare.right (Xh m 2 c)
  | 6 => owns c.tc xS1 fullShare (Xh m 1 c)
  | 7 => owns c.tc xS2 fullShare (Xh m 2 c)
  | 8 => owns c.tc xS3 fullShare (Xh m 3 c)
  | 9 => owns c.tc rS0 fullShare (Rh m 0 c)
  | 10 => owns c.tc rS1 fullShare (Rh m 1 c)
  | 11 => owns c.tc rS2 fullShare (Rh m 2 c)
  | 12 => owns c.tc rS1 fullShare (Rh m 1 c)
  | 13 => owns c.tc rS2 fullShare (Rh m 2 c)
  | 14 => owns c.tc rS3 fullShare (Rh m 3 c)
  | 15 => owns c.tc iS0 fullShare.right (Ih m 0 c)
  | 16 => owns c.tc iS1 fullShare.right (Ih m 1 c)
  | 17 => owns c.tc iS2 fullShare.right (Ih m 2 c)
  | 18 => owns c.tc iS1 fullShare (Ih m 1 c)
  | 19 => owns c.tc iS2 fullShare (Ih m 2 c)
  | 20 => owns c.tc iS3 fullShare (Ih m 3 c)
  | 21 => owns c.tc sbS0 fullShare (red0 m c)
  | 22 => owns c.tc sbS1 fullShare (red1 m c)
  | 23 => owns c.tc sbS2 fullShare (red2 m c)
  | 24 => owns c.tc rbS0 fullShare (red0 m (prv c))
  | 25 => owns c.tc rbS1 fullShare (red1 m (prv c))
  | 26 => owns c.tc rbS2 fullShare (red2 m (prv c))
  | _ => iprop(emp)

instance dmaPay_storable (q : ℕ) (c : Dev nD) : BI.Storable (upEmb : UEmb _ 𝕄) (dmaPay m q c) := by
  unfold dmaPay; split <;> infer_instance

/-- A slot at some contents. -/
def slot (c : Dev nD) {sp : Space} {s : Shape} {e : EltTy} (M : Memref sig .tc sp s e) : sProp 𝕄 :=
  iprop(∃ X : s.Idx → Elt F e, owns c.tc M fullShare X)
instance slot_storable (c : Dev nD) {sp : Space} {s : Shape} {e : EltTy} (M : Memref sig .tc sp s e) :
    BI.Storable (upEmb : UEmb _ 𝕄) (slot (F := F) c M) := by unfold slot; infer_instance

/-- The slots of device `c` that the previous device's transfers land in. -/
def lands (c : Dev nD) : sProp 𝕄 :=
  iprop(slot c rS1 ∗ slot c rS2 ∗ slot c rS3 ∗ slot c xS1 ∗ slot c iS1 ∗ slot c xS2 ∗ slot c iS2 ∗ slot c xS3 ∗ slot c iS3 ∗ slot c rbS0 ∗ slot c rbS1 ∗ slot c rbS2)
instance lands_storable (c : Dev nD) : BI.Storable (upEmb : UEmb _ 𝕄) (lands (F := F) c) := by unfold lands; infer_instance

def ringRd : Rounds.Schedule (GSem nD τ sig) Bool 𝕄 where
  duties g r := if r = 0 ∧ g.1.2 = .tc then
      (match g.2 with
        | .reg s => if s = barS then Finset.univ else ∅
        | .dma q => if 3 ≤ q.val ∧ q.val ≤ 26 then {false} else ∅) else ∅
  unitless _ := False
  amount g _ _ := match g.2 with
    | .reg _ => 1
    | .dma q => dmaAmt q.val
  payload g _ d := match g.2 with
    | .reg _ => if d then lands (nxt g.1.1) else iprop(emp)
    | .dma q => dmaPay m q.val g.1.1
  amount_pos g _ _ _ := by
    rcases g with ⟨t, s | q⟩
    · exact Nat.one_pos
    · exact dmaAmt_pos _

instance ringRd_payload_storable (g : GSem nD τ sig) (r : ℕ) (d : Bool) :
    BI.Storable (upEmb : UEmb _ 𝕄) ((ringRd m).payload g r d) := by
  rcases g with ⟨t, s | q⟩
  · show BI.Storable upEmb (if d then lands (F := F) (nxt t.1) else iprop(emp))
    split <;> infer_instance
  · exact dmaPay_storable m q.val t.1

section Sched
variable (c : Dev nD)

theorem duties_bar : (ringRd m).duties (barCell c) 0 = Finset.univ := by
  dsimp only [ringRd]; rw [if_pos ⟨rfl, rfl⟩]; exact if_pos rfl
theorem duties_xfer (q : DmaSem sig) (hq : 3 ≤ q.val ∧ q.val ≤ 26) : (ringRd m).duties (dCell c q) 0 = {false} := by
  dsimp only [ringRd]; rw [if_pos ⟨rfl, rfl⟩]; exact if_pos hq
theorem duties_later (g : GSem nD τ sig) : ∀ r, 1 ≤ r → (ringRd m).duties g r = ∅ :=
  fun r hr => by dsimp only [ringRd]; rw [if_neg fun h => by omega]
theorem amount_bar (d : Bool) : (ringRd m).amount (barCell c) 0 d = 1 := rfl
theorem amount_xfer (q : DmaSem sig) (d : Bool) : (ringRd m).amount (dCell c q) 0 d = dmaAmt q.val := rfl
theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_xfer (q : DmaSem sig) (hq : 3 ≤ q.val ∧ q.val ≤ 26) : (ringRd m).expect (dCell c q) 0 = dmaAmt q.val := by
  unfold Schedule.expect Schedule.amountOf; rw [duties_xfer m c q hq, Finset.sum_singleton, amount_xfer]
theorem rest_bar : bigSep ((ringRd m).duties (barCell c) 0 \ ∅) (fun d => (ringRd m).payload (barCell c) 0 d)
    = iprop(emp ∗ lands (F := F) (nxt c)) := by
  rw [Finset.sdiff_empty, duties_bar, bigSep_univ_eq_bigSepL [false, true] (by decide) (by decide), bigSepL_cons_cons, bigSepL_singleton]
  rfl
theorem rest_xfer (q : DmaSem sig) (hq : 3 ≤ q.val ∧ q.val ≤ 26) :
    bigSep ((ringRd m).duties (dCell c q) 0 \ ∅) (fun d => (ringRd m).payload (dCell c q) 0 d) = dmaPay m q.val c := by
  rw [Finset.sdiff_empty, duties_xfer m c q hq, bigSep_singleton]; rfl

end Sched

/-! ## What a device owes; the levels -/

/-- What a device owes when its last `n` transfers are still to be sent. -/
def OwR (c : Dev nD) : ℕ → CellTallies nD τ sig Unit
  | 0 => 0
  | n + 1 => OwR c n + tallyAt (dCell (nxt c) (recvQ (11 - n))) () (dmaAmt (recvQ (11 - n)).val)

/-- At launch it owes the twelve transfers and a unit to each neighbour's barrier. -/
def O₁ (c : Dev nD) : CellTallies nD τ sig Unit := OwR c 12 + tallyAt (barCell (nxt c)) () 1
def O₀ (c : Dev nD) : CellTallies nD τ sig Unit := O₁ c + tallyAt (barCell (prv c)) () 1

def dmaLv (q : ℕ) : ℕ :=
  if q = 12 then 2 else if q = 13 then 3 else if q = 14 then 4 else if q = 6 then 5 else if q = 18 then 6 else if q = 7 then 7
  else if q = 19 then 8 else if q = 8 then 9 else if q = 20 then 10 else if q = 24 then 11 else if q = 25 then 12 else if q = 26 then 13 else 0

def L (g : GSem nD τ sig) : Finset Unit := if g.1.2 = .tc then {()} else ∅
def lv (g : GSem nD τ sig) (_ : Unit) : ℕ := match g.2 with
  | .reg _ => 1
  | .dma q => dmaLv q.val

theorem lv_dma (c : Dev nD) (q : DmaSem sig) : lv (dCell c q) () = dmaLv q.val := rfl
theorem L_of_ne (g : GSem nD τ sig) (h : g.1.2 ≠ .tc) : L g = ∅ := if_neg h
theorem L_tc (c : Dev nD) (sm : SemLoc sig) : L (c.tc, sm) = {()} := if_pos rfl

theorem lv_recvQ (k : ℕ) (hk : k < 12) (c : Dev nD) : lv (dCell c (recvQ k)) () = k + 2 := by
  show dmaLv (recvQ k).val = k + 2
  interval_cases k <;> rfl

theorem OwR_pos {c : Dev nD} {g : GSem nD τ sig} {u : Unit} : ∀ {n : ℕ}, n ≤ 12 → 0 < OwR c n g u →
    ∃ k, 12 ≤ k + n ∧ k < 12 ∧ g = dCell (nxt c) (recvQ k)
  | 0, _, h => absurd h (by simp [OwR])
  | n + 1, hn, h => by
    unfold OwR at h
    rw [Pi.add_apply, Finsupp.add_apply, tallyAt_apply] at h
    by_cases hg : g = dCell (nxt c) (recvQ (11 - n))
    · exact ⟨11 - n, by omega, by omega, hg⟩
    · rw [if_neg (fun h' => hg h'.1), Nat.add_zero] at h
      obtain ⟨k, h1, h2, h3⟩ := OwR_pos (by omega) h
      exact ⟨k, by omega, h2, h3⟩

theorem O₀_pos {c : Dev nD} {g : GSem nD τ sig} {u : Unit} (h : 0 < O₀ c g u) :
    (∃ k, k < 12 ∧ g = dCell (nxt c) (recvQ k)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  obtain ⟨k, -, hk, hg⟩ := OwR_pos (le_refl 12) (by simpa using h)
  exact h1 ⟨k, hk, hg⟩

/-- The levels, as held. -/
def levs : sProp 𝕄 := levAts L lv
instance levs_persistent : BI.Persistent (levs (F := F)) := by unfold levs; infer_instance

/-- A device that still owes its last `n` transfers may wait on what lies below them. -/
theorem mayWait (c : Dev nD) (sm : SemLoc sig) (n : ℕ) (hn : n ≤ 12) (h : lv (c.tc, sm) () + n ≤ 13) :
    (levs : sProp 𝕄) ⊢ MayWait c.tc sm () (OwR c n) := by
  unfold levs
  refine MayOwe.of_cut (L := L) (lev := lv) (13 - n) (fun p hp => by rw [Finset.mem_singleton.mp hp, L_tc]; exact Finset.mem_singleton_self _)
    (fun g u hg => by obtain ⟨k, -, -, rfl⟩ := OwR_pos hn hg; exact Finset.mem_singleton_self _)
    (fun p hp => by rw [Finset.mem_singleton.mp hp]; show lv (c.tc, sm) () ≤ 13 - n; omega)
    (fun g u hg => by
      obtain ⟨k, h1, h2, rfl⟩ := OwR_pos hn hg
      show 13 - n < lv (dCell (nxt c) (recvQ k)) ()
      rw [lv_recvQ k h2]; omega)

theorem mayWait_stage (c : Dev nD) (q : DmaSem sig) (hq : dmaLv q.val = 0) (O : CellTallies nD τ sig Unit) (hO : O = O₀ c ∨ O = 0) :
    (levAts L lv : sProp 𝕄) ⊢ MayWait c.tc (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | rfl | rfl <;> exact Finset.mem_singleton_self _)
      (fun p hp => by rw [Finset.mem_singleton.mp hp]; exact Nat.le_of_eq hq)
      (fun g u hg => by
        rcases O₀_pos hg with ⟨k, hk, rfl⟩ | rfl | rfl
        · show 0 < lv (dCell (nxt c) (recvQ k)) (); rw [lv_recvQ k hk]; omega
        · exact Nat.one_pos
        · exact Nat.one_pos)
  · rw [MayWait_zero]; iintro -; iempintro

/-! ## The records and the rules -/

def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)
/-- What every step may use: the cells' invariants and records, and the levels. -/
def Env (K : Dev nD × Fin 25 → ℕ) : sProp 𝕄 := iprop(records m K ∗ levs)

instance Env_persistent (K : Dev nD × Fin 25 → ℕ) : BI.Persistent (Env m K) := by unfold Env records; infer_instance

theorem Env_inv (K : Dev nD × Fin 25 → ℕ) (ck : Dev nD × Fin 25) : (Env m K : sProp 𝕄) ⊢ cellInv ER (ringRd m) (K ck) (kcell ck) := by
  unfold Env records
  iintro ⟨⟨HI, -⟩, -⟩
  iapply (show (bigSep Finset.univ fun ck : Dev nD × Fin 25 => (cellInv ER (ringRd m) (K ck) (kcell ck) : sProp 𝕄))
    ⊢ cellInv ER (ringRd m) (K ck) (kcell ck) from bigSep_elim (Finset.mem_univ ck))
  iexact HI
theorem Env_reached (K : Dev nD × Fin 25 → ℕ) (ck : Dev nD × Fin 25) : (Env m K : sProp 𝕄) ⊢ reached ER (kcell ck) 0 := by
  unfold Env records
  iintro ⟨⟨-, HR⟩, -⟩
  iapply (show (bigSep Finset.univ fun ck : Dev nD × Fin 25 => (reached ER (kcell ck) 0 : sProp 𝕄))
    ⊢ reached ER (kcell ck) 0 from bigSep_elim (Finset.mem_univ ck))
  iexact HR
theorem Env_mayWait (K : Dev nD × Fin 25 → ℕ) (c : Dev nD) (sm : SemLoc sig) (n : ℕ) (hn : n ≤ 12) (h : lv (c.tc, sm) () + n ≤ 13) :
    (Env m K : sProp 𝕄) ⊢ MayWait c.tc sm () (OwR c n) := by
  unfold Env
  iintro ⟨-, H⟩
  iapply (mayWait c sm n hn h)
  iexact H

/-- A transfer semaphore's place among the cells. -/
def cidx (q : DmaSem sig) (hq : 3 ≤ q.val ∧ q.val ≤ 26) : Fin 25 := ⟨q.val - 2, by omega⟩
theorem kcell_cidx (c : Dev nD) (q : DmaSem sig) (hq : 3 ≤ q.val ∧ q.val ≤ 26) : kcell (c, cidx q hq) = dCell c q := by
  show (c.tc, csem (cidx q hq)) = _
  unfold csem cidx
  rw [if_neg (show ¬ (q.val - 2 = 0) by omega)]
  congr 2
  exact Fin.ext (show q.val - 2 + 2 = q.val by omega)

theorem Env_xinv (K : Dev nD × Fin 25 → ℕ) (c : Dev nD) (q : DmaSem sig) (hq : 3 ≤ q.val ∧ q.val ≤ 26) :
    (Env m K : sProp 𝕄) ⊢ cellInv ER (ringRd m) (K (c, cidx q hq)) (dCell c q) := by
  have h := Env_inv m K (c, cidx q hq); rwa [kcell_cidx] at h
theorem Env_xreached (K : Dev nD × Fin 25 → ℕ) (c : Dev nD) (q : DmaSem sig) (hq : 3 ≤ q.val ∧ q.val ≤ 26) :
    (Env m K : sProp 𝕄) ⊢ reached ER (dCell c q) 0 := by
  have h := Env_reached m K (c, cidx q hq); rwa [kcell_cidx] at h

/-- What the device owes, whatever waits it has recorded. -/
def Ow (c : Dev nD) (n : ℕ) : sProp 𝕄 := iprop(∃ W, owes c.tc (OwR c n) W)

/-- A transfer's resources: before its send, between its send and the send's wait, before the arrival's wait, after. -/
def X0 (c : Dev nD) (q₁ q₂ : DmaSem sig) : sProp 𝕄 :=
  iprop(dutyTok ER (dCell c q₁) 0 false ∗ dutyTok ER (dCell (nxt c) q₂) 0 false ∗ atPos ER (dCell c q₁) 0 ∅ 0 ∗ atPos ER (dCell c q₂) 0 ∅ 0
    ∗ cred (tallyAt (dCell c q₂) () (dmaAmt q₂.val)))
def X1 (c : Dev nD) (q₁ q₂ : DmaSem sig) : sProp 𝕄 :=
  iprop(atPos ER (dCell c q₁) 0 ∅ 0 ∗ cred (tallyAt (dCell c q₁) () (dmaAmt q₁.val)) ∗ atPos ER (dCell c q₂) 0 ∅ 0
    ∗ cred (tallyAt (dCell c q₂) () (dmaAmt q₂.val)))
def X2 (c : Dev nD) (q₁ q₂ : DmaSem sig) : sProp 𝕄 :=
  iprop(semVal (dCell c q₁) 0 ∗ atPos ER (dCell c q₂) 0 ∅ 0 ∗ cred (tallyAt (dCell c q₂) () (dmaAmt q₂.val)))
def X3 (c : Dev nD) (q₁ q₂ : DmaSem sig) : sProp 𝕄 := iprop(semVal (dCell c q₁) 0 ∗ semVal (dCell c q₂) 0)

abbrev 𝒱₀ : Variants := Variants.none

section Rules

variable (K : Dev nD × Fin 25 → ℕ) (c : Dev nD) {α : Type} {Q : α → sProp (MT nD τ sig Unit (Elt F) ℕ UU ℕ)}

/-- A wait on a transfer semaphore: it hands over the payload, and the semaphore is done. -/
theorem wait_cell (q : DmaSem sig) (hq : 3 ≤ q.val ∧ q.val ≤ 26) (n : ℕ) (hn : n ≤ 12) (hlv : lv (c.tc, .dma q) () + n ≤ 13)
    {sp sp' : Space} {s s' : Shape} {e e' : EltTy} {srcw : Memref sig .tc sp s e} {dstw : Memref sig .tc sp' s' e'}
    {hsrc : srcw.view.WordExact} {hdst : dstw.view.WordExact} (hN : dstw.view.dmaCredit = dmaAmt q.val)
    {P : sProp 𝕄} (hP : dmaPay m q.val c = P)
    {k : PUnit → Prog (TpuEff nD τ sig (Elt F) Λ₀ .tc) α} :
    (iprop(Env m K ∗ cred (tallyAt (dCell c q) () (dmaAmt q.val)) ∗ atPos ER (dCell c q) 0 ∅ 0 ∗ Ow c n) : sProp 𝕄)
      ⊢ iprop(((semVal (dCell c q) 0 ∗ Ow c n ∗ P) -∗ wp frame (wpE (defs₀ (F := F)) 𝒱₀ c.tc none) Set.univ (k ⟨⟩) Q)
          -∗ wp frame (wpE (defs₀ (F := F)) 𝒱₀ c.tc none) Set.univ (.op (.waitDma2 q srcw dstw hsrc hdst) k) Q) := by
  iintro ⟨#HE, Hc, Hat, HO⟩ Hk
  ihave #HI := (Env_xinv m K c q hq) $$ HE
  unfold Ow
  icases HO with ⟨%W, HO⟩
  iapply (Rounds.wp_wait_rest_token 𝒱₀ ER (ringRd m) c.tc none (κ := K (c, cidx q hq))
      (wpE_waitDma2_eq 𝒱₀ c.tc none Set.univ) (Set.mem_univ _) () (O := OwR c n) (W := W) (R := 0) (m := 0) (T := ∅)
      (by rw [Nat.zero_add, hN, expect_xfer m c q hq])) $$ [Hc HO Hat]
  · isplitr; · iexact HI
    isplitl [Hc]; · rw [hN]; iexact Hc
    isplitl [HO]; · iexact HO
    isplitr
    · iapply (Env_mayWait m K c (.dma q) n hn hlv); iexact HE
    iexact Hat
  iintro ⟨HO, Hat, -, Hpay⟩
  imod (Rounds.cell_close ER (ringRd m) (Set.mem_univ (K (c, cidx q hq))) (fun h => h) (R := 0 + 1) (duties_later m (dCell c q))) $$ [Hat] with Hz
  · isplitr; · iexact HI
    iexact Hat
  iapply Hk
  isplitl [Hz]; · iexact Hz
  isplitl [HO]; · iexists _; iexact HO
  subst hP; iapply (Entails.of_eq (rest_xfer m c q hq)); iexact Hpay

/-- The wait of a transfer's send, -/
theorem wait_send (q₁ q₂ : DmaSem sig) {q' : DmaSem sig} (hq' : q' = q₁) (n : ℕ) (hq : 3 ≤ q₁.val ∧ q₁.val ≤ 26) (hn : n ≤ 12) (hlv : lv (c.tc, .dma q₁) () + n ≤ 13)
    {sp sp' : Space} {s s' : Shape} {e e' : EltTy} {srcw : Memref sig .tc sp s e} {dstw : Memref sig .tc sp' s' e'}
    {hsrc : srcw.view.WordExact} {hdst : dstw.view.WordExact} (hN : dstw.view.dmaCredit = dmaAmt q₁.val)
    {P : sProp 𝕄} (hP : dmaPay m q₁.val c = P)
    {k : PUnit → Prog (TpuEff nD τ sig (Elt F) Λ₀ .tc) α} :
    (iprop(Env m K ∗ X1 c q₁ q₂ ∗ Ow c n) : sProp 𝕄)
      ⊢ iprop(((X2 c q₁ q₂ ∗ Ow c n ∗ P) -∗ wp frame (wpE (defs₀ (F := F)) 𝒱₀ c.tc none) Set.univ (k ⟨⟩) Q)
          -∗ wp frame (wpE (defs₀ (F := F)) 𝒱₀ c.tc none) Set.univ (.op (.waitDma2 q' srcw dstw hsrc hdst) k) Q) := by
  subst hq'
  unfold X1 X2
  iintro ⟨#HE, ⟨H1, H2, H3, H4⟩, HO⟩ Hk
  iapply (wait_cell m K c _ hq n hn hlv hN hP) $$ [H1 H2 HO]
  · isplitr; · iexact HE
    isplitl [H2]; · iexact H2
    isplitl [H1] <;> iassumption
  iintro ⟨Hz, HO, Hp⟩
  iapply Hk
  isplitr [HO Hp]
  · isplitl [Hz]; · iexact Hz
    isplitl [H3] <;> iassumption
  isplitl [HO] <;> iassumption

/-- and of its arrival. -/
theorem wait_recv (q₁ q₂ : DmaSem sig) {q' : DmaSem sig} (hq' : q' = q₂) (n : ℕ) (hq : 3 ≤ q₂.val ∧ q₂.val ≤ 26) (hn : n ≤ 12) (hlv : lv (c.tc, .dma q₂) () + n ≤ 13)
    {sp sp' : Space} {s s' : Shape} {e e' : EltTy} {srcw : Memref sig .tc sp s e} {dstw : Memref sig .tc sp' s' e'}
    {hsrc : srcw.view.WordExact} {hdst : dstw.view.WordExact} (hN : dstw.view.dmaCredit = dmaAmt q₂.val)
    {P : sProp 𝕄} (hP : dmaPay m q₂.val c = P)
    {k : PUnit → Prog (TpuEff nD τ sig (Elt F) Λ₀ .tc) α} :
    (iprop(Env m K ∗ X2 c q₁ q₂ ∗ Ow c n) : sProp 𝕄)
      ⊢ iprop(((X3 c q₁ q₂ ∗ Ow c n ∗ P) -∗ wp frame (wpE (defs₀ (F := F)) 𝒱₀ c.tc none) Set.univ (k ⟨⟩) Q)
          -∗ wp frame (wpE (defs₀ (F := F)) 𝒱₀ c.tc none) Set.univ (.op (.waitDma2 q' srcw dstw hsrc hdst) k) Q) := by
  subst hq'
  unfold X2 X3
  iintro ⟨#HE, ⟨H1, H2, H3⟩, HO⟩ Hk
  iapply (wait_cell m K c _ hq n hn hlv hN hP) $$ [H2 H3 HO]
  · isplitr; · iexact HE
    isplitl [H3]; · iexact H3
    isplitl [H2] <;> iassumption
  iintro ⟨Hz, HO, Hp⟩
  iapply Hk
  isplitr [HO Hp]
  · isplitl [H1] <;> iassumption
  isplitl [HO] <;> iassumption

/-- A transfer's send. -/
theorem send_cell (q₁ q₂ : DmaSem sig) {q₁' q₂' : DmaSem sig} (hq₁' : q₁' = q₁) (hq₂' : q₂' = q₂) (n : ℕ) (hq₁ : 3 ≤ q₁.val ∧ q₁.val ≤ 26) (hq₂ : 3 ≤ q₂.val ∧ q₂.val ≤ 26) {s s₁ : Shape} {e : EltTy}
    {n' : Dev nD} (hn' : n' = nxt c)
    (hO : OwR c (n + 1) = OwR c n + tallyAt (dCell (nxt c) q₂) () (dmaAmt q₂.val))
    {sp sp' : Space} (src : Memref sig .tc sp s e) (dst : Memref sig .tc sp' s e)
    (h : s.Squeezes s₁) (h' : s.Squeezes s₁) {hsc : (dst.squeeze s₁ h').view.ref.isScScratch = false}
    {hsrc : (src.squeeze s₁ h).view.WordExact} {hdst : (dst.squeeze s₁ h').view.WordExact}
    {hsem : DmaTarget.Typed sp (.dma q₂') (.remote (Dev.tc n' : Thread nD τ) (dst.squeeze s₁ h') (.dma q₁') hsc)}
    {k : PUnit → Prog (TpuEff nD τ sig (Elt F) Λ₀ .tc) α} {q : PosShare TreeShare} {X : s.Idx → Elt F e}
    (hN : (dst.squeeze s₁ h').view.amount (.dma q₂) = dmaAmt q₂.val) (hA : dmaAmt q₁.val = dmaAmt q₂.val)
    (hpay₁ : (owns c.tc src q X : sProp 𝕄) ⊢ dmaPay m q₁.val c)
    (hpay₂ : (owns (nxt c).tc dst fullShare X : sProp 𝕄) ⊢ dmaPay m q₂.val (nxt c)) :
    (iprop(Env m K ∗ owns c.tc src q X ∗ slot (nxt c) dst ∗ X0 c q₁ q₂ ∗ Ow c (n + 1)) : sProp 𝕄)
      ⊢ iprop(((X1 c q₁ q₂ ∗ Ow c n) -∗ wp frame (wpE (defs₀ (F := F)) 𝒱₀ c.tc none) Set.univ (k ⟨⟩) Q)
          -∗ wp frame (wpE (defs₀ (F := F)) 𝒱₀ c.tc none) Set.univ
              (.op (.enqueueDma (src.squeeze s₁ h) (.remote (Dev.tc n' : Thread nD τ) (dst.squeeze s₁ h') (.dma q₁') hsc) (.dma q₂') hsrc hdst hsem) k) Q) := by
  subst hn' hq₁' hq₂'
  unfold X0 X1 Ow slot
  iintro ⟨#HE, Hs, ⟨%Y, Hd⟩, ⟨Ht1, Ht2, Ha1, Ha2, Hc2⟩, ⟨%W, HO⟩⟩ Hk
  iapply (slot_send 𝒱₀ c.tc none ER (ringRd m) (κ₁ := K (c, cidx q₁' hq₁)) (κ₂ := K (nxt c, cidx q₂' hq₂))
    (c' := (nxt c).tc) (r₁ := 0) (r₂ := 0) (d₁ := false) (d₂ := false) src dst h h'
    (by rw [duties_xfer m c q₁' hq₁]; exact Finset.mem_singleton_self _)
    (by rw [duties_xfer m (nxt c) q₂' hq₂]; exact Finset.mem_singleton_self _)
    () () (dmaAmt q₂'.val) hN ((amount_xfer m c q₁' false).trans hA) (amount_xfer m (nxt c) q₂' false) (OwR c n) hO hpay₁ hpay₂) $$ [Hs Hd HO Ht1 Ht2]
  · isplitr; · iapply (Env_xinv m K c q₁' hq₁); iexact HE
    isplitr; · iapply (Env_xinv m K (nxt c) q₂' hq₂); iexact HE
    isplitl [Hs]; · iexact Hs
    isplitl [Hd]; · iexact Hd
    isplitl [HO]; · iexact HO
    isplitl [Ht1]; · iexact Ht1
    isplitr; · iapply (Env_xreached m K c q₁' hq₁); iexact HE
    isplitl [Ht2]; · iexact Ht2
    iapply (Env_xreached m K (nxt c) q₂' hq₂); iexact HE
  iintro ⟨Hc1, HO⟩
  iapply Hk
  isplitr [HO]
  · isplitl [Ha1]; · iexact Ha1
    isplitl [Hc1]; · rw [hA]; iexact Hc1
    isplitl [Ha2] <;> iassumption
  iexists W; iexact HO

/-- A copy of an expert's weights within the device, under way. -/
theorem local_dma (q : DmaSem sig) {q' : DmaSem sig} (hq' : q' = q) {s s₁ : Shape} {e : EltTy} {sp sp' : Space} (src : Memref sig .tc sp s e) (dst : Memref sig .tc sp' s e)
    (h : s.Squeezes s₁) (h' : s.Squeezes s₁)
    {hsrc : (src.squeeze s₁ h).view.WordExact} {hdst : (dst.squeeze s₁ h').view.WordExact}
    {hsem : DmaTarget.Typed sp (.dma q') (.here (dst.squeeze s₁ h') : DmaTarget nD τ sig .tc sp' s₁ e)}
    {k : PUnit → Prog (TpuEff nD τ sig (Elt F) Λ₀ .tc) α} {X : s.Idx → Elt F e}
    {N : ℕ} (hN : (dst.squeeze s₁ h').view.amount (.dma q) = N) (hN0 : 0 < N) :
    (iprop(owns c.tc src fullShare X ∗ slot c dst ∗ semVal (dCell c q) 0) : sProp 𝕄)
      ⊢ iprop((Flight EC c.tc (.dma q) () N iprop(owns c.tc dst fullShare X ∗ owns c.tc src fullShare X)
            -∗ wp frame (wpE (defs₀ (F := F)) 𝒱₀ c.tc none) Set.univ (k ⟨⟩) Q)
          -∗ wp frame (wpE (defs₀ (F := F)) 𝒱₀ c.tc none) Set.univ
              (.op (.enqueueDma (src.squeeze s₁ h) (.here (dst.squeeze s₁ h')) (.dma q') hsrc hdst hsem) k) Q) := by
  subst hq'
  unfold slot
  iintro ⟨Hs, ⟨%Y, Hd⟩, Hz⟩ Hk
  iapply (slot_dma 𝒱₀ c.tc none EC src dst h h' () N hN hN0) $$ [Hs Hd Hz]
  · isplitl [Hs]; · iexact Hs
    isplitl [Hd] <;> iassumption
  iexact Hk

/-- Its wait. -/
theorem local_wait (q : DmaSem sig) {q' : DmaSem sig} (hq' : q' = q) (n : ℕ) (hn : n ≤ 12) (hlv : lv (c.tc, .dma q) () + n ≤ 13)
    {sp sp' : Space} {s s' : Shape} {e e' : EltTy} {srcw : Memref sig .tc sp s e} {dstw : Memref sig .tc sp' s' e'}
    {hsrc : srcw.view.WordExact} {hdst : dstw.view.WordExact} {N : ℕ} (hN : dstw.view.dmaCredit = N) {D : sProp 𝕄}
    {k : PUnit → Prog (TpuEff nD τ sig (Elt F) Λ₀ .tc) α} :
    (iprop(Env m K ∗ Flight EC c.tc (.dma q) () N D ∗ Ow c n) : sProp 𝕄)
      ⊢ iprop(((D ∗ semVal (dCell c q) 0 ∗ Ow c n) -∗ wp frame (wpE (defs₀ (F := F)) 𝒱₀ c.tc none) Set.univ (k ⟨⟩) Q)
          -∗ wp frame (wpE (defs₀ (F := F)) 𝒱₀ c.tc none) Set.univ (.op (.waitDma2 q' srcw dstw hsrc hdst) k) Q) := by
  subst hq'
  unfold Ow
  iintro ⟨#HE, HF, ⟨%W, HO⟩⟩ Hk
  iapply (wp_waitLocalO EC 𝒱₀ c.tc none () hN (O := OwR c n) (W := W)) $$ [HF HO]
  · isplitl [HF]; · iexact HF
    isplitl [HO]; · iexact HO
    iapply (Env_mayWait m K c (.dma _) n hn hlv); iexact HE
  iintro ⟨HD, Hz, HO⟩
  iapply Hk
  isplitl [HD]; · iexact HD
  isplitl [Hz]; · iexact Hz
  iexists _; iexact HO

/-! The loads and stores of slots whose contents are not followed, and of the staged blocks. -/

theorem load_any {cs : CoreSpace} {s : Shape} {e : EltTy} (M : Memref sig .tc cs s e) (r : Rect s) (hr : ∀ a, r.stride a = 1)
    {hl : M.view.LoadsAt r.toLoadRect} {k : (r.shape.Idx → Elt F e) → Prog (TpuEff nD τ sig (Elt F) Λ₀ .tc) α} :
    (slot (F := F) c (M.slice r hr) : sProp 𝕄)
      ⊢ iprop((∀ X, slot (F := F) c (M.slice r hr) -∗ wp frame (wpE (defs₀ (F := F)) 𝒱₀ c.tc none) Set.univ (k X) Q)
        -∗ wp frame (wpE (defs₀ (F := F)) 𝒱₀ c.tc none) Set.univ (.op (.load M r.toLoadRect hl) k) Q) := by
  unfold slot
  iintro ⟨%X, H⟩ Hk
  iapply (slot_load 𝒱₀ c.tc none M r) $$ H
  iintro H
  iapply Hk $$ %X [H]
  iexists X; iexact H

theorem store_any {cs : CoreSpace} {s : Shape} {e : EltTy} (M : Memref sig .tc cs s e) (r : Rect s) (hr : ∀ a, r.stride a = 1)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (slot (F := F) c (M.slice r hr) : sProp 𝕄)
      ⊢ iprop((owns c.tc (M.slice r hr) fullShare w -∗ wp frame (wpE (defs₀ (F := F)) 𝒱₀ c.tc none) Set.univ (k ⟨⟩) Q)
        -∗ wp frame (wpE (defs₀ (F := F)) 𝒱₀ c.tc none) Set.univ (.op (.store M r w Finset.univ hx hm) k) Q) := by
  unfold slot
  iintro ⟨%X, H⟩ Hk
  iapply (slot_store 𝒱₀ c.tc none M r) $$ H
  iexact Hk

theorem forget {sp : Space} {s : Shape} {e : EltTy} (M : Memref sig .tc sp s e) (X : s.Idx → Elt F e) :
    (owns c.tc M fullShare X : sProp 𝕄) ⊢ slot c M := by
  unfold slot; iintro H; iexists X; iexact H

end Rules

end Cert.KernelIdeal.Ring
-- ==== Proof.KernelIdealSlots.lean ====
/-
# The scratch buffers and the weights, cut into their slots

Each buffer is cut along its first axis into equal bands; the bands cover it and are disjoint. So a whole buffer is
its slots, and the slots together are the buffer again.
-/
module

public import proofs.«01_k».proof.Proof.KernelIdealRing

@[expose] public section

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Bands of one shape -/

/-- Rectangles that take `k` coordinates each, one after the other, along one axis are disjoint. -/
theorem bands_disjoint {s : Shape} {n : ℕ} (a : Fin s.rank) (k : ℕ) (r : Fin n → Rect s)
    (ho : ∀ t, (r t).off a = t.val * k) (hk : ∀ t, (r t).size a = k) (hs : ∀ t, (r t).stride a = 1) :
    ∀ t t', t ≠ t' → Disjoint (r t).set (r t').set := by
  intro t t' h
  refine Rect.disjoint_of_separated _ _ a ?_
  rw [ho, ho, hk, hk, hs, hs]
  rcases Nat.lt_or_gt_of_ne (fun h' => h (Fin.ext h') : t.val ≠ t'.val) with h1 | h1
  · have := Nat.mul_le_mul_right k (Nat.succ_le_of_lt h1)
    rw [Nat.succ_mul] at this; left; omega
  · have := Nat.mul_le_mul_right k (Nat.succ_le_of_lt h1)
    rw [Nat.succ_mul] at this; right; omega

/-- They cover the shape if they are full along the other axes and their number fits. -/
theorem bands_cover {s : Shape} {n : ℕ} (a : Fin s.rank) (k : ℕ) (hk0 : 0 < k) (r : Fin n → Rect s)
    (ho : ∀ t, (r t).off a = t.val * k) (hk : ∀ t, (r t).size a = k) (hs : ∀ t b, (r t).stride b = 1)
    (hf : ∀ t b, b ≠ a → (r t).off b = 0 ∧ (r t).size b = s.size b) (hn : s.size a = n * k) :
    (Finset.univ : Finset (Fin n)).biUnion (fun t => (r t).set) = Finset.univ := by
  refine Finset.eq_univ_iff_forall.mpr fun i => Finset.mem_biUnion.mpr ?_
  have hlt : (i a).val < n * k := hn ▸ (i a).isLt
  refine ⟨⟨(i a).val / k, Nat.div_lt_of_lt_mul (by rwa [Nat.mul_comm] at hlt)⟩, Finset.mem_univ _, ?_⟩
  simp only [LoadRect.mem_set]
  intro b
  by_cases hb : b = a
  · subst hb
    refine ⟨(i b).val % k, by rw [hk]; exact Nat.mod_lt _ hk0, ?_⟩
    rw [ho, hs, Nat.one_mul]; exact (Nat.div_add_mod' _ _).symm
  · obtain ⟨h1, h2⟩ := hf ⟨(i a).val / k, Nat.div_lt_of_lt_mul (by rwa [Nat.mul_comm] at hlt)⟩ b hb
    refine ⟨(i b).val, by rw [h2]; exact (i b).isLt, ?_⟩
    rw [h1, hs, Nat.one_mul, Nat.zero_add]

theorem slot_intro (c : Dev nD) {sp : Space} {s : Shape} {e : EltTy} (M : Memref sig .tc sp s e) (X : s.Idx → Elt F e) :
    (owns c.tc M fullShare X : sProp 𝕄) ⊢ slot c M := by
  unfold slot; iintro H; iexists X; iexact H

/-! ## The buffers -/

/-- The bands of `cc0_scratch0`. -/
def xBand (t : Fin 4) : Rect S4x256x1024 := Rect.unit (s := S4x256x1024) ![t.val * 1, 0, 0] S1x256x1024.size (fun b => by
  have := t.isLt
  fin_cases b
  · show t.val * 1 + 1 ≤ 4; omega
  · exact le_refl 256
  · exact le_refl 1024)
theorem xBand_unit (t : Fin 4) (b : Fin S4x256x1024.rank) : (xBand t).stride b = 1 := rfl
theorem xBand_disjoint : ∀ t t', t ≠ t' → Disjoint (xBand t).set (xBand t').set :=
  bands_disjoint (s := S4x256x1024) (0 : Fin 3) 1 xBand (fun _ => rfl) (fun _ => rfl) (fun _ => rfl)
theorem xBand_cover : (Finset.univ : Finset (Fin 4)).biUnion (fun t => (xBand t).set) = Finset.univ :=
  bands_cover (s := S4x256x1024) (0 : Fin 3) 1 (by decide) xBand (fun _ => rfl) (fun _ => rfl) (fun _ _ => rfl)
    (fun t b hb => by fin_cases b <;> first | exact absurd rfl hb | exact ⟨rfl, rfl⟩) rfl

theorem x_open (c : Dev nD) :
    (iprop(∃ f : Buf (Elt F) (c.tc.loc cc0_scratch0), (c.tc.loc cc0_scratch0) ↦{fullShare} f) : sProp 𝕄)
      ⊢ iprop(slot (F := F) c xS0 ∗ slot (F := F) c xS1 ∗ slot (F := F) c xS2 ∗ slot (F := F) c xS3) := by
  iintro ⟨%X, H⟩
  ihave H := (Entails.of_eq (owns_whole c.tc cc0_scratch0 fullShare X).symm) $$ H
  ihave H := ((owns_rects c.tc xcM fullShare xBand xBand_unit xBand_disjoint xBand_cover X).trans
    (show _ ⊢ (iprop(owns c.tc xS0 fullShare (fun y => X ((xBand 0).emb y)) ∗ owns c.tc xS1 fullShare (fun y => X ((xBand 1).emb y)) ∗ owns c.tc xS2 fullShare (fun y => X ((xBand 2).emb y)) ∗ owns c.tc xS3 fullShare (fun y => X ((xBand 3).emb y))) : sProp 𝕄) from
      Entails.of_eq (bigSep_univ_eq_bigSepL [(0 : Fin 4), (1 : Fin 4), (2 : Fin 4), (3 : Fin 4)] (by decide) (by decide) _))) $$ H
  icases H with ⟨H0, H1, H2, H3⟩
  isplitl [H0]; · iapply (slot_intro c xS0 _); iexact H0
  isplitl [H1]; · iapply (slot_intro c xS1 _); iexact H1
  isplitl [H2]; · iapply (slot_intro c xS2 _); iexact H2
  iapply (slot_intro c xS3 _); iexact H3
theorem x_close (c : Dev nD) :
    (iprop(slot (F := F) c xS0 ∗ slot (F := F) c xS1 ∗ slot (F := F) c xS2 ∗ slot (F := F) c xS3) : sProp 𝕄)
      ⊢ iprop(∃ f : Buf (Elt F) (c.tc.loc cc0_scratch0), (c.tc.loc cc0_scratch0) ↦{fullShare} f) := by
  unfold slot
  iintro ⟨⟨%X0, H0⟩, ⟨%X1, H1⟩, ⟨%X2, H2⟩, ⟨%X3, H3⟩⟩
  ihave H := ((show iprop(owns c.tc xS0 fullShare X0 ∗ owns c.tc xS1 fullShare X1 ∗ owns c.tc xS2 fullShare X2 ∗ owns c.tc xS3 fullShare X3)
      ⊢ (bigSep Finset.univ (fun t : Fin 4 => owns c.tc (xcM.slice (xBand t) (xBand_unit t)) fullShare
          ((match t with | 0 => X0 | 1 => X1 | 2 => X2 | 3 => X3 : (xBand t).shape.Idx → Elt F .bf16))) : sProp 𝕄) from
      Entails.of_eq (by rw [bigSep_univ_eq_bigSepL [(0 : Fin 4), (1 : Fin 4), (2 : Fin 4), (3 : Fin 4)] (by decide) (by decide)]; rfl)).trans
    (slots_glue c.tc xcM fullShare xBand xBand_unit xBand_disjoint xBand_cover _)) $$ [H0 H1 H2 H3]
  · isplitl [H0]; · iexact H0
    isplitl [H1]; · iexact H1
    isplitl [H2]; · iexact H2
    iexact H3
  icases H with ⟨%X, H⟩
  iexists X
  iapply (Entails.of_eq (owns_whole c.tc cc0_scratch0 fullShare X))
  iexact H

/-- The bands of `cc0_scratch1`. -/
def rBand (t : Fin 4) : Rect S4x1024x4 := Rect.unit (s := S4x1024x4) ![t.val * 1, 0, 0] S1x1024x4.size (fun b => by
  have := t.isLt
  fin_cases b
  · show t.val * 1 + 1 ≤ 4; omega
  · exact le_refl 1024
  · exact le_refl 4)
theorem rBand_unit (t : Fin 4) (b : Fin S4x1024x4.rank) : (rBand t).stride b = 1 := rfl
theorem rBand_disjoint : ∀ t t', t ≠ t' → Disjoint (rBand t).set (rBand t').set :=
  bands_disjoint (s := S4x1024x4) (0 : Fin 3) 1 rBand (fun _ => rfl) (fun _ => rfl) (fun _ => rfl)
theorem rBand_cover : (Finset.univ : Finset (Fin 4)).biUnion (fun t => (rBand t).set) = Finset.univ :=
  bands_cover (s := S4x1024x4) (0 : Fin 3) 1 (by decide) rBand (fun _ => rfl) (fun _ => rfl) (fun _ _ => rfl)
    (fun t b hb => by fin_cases b <;> first | exact absurd rfl hb | exact ⟨rfl, rfl⟩) rfl

theorem r_open (c : Dev nD) :
    (iprop(∃ f : Buf (Elt F) (c.tc.loc cc0_scratch1), (c.tc.loc cc0_scratch1) ↦{fullShare} f) : sProp 𝕄)
      ⊢ iprop(slot (F := F) c rS0 ∗ slot (F := F) c rS1 ∗ slot (F := F) c rS2 ∗ slot (F := F) c rS3) := by
  iintro ⟨%X, H⟩
  ihave H := (Entails.of_eq (owns_whole c.tc cc0_scratch1 fullShare X).symm) $$ H
  ihave H := ((owns_rects c.tc rcM fullShare rBand rBand_unit rBand_disjoint rBand_cover X).trans
    (show _ ⊢ (iprop(owns c.tc rS0 fullShare (fun y => X ((rBand 0).emb y)) ∗ owns c.tc rS1 fullShare (fun y => X ((rBand 1).emb y)) ∗ owns c.tc rS2 fullShare (fun y => X ((rBand 2).emb y)) ∗ owns c.tc rS3 fullShare (fun y => X ((rBand 3).emb y))) : sProp 𝕄) from
      Entails.of_eq (bigSep_univ_eq_bigSepL [(0 : Fin 4), (1 : Fin 4), (2 : Fin 4), (3 : Fin 4)] (by decide) (by decide) _))) $$ H
  icases H with ⟨H0, H1, H2, H3⟩
  isplitl [H0]; · iapply (slot_intro c rS0 _); iexact H0
  isplitl [H1]; · iapply (slot_intro c rS1 _); iexact H1
  isplitl [H2]; · iapply (slot_intro c rS2 _); iexact H2
  iapply (slot_intro c rS3 _); iexact H3
theorem r_close (c : Dev nD) :
    (iprop(slot (F := F) c rS0 ∗ slot (F := F) c rS1 ∗ slot (F := F) c rS2 ∗ slot (F := F) c rS3) : sProp 𝕄)
      ⊢ iprop(∃ f : Buf (Elt F) (c.tc.loc cc0_scratch1), (c.tc.loc cc0_scratch1) ↦{fullShare} f) := by
  unfold slot
  iintro ⟨⟨%X0, H0⟩, ⟨%X1, H1⟩, ⟨%X2, H2⟩, ⟨%X3, H3⟩⟩
  ihave H := ((show iprop(owns c.tc rS0 fullShare X0 ∗ owns c.tc rS1 fullShare X1 ∗ owns c.tc rS2 fullShare X2 ∗ owns c.tc rS3 fullShare X3)
      ⊢ (bigSep Finset.univ (fun t : Fin 4 => owns c.tc (rcM.slice (rBand t) (rBand_unit t)) fullShare
          ((match t with | 0 => X0 | 1 => X1 | 2 => X2 | 3 => X3 : (rBand t).shape.Idx → Elt F .f32))) : sProp 𝕄) from
      Entails.of_eq (by rw [bigSep_univ_eq_bigSepL [(0 : Fin 4), (1 : Fin 4), (2 : Fin 4), (3 : Fin 4)] (by decide) (by decide)]; rfl)).trans
    (slots_glue c.tc rcM fullShare rBand rBand_unit rBand_disjoint rBand_cover _)) $$ [H0 H1 H2 H3]
  · isplitl [H0]; · iexact H0
    isplitl [H1]; · iexact H1
    isplitl [H2]; · iexact H2
    iexact H3
  icases H with ⟨%X, H⟩
  iexists X
  iapply (Entails.of_eq (owns_whole c.tc cc0_scratch1 fullShare X))
  iexact H

/-- The bands of `cc0_scratch2`. -/
def iBand (t : Fin 4) : Rect S4x256x4 := Rect.unit (s := S4x256x4) ![t.val * 1, 0, 0] S1x256x4.size (fun b => by
  have := t.isLt
  fin_cases b
  · show t.val * 1 + 1 ≤ 4; omega
  · exact le_refl 256
  · exact le_refl 4)
theorem iBand_unit (t : Fin 4) (b : Fin S4x256x4.rank) : (iBand t).stride b = 1 := rfl
theorem iBand_disjoint : ∀ t t', t ≠ t' → Disjoint (iBand t).set (iBand t').set :=
  bands_disjoint (s := S4x256x4) (0 : Fin 3) 1 iBand (fun _ => rfl) (fun _ => rfl) (fun _ => rfl)
theorem iBand_cover : (Finset.univ : Finset (Fin 4)).biUnion (fun t => (iBand t).set) = Finset.univ :=
  bands_cover (s := S4x256x4) (0 : Fin 3) 1 (by decide) iBand (fun _ => rfl) (fun _ => rfl) (fun _ _ => rfl)
    (fun t b hb => by fin_cases b <;> first | exact absurd rfl hb | exact ⟨rfl, rfl⟩) rfl

theorem i_open (c : Dev nD) :
    (iprop(∃ f : Buf (Elt F) (c.tc.loc cc0_scratch2), (c.tc.loc cc0_scratch2) ↦{fullShare} f) : sProp 𝕄)
      ⊢ iprop(slot (F := F) c iS0 ∗ slot (F := F) c iS1 ∗ slot (F := F) c iS2 ∗ slot (F := F) c iS3) := by
  iintro ⟨%X, H⟩
  ihave H := (Entails.of_eq (owns_whole c.tc cc0_scratch2 fullShare X).symm) $$ H
  ihave H := ((owns_rects c.tc icM fullShare iBand iBand_unit iBand_disjoint iBand_cover X).trans
    (show _ ⊢ (iprop(owns c.tc iS0 fullShare (fun y => X ((iBand 0).emb y)) ∗ owns c.tc iS1 fullShare (fun y => X ((iBand 1).emb y)) ∗ owns c.tc iS2 fullShare (fun y => X ((iBand 2).emb y)) ∗ owns c.tc iS3 fullShare (fun y => X ((iBand 3).emb y))) : sProp 𝕄) from
      Entails.of_eq (bigSep_univ_eq_bigSepL [(0 : Fin 4), (1 : Fin 4), (2 : Fin 4), (3 : Fin 4)] (by decide) (by decide) _))) $$ H
  icases H with ⟨H0, H1, H2, H3⟩
  isplitl [H0]; · iapply (slot_intro c iS0 _); iexact H0
  isplitl [H1]; · iapply (slot_intro c iS1 _); iexact H1
  isplitl [H2]; · iapply (slot_intro c iS2 _); iexact H2
  iapply (slot_intro c iS3 _); iexact H3
theorem i_close (c : Dev nD) :
    (iprop(slot (F := F) c iS0 ∗ slot (F := F) c iS1 ∗ slot (F := F) c iS2 ∗ slot (F := F) c iS3) : sProp 𝕄)
      ⊢ iprop(∃ f : Buf (Elt F) (c.tc.loc cc0_scratch2), (c.tc.loc cc0_scratch2) ↦{fullShare} f) := by
  unfold slot
  iintro ⟨⟨%X0, H0⟩, ⟨%X1, H1⟩, ⟨%X2, H2⟩, ⟨%X3, H3⟩⟩
  ihave H := ((show iprop(owns c.tc iS0 fullShare X0 ∗ owns c.tc iS1 fullShare X1 ∗ owns c.tc iS2 fullShare X2 ∗ owns c.tc iS3 fullShare X3)
      ⊢ (bigSep Finset.univ (fun t : Fin 4 => owns c.tc (icM.slice (iBand t) (iBand_unit t)) fullShare
          ((match t with | 0 => X0 | 1 => X1 | 2 => X2 | 3 => X3 : (iBand t).shape.Idx → Elt F .f32))) : sProp 𝕄) from
      Entails.of_eq (by rw [bigSep_univ_eq_bigSepL [(0 : Fin 4), (1 : Fin 4), (2 : Fin 4), (3 : Fin 4)] (by decide) (by decide)]; rfl)).trans
    (slots_glue c.tc icM fullShare iBand iBand_unit iBand_disjoint iBand_cover _)) $$ [H0 H1 H2 H3]
  · isplitl [H0]; · iexact H0
    isplitl [H1]; · iexact H1
    isplitl [H2]; · iexact H2
    iexact H3
  icases H with ⟨%X, H⟩
  iexists X
  iapply (Entails.of_eq (owns_whole c.tc cc0_scratch2 fullShare X))
  iexact H

/-- The bands of `cc0_scratch3`. -/
def sbBand (t : Fin 3) : Rect S3x256x1024 := Rect.unit (s := S3x256x1024) ![t.val * 1, 0, 0] S1x256x1024.size (fun b => by
  have := t.isLt
  fin_cases b
  · show t.val * 1 + 1 ≤ 3; omega
  · exact le_refl 256
  · exact le_refl 1024)
theorem sbBand_unit (t : Fin 3) (b : Fin S3x256x1024.rank) : (sbBand t).stride b = 1 := rfl
theorem sbBand_disjoint : ∀ t t', t ≠ t' → Disjoint (sbBand t).set (sbBand t').set :=
  bands_disjoint (s := S3x256x1024) (0 : Fin 3) 1 sbBand (fun _ => rfl) (fun _ => rfl) (fun _ => rfl)
theorem sbBand_cover : (Finset.univ : Finset (Fin 3)).biUnion (fun t => (sbBand t).set) = Finset.univ :=
  bands_cover (s := S3x256x1024) (0 : Fin 3) 1 (by decide) sbBand (fun _ => rfl) (fun _ => rfl) (fun _ _ => rfl)
    (fun t b hb => by fin_cases b <;> first | exact absurd rfl hb | exact ⟨rfl, rfl⟩) rfl

theorem sb_open (c : Dev nD) :
    (iprop(∃ f : Buf (Elt F) (c.tc.loc cc0_scratch3), (c.tc.loc cc0_scratch3) ↦{fullShare} f) : sProp 𝕄)
      ⊢ iprop(slot (F := F) c sbS0 ∗ slot (F := F) c sbS1 ∗ slot (F := F) c sbS2) := by
  iintro ⟨%X, H⟩
  ihave H := (Entails.of_eq (owns_whole c.tc cc0_scratch3 fullShare X).symm) $$ H
  ihave H := ((owns_rects c.tc sbM fullShare sbBand sbBand_unit sbBand_disjoint sbBand_cover X).trans
    (show _ ⊢ (iprop(owns c.tc sbS0 fullShare (fun y => X ((sbBand 0).emb y)) ∗ owns c.tc sbS1 fullShare (fun y => X ((sbBand 1).emb y)) ∗ owns c.tc sbS2 fullShare (fun y => X ((sbBand 2).emb y))) : sProp 𝕄) from
      Entails.of_eq (bigSep_univ_eq_bigSepL [(0 : Fin 3), (1 : Fin 3), (2 : Fin 3)] (by decide) (by decide) _))) $$ H
  icases H with ⟨H0, H1, H2⟩
  isplitl [H0]; · iapply (slot_intro c sbS0 _); iexact H0
  isplitl [H1]; · iapply (slot_intro c sbS1 _); iexact H1
  iapply (slot_intro c sbS2 _); iexact H2
theorem sb_close (c : Dev nD) :
    (iprop(slot (F := F) c sbS0 ∗ slot (F := F) c sbS1 ∗ slot (F := F) c sbS2) : sProp 𝕄)
      ⊢ iprop(∃ f : Buf (Elt F) (c.tc.loc cc0_scratch3), (c.tc.loc cc0_scratch3) ↦{fullShare} f) := by
  unfold slot
  iintro ⟨⟨%X0, H0⟩, ⟨%X1, H1⟩, ⟨%X2, H2⟩⟩
  ihave H := ((show iprop(owns c.tc sbS0 fullShare X0 ∗ owns c.tc sbS1 fullShare X1 ∗ owns c.tc sbS2 fullShare X2)
      ⊢ (bigSep Finset.univ (fun t : Fin 3 => owns c.tc (sbM.slice (sbBand t) (sbBand_unit t)) fullShare
          ((match t with | 0 => X0 | 1 => X1 | 2 => X2 : (sbBand t).shape.Idx → Elt F .bf16))) : sProp 𝕄) from
      Entails.of_eq (by rw [bigSep_univ_eq_bigSepL [(0 : Fin 3), (1 : Fin 3), (2 : Fin 3)] (by decide) (by decide)]; rfl)).trans
    (slots_glue c.tc sbM fullShare sbBand sbBand_unit sbBand_disjoint sbBand_cover _)) $$ [H0 H1 H2]
  · isplitl [H0]; · iexact H0
    isplitl [H1]; · iexact H1
    iexact H2
  icases H with ⟨%X, H⟩
  iexists X
  iapply (Entails.of_eq (owns_whole c.tc cc0_scratch3 fullShare X))
  iexact H

/-- The bands of `cc0_scratch4`. -/
def rbBand (t : Fin 3) : Rect S3x256x1024 := Rect.unit (s := S3x256x1024) ![t.val * 1, 0, 0] S1x256x1024.size (fun b => by
  have := t.isLt
  fin_cases b
  · show t.val * 1 + 1 ≤ 3; omega
  · exact le_refl 256
  · exact le_refl 1024)
theorem rbBand_unit (t : Fin 3) (b : Fin S3x256x1024.rank) : (rbBand t).stride b = 1 := rfl
theorem rbBand_disjoint : ∀ t t', t ≠ t' → Disjoint (rbBand t).set (rbBand t').set :=
  bands_disjoint (s := S3x256x1024) (0 : Fin 3) 1 rbBand (fun _ => rfl) (fun _ => rfl) (fun _ => rfl)
theorem rbBand_cover : (Finset.univ : Finset (Fin 3)).biUnion (fun t => (rbBand t).set) = Finset.univ :=
  bands_cover (s := S3x256x1024) (0 : Fin 3) 1 (by decide) rbBand (fun _ => rfl) (fun _ => rfl) (fun _ _ => rfl)
    (fun t b hb => by fin_cases b <;> first | exact absurd rfl hb | exact ⟨rfl, rfl⟩) rfl

theorem rb_open (c : Dev nD) :
    (iprop(∃ f : Buf (Elt F) (c.tc.loc cc0_scratch4), (c.tc.loc cc0_scratch4) ↦{fullShare} f) : sProp 𝕄)
      ⊢ iprop(slot (F := F) c rbS0 ∗ slot (F := F) c rbS1 ∗ slot (F := F) c rbS2) := by
  iintro ⟨%X, H⟩
  ihave H := (Entails.of_eq (owns_whole c.tc cc0_scratch4 fullShare X).symm) $$ H
  ihave H := ((owns_rects c.tc rbM fullShare rbBand rbBand_unit rbBand_disjoint rbBand_cover X).trans
    (show _ ⊢ (iprop(owns c.tc rbS0 fullShare (fun y => X ((rbBand 0).emb y)) ∗ owns c.tc rbS1 fullShare (fun y => X ((rbBand 1).emb y)) ∗ owns c.tc rbS2 fullShare (fun y => X ((rbBand 2).emb y))) : sProp 𝕄) from
      Entails.of_eq (bigSep_univ_eq_bigSepL [(0 : Fin 3), (1 : Fin 3), (2 : Fin 3)] (by decide) (by decide) _))) $$ H
  icases H with ⟨H0, H1, H2⟩
  isplitl [H0]; · iapply (slot_intro c rbS0 _); iexact H0
  isplitl [H1]; · iapply (slot_intro c rbS1 _); iexact H1
  iapply (slot_intro c rbS2 _); iexact H2
theorem rb_close (c : Dev nD) :
    (iprop(slot (F := F) c rbS0 ∗ slot (F := F) c rbS1 ∗ slot (F := F) c rbS2) : sProp 𝕄)
      ⊢ iprop(∃ f : Buf (Elt F) (c.tc.loc cc0_scratch4), (c.tc.loc cc0_scratch4) ↦{fullShare} f) := by
  unfold slot
  iintro ⟨⟨%X0, H0⟩, ⟨%X1, H1⟩, ⟨%X2, H2⟩⟩
  ihave H := ((show iprop(owns c.tc rbS0 fullShare X0 ∗ owns c.tc rbS1 fullShare X1 ∗ owns c.tc rbS2 fullShare X2)
      ⊢ (bigSep Finset.univ (fun t : Fin 3 => owns c.tc (rbM.slice (rbBand t) (rbBand_unit t)) fullShare
          ((match t with | 0 => X0 | 1 => X1 | 2 => X2 : (rbBand t).shape.Idx → Elt F .bf16))) : sProp 𝕄) from
      Entails.of_eq (by rw [bigSep_univ_eq_bigSepL [(0 : Fin 3), (1 : Fin 3), (2 : Fin 3)] (by decide) (by decide)]; rfl)).trans
    (slots_glue c.tc rbM fullShare rbBand rbBand_unit rbBand_disjoint rbBand_cover _)) $$ [H0 H1 H2]
  · isplitl [H0]; · iexact H0
    isplitl [H1]; · iexact H1
    iexact H2
  icases H with ⟨%X, H⟩
  iexists X
  iapply (Entails.of_eq (owns_whole c.tc cc0_scratch4 fullShare X))
  iexact H

/-- The bands of `cc0_scratch5`. -/
def pBand (t : Fin 4) : Rect S1024x1024 := Rect.unit (s := S1024x1024) ![t.val * 256, 0] S256x1024.size (fun b => by
  have := t.isLt
  fin_cases b
  · show t.val * 256 + 256 ≤ 1024; omega
  · exact le_refl 1024)
theorem pBand_unit (t : Fin 4) (b : Fin S1024x1024.rank) : (pBand t).stride b = 1 := rfl
theorem pBand_disjoint : ∀ t t', t ≠ t' → Disjoint (pBand t).set (pBand t').set :=
  bands_disjoint (s := S1024x1024) (0 : Fin 2) 256 pBand (fun _ => rfl) (fun _ => rfl) (fun _ => rfl)
theorem pBand_cover : (Finset.univ : Finset (Fin 4)).biUnion (fun t => (pBand t).set) = Finset.univ :=
  bands_cover (s := S1024x1024) (0 : Fin 2) 256 (by decide) pBand (fun _ => rfl) (fun _ => rfl) (fun _ _ => rfl)
    (fun t b hb => by fin_cases b <;> first | exact absurd rfl hb | exact ⟨rfl, rfl⟩) rfl

theorem p_open (c : Dev nD) :
    (iprop(∃ f : Buf (Elt F) (c.tc.loc cc0_scratch5), (c.tc.loc cc0_scratch5) ↦{fullShare} f) : sProp 𝕄)
      ⊢ iprop(slot (F := F) c pS0 ∗ slot (F := F) c pS1 ∗ slot (F := F) c pS2 ∗ slot (F := F) c pS3) := by
  iintro ⟨%X, H⟩
  ihave H := (Entails.of_eq (owns_whole c.tc cc0_scratch5 fullShare X).symm) $$ H
  ihave H := ((owns_rects c.tc ptM fullShare pBand pBand_unit pBand_disjoint pBand_cover X).trans
    (show _ ⊢ (iprop(owns c.tc pS0 fullShare (fun y => X ((pBand 0).emb y)) ∗ owns c.tc pS1 fullShare (fun y => X ((pBand 1).emb y)) ∗ owns c.tc pS2 fullShare (fun y => X ((pBand 2).emb y)) ∗ owns c.tc pS3 fullShare (fun y => X ((pBand 3).emb y))) : sProp 𝕄) from
      Entails.of_eq (bigSep_univ_eq_bigSepL [(0 : Fin 4), (1 : Fin 4), (2 : Fin 4), (3 : Fin 4)] (by decide) (by decide) _))) $$ H
  icases H with ⟨H0, H1, H2, H3⟩
  isplitl [H0]; · iapply (slot_intro c pS0 _); iexact H0
  isplitl [H1]; · iapply (slot_intro c pS1 _); iexact H1
  isplitl [H2]; · iapply (slot_intro c pS2 _); iexact H2
  iapply (slot_intro c pS3 _); iexact H3
theorem p_close (c : Dev nD) :
    (iprop(slot (F := F) c pS0 ∗ slot (F := F) c pS1 ∗ slot (F := F) c pS2 ∗ slot (F := F) c pS3) : sProp 𝕄)
      ⊢ iprop(∃ f : Buf (Elt F) (c.tc.loc cc0_scratch5), (c.tc.loc cc0_scratch5) ↦{fullShare} f) := by
  unfold slot
  iintro ⟨⟨%X0, H0⟩, ⟨%X1, H1⟩, ⟨%X2, H2⟩, ⟨%X3, H3⟩⟩
  ihave H := ((show iprop(owns c.tc pS0 fullShare X0 ∗ owns c.tc pS1 fullShare X1 ∗ owns c.tc pS2 fullShare X2 ∗ owns c.tc pS3 fullShare X3)
      ⊢ (bigSep Finset.univ (fun t : Fin 4 => owns c.tc (ptM.slice (pBand t) (pBand_unit t)) fullShare
          ((match t with | 0 => X0 | 1 => X1 | 2 => X2 | 3 => X3 : (pBand t).shape.Idx → Elt F .f32))) : sProp 𝕄) from
      Entails.of_eq (by rw [bigSep_univ_eq_bigSepL [(0 : Fin 4), (1 : Fin 4), (2 : Fin 4), (3 : Fin 4)] (by decide) (by decide)]; rfl)).trans
    (slots_glue c.tc ptM fullShare pBand pBand_unit pBand_disjoint pBand_cover _)) $$ [H0 H1 H2 H3]
  · isplitl [H0]; · iexact H0
    isplitl [H1]; · iexact H1
    isplitl [H2]; · iexact H2
    iexact H3
  icases H with ⟨%X, H⟩
  iexists X
  iapply (Entails.of_eq (owns_whole c.tc cc0_scratch5 fullShare X))
  iexact H

/-- The bands of `cc0_scratch6`. -/
def f1Band (t : Fin 2) : Rect S2x1024x2048 := Rect.unit (s := S2x1024x2048) ![t.val * 1, 0, 0] S1x1024x2048.size (fun b => by
  have := t.isLt
  fin_cases b
  · show t.val * 1 + 1 ≤ 2; omega
  · exact le_refl 1024
  · exact le_refl 2048)
theorem f1Band_unit (t : Fin 2) (b : Fin S2x1024x2048.rank) : (f1Band t).stride b = 1 := rfl
theorem f1Band_disjoint : ∀ t t', t ≠ t' → Disjoint (f1Band t).set (f1Band t').set :=
  bands_disjoint (s := S2x1024x2048) (0 : Fin 3) 1 f1Band (fun _ => rfl) (fun _ => rfl) (fun _ => rfl)
theorem f1Band_cover : (Finset.univ : Finset (Fin 2)).biUnion (fun t => (f1Band t).set) = Finset.univ :=
  bands_cover (s := S2x1024x2048) (0 : Fin 3) 1 (by decide) f1Band (fun _ => rfl) (fun _ => rfl) (fun _ _ => rfl)
    (fun t b hb => by fin_cases b <;> first | exact absurd rfl hb | exact ⟨rfl, rfl⟩) rfl

theorem f1_open (c : Dev nD) :
    (iprop(∃ f : Buf (Elt F) (c.tc.loc cc0_scratch6), (c.tc.loc cc0_scratch6) ↦{fullShare} f) : sProp 𝕄)
      ⊢ iprop(slot (F := F) c f1S0 ∗ slot (F := F) c f1S1) := by
  iintro ⟨%X, H⟩
  ihave H := (Entails.of_eq (owns_whole c.tc cc0_scratch6 fullShare X).symm) $$ H
  ihave H := ((owns_rects c.tc f1M fullShare f1Band f1Band_unit f1Band_disjoint f1Band_cover X).trans
    (show _ ⊢ (iprop(owns c.tc f1S0 fullShare (fun y => X ((f1Band 0).emb y)) ∗ owns c.tc f1S1 fullShare (fun y => X ((f1Band 1).emb y))) : sProp 𝕄) from
      Entails.of_eq (bigSep_univ_eq_bigSepL [(0 : Fin 2), (1 : Fin 2)] (by decide) (by decide) _))) $$ H
  icases H with ⟨H0, H1⟩
  isplitl [H0]; · iapply (slot_intro c f1S0 _); iexact H0
  iapply (slot_intro c f1S1 _); iexact H1
theorem f1_close (c : Dev nD) :
    (iprop(slot (F := F) c f1S0 ∗ slot (F := F) c f1S1) : sProp 𝕄)
      ⊢ iprop(∃ f : Buf (Elt F) (c.tc.loc cc0_scratch6), (c.tc.loc cc0_scratch6) ↦{fullShare} f) := by
  unfold slot
  iintro ⟨⟨%X0, H0⟩, ⟨%X1, H1⟩⟩
  ihave H := ((show iprop(owns c.tc f1S0 fullShare X0 ∗ owns c.tc f1S1 fullShare X1)
      ⊢ (bigSep Finset.univ (fun t : Fin 2 => owns c.tc (f1M.slice (f1Band t) (f1Band_unit t)) fullShare
          ((match t with | 0 => X0 | 1 => X1 : (f1Band t).shape.Idx → Elt F .f32))) : sProp 𝕄) from
      Entails.of_eq (by rw [bigSep_univ_eq_bigSepL [(0 : Fin 2), (1 : Fin 2)] (by decide) (by decide)]; rfl)).trans
    (slots_glue c.tc f1M fullShare f1Band f1Band_unit f1Band_disjoint f1Band_cover _)) $$ [H0 H1]
  · isplitl [H0]; · iexact H0
    iexact H1
  icases H with ⟨%X, H⟩
  iexists X
  iapply (Entails.of_eq (owns_whole c.tc cc0_scratch6 fullShare X))
  iexact H

/-- The bands of `cc0_scratch7`. -/
def f2Band (t : Fin 2) : Rect S2x2048x1024 := Rect.unit (s := S2x2048x1024) ![t.val * 1, 0, 0] S1x2048x1024.size (fun b => by
  have := t.isLt
  fin_cases b
  · show t.val * 1 + 1 ≤ 2; omega
  · exact le_refl 2048
  · exact le_refl 1024)
theorem f2Band_unit (t : Fin 2) (b : Fin S2x2048x1024.rank) : (f2Band t).stride b = 1 := rfl
theorem f2Band_disjoint : ∀ t t', t ≠ t' → Disjoint (f2Band t).set (f2Band t').set :=
  bands_disjoint (s := S2x2048x1024) (0 : Fin 3) 1 f2Band (fun _ => rfl) (fun _ => rfl) (fun _ => rfl)
theorem f2Band_cover : (Finset.univ : Finset (Fin 2)).biUnion (fun t => (f2Band t).set) = Finset.univ :=
  bands_cover (s := S2x2048x1024) (0 : Fin 3) 1 (by decide) f2Band (fun _ => rfl) (fun _ => rfl) (fun _ _ => rfl)
    (fun t b hb => by fin_cases b <;> first | exact absurd rfl hb | exact ⟨rfl, rfl⟩) rfl

theorem f2_open (c : Dev nD) :
    (iprop(∃ f : Buf (Elt F) (c.tc.loc cc0_scratch7), (c.tc.loc cc0_scratch7) ↦{fullShare} f) : sProp 𝕄)
      ⊢ iprop(slot (F := F) c f2S0 ∗ slot (F := F) c f2S1) := by
  iintro ⟨%X, H⟩
  ihave H := (Entails.of_eq (owns_whole c.tc cc0_scratch7 fullShare X).symm) $$ H
  ihave H := ((owns_rects c.tc f2M fullShare f2Band f2Band_unit f2Band_disjoint f2Band_cover X).trans
    (show _ ⊢ (iprop(owns c.tc f2S0 fullShare (fun y => X ((f2Band 0).emb y)) ∗ owns c.tc f2S1 fullShare (fun y => X ((f2Band 1).emb y))) : sProp 𝕄) from
      Entails.of_eq (bigSep_univ_eq_bigSepL [(0 : Fin 2), (1 : Fin 2)] (by decide) (by decide) _))) $$ H
  icases H with ⟨H0, H1⟩
  isplitl [H0]; · iapply (slot_intro c f2S0 _); iexact H0
  iapply (slot_intro c f2S1 _); iexact H1
theorem f2_close (c : Dev nD) :
    (iprop(slot (F := F) c f2S0 ∗ slot (F := F) c f2S1) : sProp 𝕄)
      ⊢ iprop(∃ f : Buf (Elt F) (c.tc.loc cc0_scratch7), (c.tc.loc cc0_scratch7) ↦{fullShare} f) := by
  unfold slot
  iintro ⟨⟨%X0, H0⟩, ⟨%X1, H1⟩⟩
  ihave H := ((show iprop(owns c.tc f2S0 fullShare X0 ∗ owns c.tc f2S1 fullShare X1)
      ⊢ (bigSep Finset.univ (fun t : Fin 2 => owns c.tc (f2M.slice (f2Band t) (f2Band_unit t)) fullShare
          ((match t with | 0 => X0 | 1 => X1 : (f2Band t).shape.Idx → Elt F .f32))) : sProp 𝕄) from
      Entails.of_eq (by rw [bigSep_univ_eq_bigSepL [(0 : Fin 2), (1 : Fin 2)] (by decide) (by decide)]; rfl)).trans
    (slots_glue c.tc f2M fullShare f2Band f2Band_unit f2Band_disjoint f2Band_cover _)) $$ [H0 H1]
  · isplitl [H0]; · iexact H0
    iexact H1
  icases H with ⟨%X, H⟩
  iexists X
  iapply (Entails.of_eq (owns_whole c.tc cc0_scratch7 fullShare X))
  iexact H

/-- The bands of `main_arg2`. -/
def w1Band (t : Fin 4) : Rect S4x1024x2048 := Rect.unit (s := S4x1024x2048) ![t.val * 1, 0, 0] S1x1024x2048.size (fun b => by
  have := t.isLt
  fin_cases b
  · show t.val * 1 + 1 ≤ 4; omega
  · exact le_refl 1024
  · exact le_refl 2048)
theorem w1Band_unit (t : Fin 4) (b : Fin S4x1024x2048.rank) : (w1Band t).stride b = 1 := rfl
theorem w1Band_disjoint : ∀ t t', t ≠ t' → Disjoint (w1Band t).set (w1Band t').set :=
  bands_disjoint (s := S4x1024x2048) (0 : Fin 3) 1 w1Band (fun _ => rfl) (fun _ => rfl) (fun _ => rfl)
theorem w1Band_cover : (Finset.univ : Finset (Fin 4)).biUnion (fun t => (w1Band t).set) = Finset.univ :=
  bands_cover (s := S4x1024x2048) (0 : Fin 3) 1 (by decide) w1Band (fun _ => rfl) (fun _ => rfl) (fun _ _ => rfl)
    (fun t b hb => by fin_cases b <;> first | exact absurd rfl hb | exact ⟨rfl, rfl⟩) rfl

theorem w1_eq (c : Dev nD) :
    ((c.tc.loc main_arg2) ↦{fullShare} m (c.tc.loc main_arg2) : sProp 𝕄)
      ⊣⊢ iprop(owns c.tc w1S0 fullShare (w1v0 m c) ∗ owns c.tc w1S1 fullShare (w1v1 m c) ∗ owns c.tc w1S2 fullShare (w1v2 m c) ∗ owns c.tc w1S3 fullShare (w1v3 m c)) := by
  have e : (bigSep Finset.univ (fun t : Fin 4 => owns c.tc (w1M.slice (w1Band t) (w1Band_unit t)) fullShare
      (fun j => m (c.tc.loc main_arg2) ((w1Band t).emb j))) : sProp 𝕄)
      = iprop(owns c.tc w1S0 fullShare (w1v0 m c) ∗ owns c.tc w1S1 fullShare (w1v1 m c) ∗ owns c.tc w1S2 fullShare (w1v2 m c) ∗ owns c.tc w1S3 fullShare (w1v3 m c)) := bigSep_univ_eq_bigSepL [(0 : Fin 4), (1 : Fin 4), (2 : Fin 4), (3 : Fin 4)] (by decide) (by decide) _
  rw [← e, ← owns_whole]
  exact ⟨owns_rects c.tc w1M fullShare w1Band w1Band_unit w1Band_disjoint w1Band_cover _,
    owns_of_rects c.tc w1M fullShare w1Band w1Band_unit w1Band_disjoint w1Band_cover _⟩

/-- The bands of `main_arg3`. -/
def w2Band (t : Fin 4) : Rect S4x2048x1024 := Rect.unit (s := S4x2048x1024) ![t.val * 1, 0, 0] S1x2048x1024.size (fun b => by
  have := t.isLt
  fin_cases b
  · show t.val * 1 + 1 ≤ 4; omega
  · exact le_refl 2048
  · exact le_refl 1024)
theorem w2Band_unit (t : Fin 4) (b : Fin S4x2048x1024.rank) : (w2Band t).stride b = 1 := rfl
theorem w2Band_disjoint : ∀ t t', t ≠ t' → Disjoint (w2Band t).set (w2Band t').set :=
  bands_disjoint (s := S4x2048x1024) (0 : Fin 3) 1 w2Band (fun _ => rfl) (fun _ => rfl) (fun _ => rfl)
theorem w2Band_cover : (Finset.univ : Finset (Fin 4)).biUnion (fun t => (w2Band t).set) = Finset.univ :=
  bands_cover (s := S4x2048x1024) (0 : Fin 3) 1 (by decide) w2Band (fun _ => rfl) (fun _ => rfl) (fun _ _ => rfl)
    (fun t b hb => by fin_cases b <;> first | exact absurd rfl hb | exact ⟨rfl, rfl⟩) rfl

theorem w2_eq (c : Dev nD) :
    ((c.tc.loc main_arg3) ↦{fullShare} m (c.tc.loc main_arg3) : sProp 𝕄)
      ⊣⊢ iprop(owns c.tc w2S0 fullShare (w2v0 m c) ∗ owns c.tc w2S1 fullShare (w2v1 m c) ∗ owns c.tc w2S2 fullShare (w2v2 m c) ∗ owns c.tc w2S3 fullShare (w2v3 m c)) := by
  have e : (bigSep Finset.univ (fun t : Fin 4 => owns c.tc (w2M.slice (w2Band t) (w2Band_unit t)) fullShare
      (fun j => m (c.tc.loc main_arg3) ((w2Band t).emb j))) : sProp 𝕄)
      = iprop(owns c.tc w2S0 fullShare (w2v0 m c) ∗ owns c.tc w2S1 fullShare (w2v1 m c) ∗ owns c.tc w2S2 fullShare (w2v2 m c) ∗ owns c.tc w2S3 fullShare (w2v3 m c)) := bigSep_univ_eq_bigSepL [(0 : Fin 4), (1 : Fin 4), (2 : Fin 4), (3 : Fin 4)] (by decide) (by decide) _
  rw [← e, ← owns_whole]
  exact ⟨owns_rects c.tc w2M fullShare w2Band w2Band_unit w2Band_disjoint w2Band_cover _,
    owns_of_rects c.tc w2M fullShare w2Band w2Band_unit w2Band_disjoint w2Band_cover _⟩

end Cert.KernelIdeal.Ring
-- ==== Proof.KernelIdealRules.lean ====
/-
# The rules of the body's other steps

The staged blocks' loads and stores, the barrier, and the loop over a pair of experts: two trips, each of which loads
one expert's weights from the two slots they were copied to.
-/
module

public import proofs.«01_k».proof.Proof.KernelIdealRing

@[expose] public section

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
section Rules
variable (K : Dev nD × Fin 25 → ℕ) (c : Dev nD) {α : Type} {Q : α → sProp (MT nD τ sig Unit (Elt F) ℕ UU ℕ)}

theorem zero2 : (![0, 0] : Fin 2 → Nat) = fun _ => 0 := by funext a; fin_cases a <;> rfl

def xPt : sProp 𝕄 := iprop(c.tc.loc cc0_stg0_0 ↦{fullShare} xstg m c)
def gPt : sProp 𝕄 := iprop(c.tc.loc cc0_stg1_0 ↦{fullShare} gstg m c)
def oAny : sProp 𝕄 := iprop(∃ f, c.tc.loc cc0_stg2_0 ↦{fullShare} f)
def oPt (w : (cc0_stg2_0 : Ref sig .tc).ty.Contents (Elt F)) : sProp 𝕄 := iprop(c.tc.loc cc0_stg2_0 ↦{fullShare} w)

theorem x_load {inb} {hl : xM.view.LoadsAt (Rect.unit (s := S256x1024) ![0, 0] S256x1024.size inb).toLoadRect}
    {k : Vec F S256x1024 .f32 → Prog (TpuEff nD τ sig (Elt F) Λ₀ .tc) α} :
    (xPt m c : sProp 𝕄) ⊢ iprop((xPt m c -∗ wp frame (wpE (defs₀ (F := F)) 𝒱₀ c.tc none) Set.univ (k (xstg m c)) Q)
        -∗ wp frame (wpE (defs₀ (F := F)) 𝒱₀ c.tc none) Set.univ
          (.op (.load xM (Rect.unit (s := S256x1024) ![0, 0] S256x1024.size inb).toLoadRect hl) k) Q) := by
  unfold xPt
  iintro H Hk
  iapply (wp_load 𝒱₀ c.tc none Set.univ (m := xM) (Finset.subset_univ _)) $$ H
  iintro H
  rw [show xM.view.readAt (Elt F) (Rect.unit (s := S256x1024) ![0, 0] S256x1024.size inb).toLoadRect (xstg m c) = xstg m c from
    Memref.readAt_unit_zero (Elt F) cc0_stg0_0 zero2 inb (xstg m c)]
  iapply Hk $$ H

theorem g_load {inb} {hl : gM.view.LoadsAt (Rect.unit (s := S1024x4) ![0, 0] S1024x4.size inb).toLoadRect}
    {k : Vec F S1024x4 .f32 → Prog (TpuEff nD τ sig (Elt F) Λ₀ .tc) α} :
    (gPt m c : sProp 𝕄) ⊢ iprop((gPt m c -∗ wp frame (wpE (defs₀ (F := F)) 𝒱₀ c.tc none) Set.univ (k (gstg m c)) Q)
        -∗ wp frame (wpE (defs₀ (F := F)) 𝒱₀ c.tc none) Set.univ
          (.op (.load gM (Rect.unit (s := S1024x4) ![0, 0] S1024x4.size inb).toLoadRect hl) k) Q) := by
  unfold gPt
  iintro H Hk
  iapply (wp_load 𝒱₀ c.tc none Set.univ (m := gM) (Finset.subset_univ _)) $$ H
  iintro H
  rw [show gM.view.readAt (Elt F) (Rect.unit (s := S1024x4) ![0, 0] S1024x4.size inb).toLoadRect (gstg m c) = gstg m c from
    Memref.readAt_unit_zero (Elt F) cc0_stg1_0 zero2 inb (gstg m c)]
  iapply Hk $$ H

theorem o_load {inb} {hl : oM.view.LoadsAt (Rect.unit (s := S256x1024) ![0, 0] S256x1024.size inb).toLoadRect}
    {k : Vec F S256x1024 .f32 → Prog (TpuEff nD τ sig (Elt F) Λ₀ .tc) α} :
    (oAny c : sProp 𝕄) ⊢ iprop((∀ f, oAny c -∗ wp frame (wpE (defs₀ (F := F)) 𝒱₀ c.tc none) Set.univ (k f) Q)
        -∗ wp frame (wpE (defs₀ (F := F)) 𝒱₀ c.tc none) Set.univ
          (.op (.load oM (Rect.unit (s := S256x1024) ![0, 0] S256x1024.size inb).toLoadRect hl) k) Q) := by
  unfold oAny
  iintro ⟨%f, H⟩ Hk
  iapply (wp_load 𝒱₀ c.tc none Set.univ (m := oM) (Finset.subset_univ _)) $$ H
  iintro H
  iapply Hk
  iexists f; iexact H

theorem o_store {inb} {w : Vec F S256x1024 .f32} {hx : (oM.access (Rect.unit (s := S256x1024) ![0, 0] S256x1024.size inb)).Stores Finset.univ}
    {hm : (Finset.univ : Finset (Rect.unit (s := S256x1024) ![0, 0] S256x1024.size inb).shape.Idx) = Finset.univ ∨ ∀ a, (Rect.unit (s := S256x1024) ![0, 0] S256x1024.size inb).stride a = 1}
    {k : PUnit → Prog (TpuEff nD τ sig (Elt F) Λ₀ .tc) α} :
    (oAny c : sProp 𝕄) ⊢ iprop((oPt c w -∗ wp frame (wpE (defs₀ (F := F)) 𝒱₀ c.tc none) Set.univ (k ⟨⟩) Q)
        -∗ wp frame (wpE (defs₀ (F := F)) 𝒱₀ c.tc none) Set.univ
          (.op (.store oM (Rect.unit (s := S256x1024) ![0, 0] S256x1024.size inb) w Finset.univ hx hm) k) Q) := by
  unfold oAny oPt
  iintro ⟨%f, H⟩ Hk
  iapply (wp_store 𝒱₀ c.tc none Set.univ (m := oM) (r := Rect.unit (s := S256x1024) ![0, 0] S256x1024.size inb) (Mk := Finset.univ) (Finset.subset_univ _)) $$ H
  iintro H
  rw [show (oM.access (Rect.unit (s := S256x1024) ![0, 0] S256x1024.size inb)).write (Elt F) f w Finset.univ = w from
    Memref.write_access_unit_zero_univ (Elt F) cc0_stg2_0 zero2 inb f w]
  iapply Hk $$ H

/-! The barrier. -/

theorem bar_prv {k : PUnit → Prog (TpuEff nD τ sig (Elt F) Λ₀ .tc) α} :
    (iprop(Env m K ∗ dutyTok ER (barCell (prv c)) 0 true ∗ lands (F := F) c ∗ (∃ W, owes c.tc (O₀ c) W)) : sProp 𝕄)
      ⊢ iprop(((∃ W, owes c.tc (O₁ c) W) -∗ wp frame (wpE (defs₀ (F := F)) 𝒱₀ c.tc none) Set.univ (k ⟨⟩) Q)
          -∗ wp frame (wpE (defs₀ (F := F)) 𝒱₀ c.tc none) Set.univ (.op (.semSignal (prv c).tc barS 1) k) Q) := by
  iintro ⟨#HE, Ht, Hl, ⟨%W, HO⟩⟩ Hk
  iapply (Rounds.wp_signal 𝒱₀ ER (ringRd m) c.tc none (dst := (prv c).tc) (κ := K (prv c, 0))
      (d := true) (by rw [duties_bar]; exact Finset.mem_univ _) (amount_bar m (prv c) true) () (O₁ c) rfl) $$ [HO Ht Hl]
  · isplitr; · iapply (Env_inv m K (prv c, 0)); iexact HE
    isplitl [HO]; · iexact HO
    isplitl [Ht]; · iexact Ht
    isplitl [Hl]
    · rw [show (ringRd m).payload (barCell (prv c)) 0 true = lands (F := F) (nxt (prv c)) from rfl, nxt_prv]
      iexact Hl
    · iapply (Env_reached m K (prv c, 0)); iexact HE
  iintro HO
  iapply Hk
  iexists W; iexact HO

theorem bar_nxt {k : PUnit → Prog (TpuEff nD τ sig (Elt F) Λ₀ .tc) α} :
    (iprop(Env m K ∗ dutyTok ER (barCell (nxt c)) 0 false ∗ (∃ W, owes c.tc (O₁ c) W)) : sProp 𝕄)
      ⊢ iprop((Ow c 12 -∗ wp frame (wpE (defs₀ (F := F)) 𝒱₀ c.tc none) Set.univ (k ⟨⟩) Q)
          -∗ wp frame (wpE (defs₀ (F := F)) 𝒱₀ c.tc none) Set.univ (.op (.semSignal (nxt c).tc barS 1) k) Q) := by
  unfold Ow
  iintro ⟨#HE, Ht, ⟨%W, HO⟩⟩ Hk
  iapply (Rounds.wp_signal 𝒱₀ ER (ringRd m) c.tc none (dst := (nxt c).tc) (κ := K (nxt c, 0))
      (d := false) (by rw [duties_bar]; exact Finset.mem_univ _) (amount_bar m (nxt c) false) () (OwR c 12) rfl) $$ [HO Ht]
  · isplitr; · iapply (Env_inv m K (nxt c, 0)); iexact HE
    isplitl [HO]; · iexact HO
    isplitl [Ht]; · iexact Ht
    isplitr
    · rw [show (ringRd m).payload (barCell (nxt c)) 0 false = (iprop(emp) : sProp 𝕄) from rfl]
      iempintro
    · iapply (Env_reached m K (nxt c, 0)); iexact HE
  iintro HO
  iapply Hk
  iexists W; iexact HO

theorem bar_wait {k : PUnit → Prog (TpuEff nD τ sig (Elt F) Λ₀ .tc) α} :
    (iprop(Env m K ∗ cred (tallyAt (barCell c) () 2) ∗ atPos ER (barCell c) 0 ∅ 0 ∗ Ow c 12) : sProp 𝕄)
      ⊢ iprop(((semVal (barCell c) 0 ∗ Ow c 12 ∗ lands (F := F) (nxt c)) -∗ wp frame (wpE (defs₀ (F := F)) 𝒱₀ c.tc none) Set.univ (k ⟨⟩) Q)
          -∗ wp frame (wpE (defs₀ (F := F)) 𝒱₀ c.tc none) Set.univ (.op (.semWait barS 2) k) Q) := by
  iintro ⟨#HE, Hc, Hat, HO⟩ Hk
  ihave #HI := (Env_inv m K (c, 0)) $$ HE
  unfold Ow
  icases HO with ⟨%W, HO⟩
  iapply (Rounds.wp_wait_rest_token 𝒱₀ ER (ringRd m) c.tc none (κ := K (c, 0))
      (wpE_semWait_eq 𝒱₀ c.tc none Set.univ) (Set.mem_univ _) () (O := OwR c 12) (W := W) (R := 0) (m := 0) (T := ∅)
      (by rw [expect_bar])) $$ [Hc HO Hat]
  · isplitr; · iexact HI
    isplitl [Hc]; · iexact Hc
    isplitl [HO]; · iexact HO
    isplitr
    · iapply (Env_mayWait m K c (.reg barS) 12 (le_refl _) (le_refl _)); iexact HE
    iexact Hat
  iintro ⟨HO, Hat, -, Hpay⟩
  imod (Rounds.cell_close ER (ringRd m) (Set.mem_univ (K (c, 0))) (fun h => h) (R := 0 + 1) (duties_later m (barCell c))) $$ [Hat] with Hz
  · isplitr; · iexact HI
    iexact Hat
  ihave Hpay := (Entails.of_eq (rest_bar m c)) $$ Hpay
  icases Hpay with ⟨-, Hpay⟩
  iapply Hk
  isplitl [Hz]; · iexact Hz
  isplitl [HO]; · iexists _; iexact HO
  iexact Hpay

/-! The loop over a pair of experts. -/

theorem f1_load0 {off : Fin 3 → ℕ} (h : off = ![0, 0, 0]) {inb} {hl : f1M.view.LoadsAt (Rect.unit (s := S2x1024x2048) off S1x1024x2048.size inb).toLoadRect}
    {k : Vec F S1x1024x2048 .f32 → Prog (TpuEff nD τ sig (Elt F) Λ₀ .tc) α} {X : Vec F S1x1024x2048 .f32} :
    (owns c.tc f1S0 fullShare X : sProp 𝕄)
      ⊢ iprop((owns c.tc f1S0 fullShare X -∗ wp frame (wpE (defs₀ (F := F)) 𝒱₀ c.tc none) Set.univ (k X) Q)
        -∗ wp frame (wpE (defs₀ (F := F)) 𝒱₀ c.tc none) Set.univ
          (.op (.load f1M (Rect.unit (s := S2x1024x2048) off S1x1024x2048.size inb).toLoadRect hl) k) Q) := by
  subst h; exact slot_load 𝒱₀ c.tc none f1M (Rect.unit (s := S2x1024x2048) ![0, 0, 0] S1x1024x2048.size inb)

theorem f1_load1 {off : Fin 3 → ℕ} (h : off = ![1, 0, 0]) {inb} {hl : f1M.view.LoadsAt (Rect.unit (s := S2x1024x2048) off S1x1024x2048.size inb).toLoadRect}
    {k : Vec F S1x1024x2048 .f32 → Prog (TpuEff nD τ sig (Elt F) Λ₀ .tc) α} {X : Vec F S1x1024x2048 .f32} :
    (owns c.tc f1S1 fullShare X : sProp 𝕄)
      ⊢ iprop((owns c.tc f1S1 fullShare X -∗ wp frame (wpE (defs₀ (F := F)) 𝒱₀ c.tc none) Set.univ (k X) Q)
        -∗ wp frame (wpE (defs₀ (F := F)) 𝒱₀ c.tc none) Set.univ
          (.op (.load f1M (Rect.unit (s := S2x1024x2048) off S1x1024x2048.size inb).toLoadRect hl) k) Q) := by
  subst h; exact slot_load 𝒱₀ c.tc none f1M (Rect.unit (s := S2x1024x2048) ![1, 0, 0] S1x1024x2048.size inb)

theorem f2_load0 {off : Fin 3 → ℕ} (h : off = ![0, 0, 0]) {inb} {hl : f2M.view.LoadsAt (Rect.unit (s := S2x2048x1024) off S1x2048x1024.size inb).toLoadRect}
    {k : Vec F S1x2048x1024 .f32 → Prog (TpuEff nD τ sig (Elt F) Λ₀ .tc) α} {X : Vec F S1x2048x1024 .f32} :
    (owns c.tc f2S0 fullShare X : sProp 𝕄)
      ⊢ iprop((owns c.tc f2S0 fullShare X -∗ wp frame (wpE (defs₀ (F := F)) 𝒱₀ c.tc none) Set.univ (k X) Q)
        -∗ wp frame (wpE (defs₀ (F := F)) 𝒱₀ c.tc none) Set.univ
          (.op (.load f2M (Rect.unit (s := S2x2048x1024) off S1x2048x1024.size inb).toLoadRect hl) k) Q) := by
  subst h; exact slot_load 𝒱₀ c.tc none f2M (Rect.unit (s := S2x2048x1024) ![0, 0, 0] S1x2048x1024.size inb)

theorem f2_load1 {off : Fin 3 → ℕ} (h : off = ![1, 0, 0]) {inb} {hl : f2M.view.LoadsAt (Rect.unit (s := S2x2048x1024) off S1x2048x1024.size inb).toLoadRect}
    {k : Vec F S1x2048x1024 .f32 → Prog (TpuEff nD τ sig (Elt F) Λ₀ .tc) α} {X : Vec F S1x2048x1024 .f32} :
    (owns c.tc f2S1 fullShare X : sProp 𝕄)
      ⊢ iprop((owns c.tc f2S1 fullShare X -∗ wp frame (wpE (defs₀ (F := F)) 𝒱₀ c.tc none) Set.univ (k X) Q)
        -∗ wp frame (wpE (defs₀ (F := F)) 𝒱₀ c.tc none) Set.univ
          (.op (.load f2M (Rect.unit (s := S2x2048x1024) off S1x2048x1024.size inb).toLoadRect hl) k) Q) := by
  subst h; exact slot_load 𝒱₀ c.tc none f2M (Rect.unit (s := S2x2048x1024) ![1, 0, 0] S1x2048x1024.size inb)

/-- The weights of the pair, in their slots. -/
def pairAt (A₀ A₁ : Vec F S1x1024x2048 .f32) (B₀ B₁ : Vec F S1x2048x1024 .f32) : sProp 𝕄 :=
  iprop(owns c.tc f1S0 fullShare A₀ ∗ owns c.tc f1S1 fullShare A₁
    ∗ owns c.tc f2S0 fullShare B₀ ∗ owns c.tc f2S1 fullShare B₁)

/-- The accumulator after `n` trips. -/
def accAt {σ : Type} (g : Fin 2 → σ → σ) (init : σ) : ℕ → σ
  | 0 => init
  | 1 => g 0 init
  | _ => g 1 (g 0 init)

theorem pair_loop {σ : Type} (l : Scf.Loop 32) (hok) (htr : l.trips = 2) (off1 off2 : Fin l.trips → Fin 3 → ℕ)
    (h1 : ∀ k, off1 k = ![k.val, 0, 0]) (h2 : ∀ k, off2 k = ![k.val, 0, 0])
    (inb1 : ∀ k, ∀ a, off1 k a + S1x1024x2048.size a ≤ S2x1024x2048.size a) (inb2 : ∀ k, ∀ a, off2 k a + S1x2048x1024.size a ≤ S2x2048x1024.size a)
    (hl1 : ∀ k, f1M.view.LoadsAt (Rect.unit (s := S2x1024x2048) (off1 k) S1x1024x2048.size (inb1 k)).toLoadRect)
    (hl2 : ∀ k, f2M.view.LoadsAt (Rect.unit (s := S2x2048x1024) (off2 k) S1x2048x1024.size (inb2 k)).toLoadRect)
    (g : Fin l.trips → σ → Vec F S1x1024x2048 .f32 → Vec F S1x2048x1024 .f32 → σ) (init : σ)
    {A₀ A₁ : Vec F S1x1024x2048 .f32} {B₀ B₁ : Vec F S1x2048x1024 .f32}
    {k : σ → Prog (TpuEff nD τ sig (Elt F) Λ₀ .tc) α} :
    (pairAt c A₀ A₁ B₀ B₁ : sProp 𝕄)
      ⊢ iprop((pairAt c A₀ A₁ B₀ B₁ -∗ wp frame (wpE (defs₀ (F := F)) 𝒱₀ c.tc none) Set.univ
            (k (g ⟨1, by omega⟩ (g ⟨0, by omega⟩ init A₀ B₀) A₁ B₁)) Q)
        -∗ wp frame (wpE (defs₀ (F := F)) 𝒱₀ c.tc none) Set.univ
          (Scf.Loop.for l hok init (fun k acc => Prog.op (.load f1M (Rect.unit (s := S2x1024x2048) (off1 k) S1x1024x2048.size (inb1 k)).toLoadRect (hl1 k))
              fun a => Prog.op (.load f2M (Rect.unit (s := S2x2048x1024) (off2 k) S1x2048x1024.size (inb2 k)).toLoadRect (hl2 k))
              fun b => Prog.ret (g k acc a b)) >>= k) Q) := by
  let st : Fin 2 → σ → σ := fun i acc => if i = 0 then g ⟨0, by omega⟩ acc A₀ B₀ else g ⟨1, by omega⟩ acc A₁ B₁
  iintro H Hk
  iapply (Scf.wp_for_bind frame (wpE (defs₀ (F := F)) 𝒱₀ c.tc none) Set.univ _ _ _ hok init _
    (fun n acc => iprop(⌜acc = accAt st init n⌝ ∗ pairAt c A₀ A₁ B₀ B₁)) (by
      intro k acc
      have hk : k.val = 0 ∨ k.val = 1 := by have := k.isLt; have h' : l.trips = 2 := htr; change k.val < l.trips at this; omega
      unfold pairAt
      iintro ⟨%hacc, H1, H2, H3, H4⟩
      rcases hk with hk | hk
      · iapply (f1_load0 c (by rw [h1 k, hk])) $$ H1
        iintro H1
        iapply (f2_load0 c (by rw [h2 k, hk])) $$ H3
        iintro H3
        rw [wp_ret]; imodintro
        isplitr
        · ipureintro
          subst hacc
          obtain ⟨kv, hkv⟩ := k
          have hv : kv = 0 := hk
          subst hv
          rfl
        isplitl [H1]; · iexact H1
        isplitl [H2]; · iexact H2
        isplitl [H3] <;> iassumption
      · iapply (f1_load1 c (by rw [h1 k, hk])) $$ H2
        iintro H2
        iapply (f2_load1 c (by rw [h2 k, hk])) $$ H4
        iintro H4
        rw [wp_ret]; imodintro
        isplitr
        · ipureintro
          subst hacc
          obtain ⟨kv, hkv⟩ := k
          have hv : kv = 1 := hk
          subst hv
          rfl
        isplitl [H1]; · iexact H1
        isplitl [H2]; · iexact H2
        isplitl [H3] <;> iassumption)) $$ [H]
  · isplitr
    · ipureintro; rfl
    iexact H
  iintro %acc ⟨%hacc, H⟩
  subst hacc
  rw [show Scf.trips l.lb l.ub l.st = 2 from htr]
  iapply Hk
  iexact H

end Rules

end Cert.KernelIdeal.Ring
-- ==== Proof.KernelIdealParts1.lean ====
/-
# The body's parts, 1 to 10

Each part of the body as printed: what it needs, and what it leaves.
-/
module

public import proofs.«01_k».proof.Proof.KernelIdealRules

@[expose] public section

set_option maxRecDepth 8000
set_option maxHeartbeats 4000000

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem Rh_nxt (h : ℕ) (c : Dev nD) : Rh m (h + 1) (nxt c) = Rh m h c := by unfold Rh; rw [back, prv_nxt]
theorem Xh_nxt (h : ℕ) (c : Dev nD) : Xh m (h + 1) (nxt c) = Xh m h c := by unfold Xh; rw [back, prv_nxt]
theorem Ih_nxt (h : ℕ) (c : Dev nD) : Ih m (h + 1) (nxt c) = Ih m h c := by unfold Ih; rw [back, prv_nxt]

/-! What a send's wait hands back, and what arrives, in the sender's terms. -/

theorem payS_0 (c : Dev nD) : (owns c.tc rS0 fullShare (Rh m 0 c) : sProp 𝕄) ⊢ dmaPay m (dsem 9).val c := Entails.of_eq rfl
theorem payR_0 (c : Dev nD) : (owns (nxt c).tc rS1 fullShare (Rh m 0 c) : sProp 𝕄) ⊢ dmaPay m (dsem 12).val (nxt c) :=
  Entails.of_eq (by rw [← Rh_nxt m 0 c]; rfl)
theorem payS_1 (c : Dev nD) : (owns c.tc rS1 fullShare (Rh m 1 c) : sProp 𝕄) ⊢ dmaPay m (dsem 10).val c := Entails.of_eq rfl
theorem payR_1 (c : Dev nD) : (owns (nxt c).tc rS2 fullShare (Rh m 1 c) : sProp 𝕄) ⊢ dmaPay m (dsem 13).val (nxt c) :=
  Entails.of_eq (by rw [← Rh_nxt m 1 c]; rfl)
theorem payS_2 (c : Dev nD) : (owns c.tc rS2 fullShare (Rh m 2 c) : sProp 𝕄) ⊢ dmaPay m (dsem 11).val c := Entails.of_eq rfl
theorem payR_2 (c : Dev nD) : (owns (nxt c).tc rS3 fullShare (Rh m 2 c) : sProp 𝕄) ⊢ dmaPay m (dsem 14).val (nxt c) :=
  Entails.of_eq (by rw [← Rh_nxt m 2 c]; rfl)
theorem payS_3 (c : Dev nD) : (owns c.tc xS0 fullShare.right (Xh m 0 c) : sProp 𝕄) ⊢ dmaPay m (dsem 3).val c := Entails.of_eq rfl
theorem payR_3 (c : Dev nD) : (owns (nxt c).tc xS1 fullShare (Xh m 0 c) : sProp 𝕄) ⊢ dmaPay m (dsem 6).val (nxt c) :=
  Entails.of_eq (by rw [← Xh_nxt m 0 c]; rfl)
theorem payS_4 (c : Dev nD) : (owns c.tc iS0 fullShare.right (Ih m 0 c) : sProp 𝕄) ⊢ dmaPay m (dsem 15).val c := Entails.of_eq rfl
theorem payR_4 (c : Dev nD) : (owns (nxt c).tc iS1 fullShare (Ih m 0 c) : sProp 𝕄) ⊢ dmaPay m (dsem 18).val (nxt c) :=
  Entails.of_eq (by rw [← Ih_nxt m 0 c]; rfl)
theorem payS_5 (c : Dev nD) : (owns c.tc xS1 fullShare.right (Xh m 1 c) : sProp 𝕄) ⊢ dmaPay m (dsem 4).val c := Entails.of_eq rfl
theorem payR_5 (c : Dev nD) : (owns (nxt c).tc xS2 fullShare (Xh m 1 c) : sProp 𝕄) ⊢ dmaPay m (dsem 7).val (nxt c) :=
  Entails.of_eq (by rw [← Xh_nxt m 1 c]; rfl)
theorem payS_6 (c : Dev nD) : (owns c.tc iS1 fullShare.right (Ih m 1 c) : sProp 𝕄) ⊢ dmaPay m (dsem 16).val c := Entails.of_eq rfl
theorem payR_6 (c : Dev nD) : (owns (nxt c).tc iS2 fullShare (Ih m 1 c) : sProp 𝕄) ⊢ dmaPay m (dsem 19).val (nxt c) :=
  Entails.of_eq (by rw [← Ih_nxt m 1 c]; rfl)
theorem payS_7 (c : Dev nD) : (owns c.tc xS2 fullShare.right (Xh m 2 c) : sProp 𝕄) ⊢ dmaPay m (dsem 5).val c := Entails.of_eq rfl
theorem payR_7 (c : Dev nD) : (owns (nxt c).tc xS3 fullShare (Xh m 2 c) : sProp 𝕄) ⊢ dmaPay m (dsem 8).val (nxt c) :=
  Entails.of_eq (by rw [← Xh_nxt m 2 c]; rfl)
theorem payS_8 (c : Dev nD) : (owns c.tc iS2 fullShare.right (Ih m 2 c) : sProp 𝕄) ⊢ dmaPay m (dsem 17).val c := Entails.of_eq rfl
theorem payR_8 (c : Dev nD) : (owns (nxt c).tc iS3 fullShare (Ih m 2 c) : sProp 𝕄) ⊢ dmaPay m (dsem 20).val (nxt c) :=
  Entails.of_eq (by rw [← Ih_nxt m 2 c]; rfl)
theorem payS_9 (c : Dev nD) : (owns c.tc sbS0 fullShare (red0 m c) : sProp 𝕄) ⊢ dmaPay m (dsem 21).val c := Entails.of_eq rfl
theorem payR_9 (c : Dev nD) : (owns (nxt c).tc rbS0 fullShare (red0 m c) : sProp 𝕄) ⊢ dmaPay m (dsem 24).val (nxt c) := by
  rw [show dmaPay m (dsem 24).val (nxt c) = owns (nxt c).tc rbS0 fullShare (red0 m (prv (nxt c))) from rfl, prv_nxt]
theorem payS_10 (c : Dev nD) : (owns c.tc sbS1 fullShare (red1 m c) : sProp 𝕄) ⊢ dmaPay m (dsem 22).val c := Entails.of_eq rfl
theorem payR_10 (c : Dev nD) : (owns (nxt c).tc rbS1 fullShare (red1 m c) : sProp 𝕄) ⊢ dmaPay m (dsem 25).val (nxt c) := by
  rw [show dmaPay m (dsem 25).val (nxt c) = owns (nxt c).tc rbS1 fullShare (red1 m (prv (nxt c))) from rfl, prv_nxt]
theorem payS_11 (c : Dev nD) : (owns c.tc sbS2 fullShare (red2 m c) : sProp 𝕄) ⊢ dmaPay m (dsem 23).val c := Entails.of_eq rfl
theorem payR_11 (c : Dev nD) : (owns (nxt c).tc rbS2 fullShare (red2 m c) : sProp 𝕄) ⊢ dmaPay m (dsem 26).val (nxt c) := by
  rw [show dmaPay m (dsem 26).val (nxt c) = owns (nxt c).tc rbS2 fullShare (red2 m (prv (nxt c))) from rfl, prv_nxt]
section Parts
variable (K : Dev nD × Fin 25 → ℕ) (c : Dev nD) {α : Type} {Q : α → sProp (MT nD τ sig Unit (Elt F) ℕ UU ℕ)}

theorem part1_wp {k : _ → Prog (TpuEff nD τ sig (Elt F) Λ₀ .tc) α} :
    (iprop(Env m K ∗ owns c.tc w1S0 fullShare (w1v0 m c) ∗ slot (F := F) c f1S0 ∗ semVal (dCell c (dsem 27)) 0 ∗ owns c.tc w2S0 fullShare (w2v0 m c) ∗ slot (F := F) c f2S0 ∗ semVal (dCell c (dsem 29)) 0) : sProp 𝕄)
      ⊢ iprop((∀ v2, ∀ v5, ∀ v10, ∀ v13, (Flight EC c.tc (.dma (dsem 27)) () NW1 iprop(owns c.tc f1S0 fullShare (w1v0 m c) ∗ owns c.tc w1S0 fullShare (w1v0 m c)) ∗ Flight EC c.tc (.dma (dsem 29)) () NW2 iprop(owns c.tc f2S0 fullShare (w2v0 m c) ∗ owns c.tc w2S0 fullShare (w2v0 m c))) -∗ wp frame (wpE (defs₀ (F := F)) 𝒱₀ c.tc none) Set.univ (k ⟨c, v2, v5, zw c, v10, v13⟩) Q)
          -∗ wp frame (wpE (defs₀ (F := F)) 𝒱₀ c.tc none) Set.univ (k0_part1 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 >>= k) Q) := by
  rw [k0_part1_eq_skeleton]
  unfold k0_part1_skel
  simp only [semSignalWord, semWaitWord, Prog.lift, Prog.bind_op, Prog.bind_ret, Prog.pure_eq_ret, Prog.bind_assoc, wp_deviceId, slice27, slice29]
  iintro ⟨#HE, W1_0, F1_0, Z27, W2_0, F2_0, Z29⟩ Hk
  iapply (local_dma c (dsem 27) slice27 w1S0 f1S0 squeezes_S1x1024x2048_S1024x2048 squeezes_S1x1024x2048_S1024x2048 (N := NW1) rfl NW1_pos) $$ [W1_0 F1_0 Z27]
  · isplitl [W1_0]; · iexact W1_0
    isplitl [F1_0]; · iexact F1_0
    iexact Z27
  iintro FL27
  iapply (local_dma c (dsem 29) slice29 w2S0 f2S0 squeezes_S1x2048x1024_S2048x1024 squeezes_S1x2048x1024_S2048x1024 (N := NW2) rfl NW2_pos) $$ [W2_0 F2_0 Z29]
  · isplitl [W2_0]; · iexact W2_0
    isplitl [F2_0]; · iexact F2_0
    iexact Z29
  iintro FL29
  iapply Hk
  isplitl [FL27]; · iexact FL27
  iexact FL29

theorem part2_wp {v2 v5 v10 v13 : BitVec 32} {v : FVec F S1x1024x4 .f32} (hv : v = k0_pay2 (gstg m c)) {k : _ → Prog (TpuEff nD τ sig (Elt F) Λ₀ .tc) α} :
    (iprop(Env m K ∗ owns c.tc w1S1 fullShare (w1v1 m c) ∗ slot (F := F) c f1S1 ∗ semVal (dCell c (dsem 28)) 0 ∗ owns c.tc w2S1 fullShare (w2v1 m c) ∗ slot (F := F) c f2S1 ∗ semVal (dCell c (dsem 30)) 0 ∗ dutyTok ER (barCell (prv c)) 0 true ∗ lands (F := F) c ∗ (∃ W, owes c.tc (O₀ c) W) ∗ dutyTok ER (barCell (nxt c)) 0 false ∗ cred (tallyAt (barCell c) () 2) ∗ atPos ER (barCell c) 0 ∅ 0 ∗ gPt m c ∗ slot (F := F) c rS0) : sProp 𝕄)
      ⊢ iprop(((Flight EC c.tc (.dma (dsem 28)) () NW1 iprop(owns c.tc f1S1 fullShare (w1v1 m c) ∗ owns c.tc w1S1 fullShare (w1v1 m c)) ∗ Flight EC c.tc (.dma (dsem 30)) () NW2 iprop(owns c.tc f2S1 fullShare (w2v1 m c) ∗ owns c.tc w2S1 fullShare (w2v1 m c)) ∗ semVal (barCell c) 0 ∗ Ow c 12 ∗ slot (F := F) (nxt c) rS1 ∗ slot (F := F) (nxt c) rS2 ∗ slot (F := F) (nxt c) rS3 ∗ slot (F := F) (nxt c) xS1 ∗ slot (F := F) (nxt c) iS1 ∗ slot (F := F) (nxt c) xS2 ∗ slot (F := F) (nxt c) iS2 ∗ slot (F := F) (nxt c) xS3 ∗ slot (F := F) (nxt c) iS3 ∗ slot (F := F) (nxt c) rbS0 ∗ slot (F := F) (nxt c) rbS1 ∗ slot (F := F) (nxt c) rbS2 ∗ gPt m c ∗ slot (F := F) c rS0) -∗ wp frame (wpE (defs₀ (F := F)) 𝒱₀ c.tc none) Set.univ (k v) Q)
          -∗ wp frame (wpE (defs₀ (F := F)) 𝒱₀ c.tc none) Set.univ (k0_part2 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 v13 >>= k) Q) := by
  subst hv
  rw [k0_part2_eq_skeleton]
  unfold k0_part2_skel
  simp only [semSignalWord, semWaitWord, Prog.lift, Prog.bind_op, Prog.bind_ret, Prog.pure_eq_ret, Prog.bind_assoc, wp_deviceId, slice28, slice30, dev1_eq c, dev2_eq c]
  iintro ⟨#HE, W1_1, F1_1, Z28, W2_1, F2_1, Z30, TB1, LA, OO, TB2, CB, AB, GP, R_0⟩ Hk
  iapply (local_dma c (dsem 28) slice28 w1S1 f1S1 squeezes_S1x1024x2048_S1024x2048 squeezes_S1x1024x2048_S1024x2048 (N := NW1) rfl NW1_pos) $$ [W1_1 F1_1 Z28]
  · isplitl [W1_1]; · iexact W1_1
    isplitl [F1_1]; · iexact F1_1
    iexact Z28
  iintro FL28
  iapply (local_dma c (dsem 30) slice30 w2S1 f2S1 squeezes_S1x2048x1024_S2048x1024 squeezes_S1x2048x1024_S2048x1024 (N := NW2) rfl NW2_pos) $$ [W2_1 F2_1 Z30]
  · isplitl [W2_1]; · iexact W2_1
    isplitl [F2_1]; · iexact F2_1
    iexact Z30
  iintro FL30
  iapply (bar_prv m K c) $$ [TB1 LA OO]
  · isplitr; · iexact HE
    isplitl [TB1]; · iexact TB1
    isplitl [LA]; · iexact LA
    iexact OO
  iintro OO
  iapply (bar_nxt m K c) $$ [TB2 OO]
  · isplitr; · iexact HE
    isplitl [TB2]; · iexact TB2
    iexact OO
  iintro OW
  iapply (bar_wait m K c) $$ [CB AB OW]
  · isplitr; · iexact HE
    isplitl [CB]; · iexact CB
    isplitl [AB]; · iexact AB
    iexact OW
  iintro ⟨ZB, OW, LA⟩
  unfold lands
  icases LA with ⟨D_0, D_1, D_2, D_3, D_4, D_5, D_6, D_7, D_8, D_9, D_10, D_11⟩
  iapply (g_load m c) $$ GP
  iintro GP
  iapply (load_any c rcM (Rect.unit (s := S4x1024x4) ![0, 0, 0] S1x1024x4.size inb_S4x1024x4_S1x1024x4_0_0_0) (fun _ => rfl)) $$ R_0
  iintro %_ R_0
  iapply Hk
  isplitl [FL28]; · iexact FL28
  isplitl [FL30]; · iexact FL30
  isplitl [ZB]; · iexact ZB
  isplitl [OW]; · iexact OW
  isplitl [D_0]; · iexact D_0
  isplitl [D_1]; · iexact D_1
  isplitl [D_2]; · iexact D_2
  isplitl [D_3]; · iexact D_3
  isplitl [D_4]; · iexact D_4
  isplitl [D_5]; · iexact D_5
  isplitl [D_6]; · iexact D_6
  isplitl [D_7]; · iexact D_7
  isplitl [D_8]; · iexact D_8
  isplitl [D_9]; · iexact D_9
  isplitl [D_10]; · iexact D_10
  isplitl [D_11]; · iexact D_11
  isplitl [GP]; · iexact GP
  iexact R_0

theorem part3_wp {v2 v5 v10 : BitVec 32} {k : _ → Prog (TpuEff nD τ sig (Elt F) Λ₀ .tc) α} :
    (iprop(Env m K ∗ slot (F := F) c rS0 ∗ slot (F := F) (nxt c) rS1 ∗ X0 c (dsem 9) (dsem 12) ∗ Ow c 12) : sProp 𝕄)
      ⊢ iprop(((X2 c (dsem 9) (dsem 12) ∗ Ow c 11 ∗ owns c.tc rS0 fullShare (Rh m 0 c)) -∗ wp frame (wpE (defs₀ (F := F)) 𝒱₀ c.tc none) Set.univ (k ⟨⟩) Q)
          -∗ wp frame (wpE (defs₀ (F := F)) 𝒱₀ c.tc none) Set.univ (k0_part3 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 (Rh m 0 c) >>= k) Q) := by
  rw [k0_part3_eq_skeleton]
  unfold k0_part3_skel
  simp only [semSignalWord, semWaitWord, Prog.lift, Prog.bind_op, Prog.bind_ret, Prog.pure_eq_ret, Prog.bind_assoc, wp_deviceId, slice9, slice12, dev3_eq c]
  iintro ⟨#HE, R_0, D_0, T_0, OW⟩ Hk
  iapply (store_any c rcM (Rect.unit (s := S4x1024x4) ![0, 0, 0] S1x1024x4.size inb_S4x1024x4_S1x1024x4_0_0_0) (fun _ => rfl)) $$ R_0
  iintro R_0
  iapply (send_cell m K c (dsem 9) (dsem 12) slice9 slice12 11 (by decide) (by decide) (dev3_eq c) rfl rS0 rS1 squeezes_S1x1024x4_S1024x4 squeezes_S1x1024x4_S1024x4 rfl rfl (payS_0 m c) (payR_0 m c)) $$ [R_0 D_0 T_0 OW]
  · isplitr; · iexact HE
    isplitl [R_0]; · iexact R_0
    isplitl [D_0]; · iexact D_0
    isplitl [T_0]; · iexact T_0
    iexact OW
  iintro ⟨T_0, OW⟩
  iapply (wait_send m K c (dsem 9) (dsem 12) slice9 11 (by decide) (by decide) (by show dmaLv _ + _ ≤ _; decide) (dstw := (rS0.squeeze S1024x4 squeezes_S1x1024x4_S1024x4)) rfl (P := owns c.tc rS0 fullShare (Rh m 0 c)) rfl) $$ [T_0 OW]
  · isplitr; · iexact HE
    isplitl [T_0]; · iexact T_0
    iexact OW
  iintro ⟨T_0, OW, R_0⟩
  iapply Hk
  isplitl [T_0]; · iexact T_0
  isplitl [OW]; · iexact OW
  iexact R_0

theorem part4_wp {v2 v5 v10 : BitVec 32} {k : _ → Prog (TpuEff nD τ sig (Elt F) Λ₀ .tc) α} :
    (iprop(Env m K ∗ X2 c (dsem 9) (dsem 12) ∗ Ow c 11 ∗ slot (F := F) (nxt c) rS2 ∗ X0 c (dsem 10) (dsem 13)) : sProp 𝕄)
      ⊢ iprop((∀ w, (X3 c (dsem 9) (dsem 12) ∗ X2 c (dsem 10) (dsem 13) ∗ Ow c 10 ∗ owns c.tc rS1 fullShare (Rh m 1 c)) -∗ wp frame (wpE (defs₀ (F := F)) 𝒱₀ c.tc none) Set.univ (k w) Q)
          -∗ wp frame (wpE (defs₀ (F := F)) 𝒱₀ c.tc none) Set.univ (k0_part4 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 >>= k) Q) := by
  rw [k0_part4_eq_skeleton]
  unfold k0_part4_skel
  simp only [semSignalWord, semWaitWord, Prog.lift, Prog.bind_op, Prog.bind_ret, Prog.pure_eq_ret, Prog.bind_assoc, wp_deviceId, slice9, slice10, slice12, slice13, dev4_eq c]
  iintro ⟨#HE, T_0, OW, D_1, T_1⟩ Hk
  iapply (wait_recv m K c (dsem 9) (dsem 12) slice12 11 (by decide) (by decide) (by show dmaLv _ + _ ≤ _; decide) (dstw := (rS1.squeeze S1024x4 squeezes_S1x1024x4_S1024x4)) rfl (P := owns c.tc rS1 fullShare (Rh m 1 c)) rfl) $$ [T_0 OW]
  · isplitr; · iexact HE
    isplitl [T_0]; · iexact T_0
    iexact OW
  iintro ⟨T_0, OW, R_1⟩
  iapply (send_cell m K c (dsem 10) (dsem 13) slice10 slice13 10 (by decide) (by decide) (dev4_eq c) rfl rS1 rS2 squeezes_S1x1024x4_S1024x4 squeezes_S1x1024x4_S1024x4 rfl rfl (payS_1 m c) (payR_1 m c)) $$ [R_1 D_1 T_1 OW]
  · isplitr; · iexact HE
    isplitl [R_1]; · iexact R_1
    isplitl [D_1]; · iexact D_1
    isplitl [T_1]; · iexact T_1
    iexact OW
  iintro ⟨T_1, OW⟩
  iapply (wait_send m K c (dsem 10) (dsem 13) slice10 10 (by decide) (by decide) (by show dmaLv _ + _ ≤ _; decide) (dstw := (rS1.squeeze S1024x4 squeezes_S1x1024x4_S1024x4)) rfl (P := owns c.tc rS1 fullShare (Rh m 1 c)) rfl) $$ [T_1 OW]
  · isplitr; · iexact HE
    isplitl [T_1]; · iexact T_1
    iexact OW
  iintro ⟨T_1, OW, R_1⟩
  iapply Hk
  isplitl [T_0]; · iexact T_0
  isplitl [T_1]; · iexact T_1
  isplitl [OW]; · iexact OW
  iexact R_1

theorem part5_wp {v2 v5 v10 w : BitVec 32} {k : _ → Prog (TpuEff nD τ sig (Elt F) Λ₀ .tc) α} :
    (iprop(Env m K ∗ X2 c (dsem 10) (dsem 13) ∗ Ow c 10 ∗ slot (F := F) (nxt c) rS3 ∗ X0 c (dsem 11) (dsem 14)) : sProp 𝕄)
      ⊢ iprop(((X3 c (dsem 10) (dsem 13) ∗ X2 c (dsem 11) (dsem 14) ∗ Ow c 9 ∗ owns c.tc rS2 fullShare (Rh m 2 c)) -∗ wp frame (wpE (defs₀ (F := F)) 𝒱₀ c.tc none) Set.univ (k ⟨⟩) Q)
          -∗ wp frame (wpE (defs₀ (F := F)) 𝒱₀ c.tc none) Set.univ (k0_part5 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 w >>= k) Q) := by
  rw [k0_part5_eq_skeleton]
  unfold k0_part5_skel
  simp only [semSignalWord, semWaitWord, Prog.lift, Prog.bind_op, Prog.bind_ret, Prog.pure_eq_ret, Prog.bind_assoc, wp_deviceId, slice10, slice11, slice13, slice14, dev5_eq c]
  iintro ⟨#HE, T_1, OW, D_2, T_2⟩ Hk
  iapply (wait_recv m K c (dsem 10) (dsem 13) slice13 10 (by decide) (by decide) (by show dmaLv _ + _ ≤ _; decide) (dstw := (rS2.squeeze S1024x4 squeezes_S1x1024x4_S1024x4)) rfl (P := owns c.tc rS2 fullShare (Rh m 2 c)) rfl) $$ [T_1 OW]
  · isplitr; · iexact HE
    isplitl [T_1]; · iexact T_1
    iexact OW
  iintro ⟨T_1, OW, R_2⟩
  iapply (send_cell m K c (dsem 11) (dsem 14) slice11 slice14 9 (by decide) (by decide) (dev5_eq c) rfl rS2 rS3 squeezes_S1x1024x4_S1024x4 squeezes_S1x1024x4_S1024x4 rfl rfl (payS_2 m c) (payR_2 m c)) $$ [R_2 D_2 T_2 OW]
  · isplitr; · iexact HE
    isplitl [R_2]; · iexact R_2
    isplitl [D_2]; · iexact D_2
    isplitl [T_2]; · iexact T_2
    iexact OW
  iintro ⟨T_2, OW⟩
  iapply (wait_send m K c (dsem 11) (dsem 14) slice11 9 (by decide) (by decide) (by show dmaLv _ + _ ≤ _; decide) (dstw := (rS2.squeeze S1024x4 squeezes_S1x1024x4_S1024x4)) rfl (P := owns c.tc rS2 fullShare (Rh m 2 c)) rfl) $$ [T_2 OW]
  · isplitr; · iexact HE
    isplitl [T_2]; · iexact T_2
    iexact OW
  iintro ⟨T_2, OW, R_2⟩
  iapply Hk
  isplitl [T_1]; · iexact T_1
  isplitl [T_2]; · iexact T_2
  isplitl [OW]; · iexact OW
  iexact R_2

theorem part6_wp {v2 v5 v10 : BitVec 32} {g : FVec F S256x16 .f32} {t : FVec F S256x1 .f32} {b : IVec S256x16 1} (hg : g = gat m c) (ht : t = top m c) (hb : b = hit m c) {k : _ → Prog (TpuEff nD τ sig (Elt F) Λ₀ .tc) α} :
    (iprop(Env m K ∗ X2 c (dsem 11) (dsem 14) ∗ Ow c 9 ∗ xPt m c ∗ owns c.tc rS0 fullShare (Rh m 0 c) ∗ owns c.tc rS1 fullShare (Rh m 1 c) ∗ owns c.tc rS2 fullShare (Rh m 2 c)) : sProp 𝕄)
      ⊢ iprop(((X3 c (dsem 11) (dsem 14) ∗ Ow c 9 ∗ owns c.tc rS3 fullShare (Rh m 3 c) ∗ xPt m c ∗ owns c.tc rS0 fullShare (Rh m 0 c) ∗ owns c.tc rS1 fullShare (Rh m 1 c) ∗ owns c.tc rS2 fullShare (Rh m 2 c)) -∗ wp frame (wpE (defs₀ (F := F)) 𝒱₀ c.tc none) Set.univ (k ⟨k0_pay3 (xstg m c), g, io16, t, b, k0_pay7⟩) Q)
          -∗ wp frame (wpE (defs₀ (F := F)) 𝒱₀ c.tc none) Set.univ (k0_part6 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 v10 >>= k) Q) := by
  subst hg ht hb
  rw [k0_part6_eq_skeleton]
  unfold k0_part6_skel
  simp only [semSignalWord, semWaitWord, Prog.lift, Prog.bind_op, Prog.bind_ret, Prog.pure_eq_ret, Prog.bind_assoc, wp_deviceId, slice11, slice14]
  iintro ⟨#HE, T_2, OW, XP, R_0, R_1, R_2⟩ Hk
  iapply (wait_recv m K c (dsem 11) (dsem 14) slice14 9 (by decide) (by decide) (by show dmaLv _ + _ ≤ _; decide) (dstw := (rS3.squeeze S1024x4 squeezes_S1x1024x4_S1024x4)) rfl (P := owns c.tc rS3 fullShare (Rh m 3 c)) rfl) $$ [T_2 OW]
  · isplitr; · iexact HE
    isplitl [T_2]; · iexact T_2
    iexact OW
  iintro ⟨T_2, OW, R_3⟩
  iapply (x_load m c) $$ XP
  iintro XP
  iapply (slot_load 𝒱₀ c.tc none rcM (Rect.unit (s := S4x1024x4) ![0, 0, 0] S1x1024x4.size inb_S4x1024x4_S1x1024x4_0_0_0) (hr := fun _ => rfl)) $$ R_0
  iintro R_0
  iapply (slot_load 𝒱₀ c.tc none rcM (Rect.unit (s := S4x1024x4) ![1, 0, 0] S1x1024x4.size inb_S4x1024x4_S1x1024x4_1_0_0) (hr := fun _ => rfl)) $$ R_1
  iintro R_1
  iapply (slot_load 𝒱₀ c.tc none rcM (Rect.unit (s := S4x1024x4) ![2, 0, 0] S1x1024x4.size inb_S4x1024x4_S1x1024x4_2_0_0) (hr := fun _ => rfl)) $$ R_2
  iintro R_2
  iapply (slot_load 𝒱₀ c.tc none rcM (Rect.unit (s := S4x1024x4) ![3, 0, 0] S1x1024x4.size inb_S4x1024x4_S1x1024x4_3_0_0) (hr := fun _ => rfl)) $$ R_3
  iintro R_3
  iapply Hk
  isplitl [T_2]; · iexact T_2
  isplitl [OW]; · iexact OW
  isplitl [R_3]; · iexact R_3
  isplitl [XP]; · iexact XP
  isplitl [R_0]; · iexact R_0
  isplitl [R_1]; · iexact R_1
  iexact R_2

theorem part7_wp {v8 : BitVec 32} {v163 : FVec F S256x16 .f32} {v164 : IVec S256x16 32} {v168 : IVec S256x16 1} {v169 : IVec S256x16 32} {k : _ → Prog (TpuEff nD τ sig (Elt F) Λ₀ .tc) α} :
    (iprop(Env m K) : sProp 𝕄)
      ⊢ iprop(((emp) -∗ wp frame (wpE (defs₀ (F := F)) 𝒱₀ c.tc none) Set.univ (k ⟨k0_pay8 v164 v168 v169, k0_pay10 v163 v164 v168 v169, k0_pay11 v163 v164 v168 v169, k0_pay12 v8 v164 v168 v169, 4#32⟩) Q)
          -∗ wp frame (wpE (defs₀ (F := F)) 𝒱₀ c.tc none) Set.univ (k0_part7 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v8 v163 v164 v168 v169 >>= k) Q) := by
  rw [k0_part7_eq_skeleton]
  unfold k0_part7_skel
  simp only [semSignalWord, semWaitWord, Prog.lift, Prog.bind_op, Prog.bind_ret, Prog.pure_eq_ret, Prog.bind_assoc, wp_deviceId]
  iintro #HE Hk
  iapply Hk
  iempintro

theorem part8_wp {v8 c4 : BitVec 32} {v166 v178 : FVec F S256x1 .f32} {v172 v184 v214 : IVec S256x1 32} {k : _ → Prog (TpuEff nD τ sig (Elt F) Λ₀ .tc) α} :
    (iprop(Env m K) : sProp 𝕄)
      ⊢ iprop(((emp) -∗ wp frame (wpE (defs₀ (F := F)) 𝒱₀ c.tc none) Set.univ (k ⟨k0_pay13 v172 v214 c4, k0_pay14 v8 v184, k0_pay15 v166 v178, k0_pay16 v166 v178⟩) Q)
          -∗ wp frame (wpE (defs₀ (F := F)) 𝒱₀ c.tc none) Set.univ (k0_part8 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v8 v166 v172 v178 v184 v214 c4 >>= k) Q) := by
  rw [k0_part8_eq_skeleton]
  unfold k0_part8_skel
  simp only [semSignalWord, semWaitWord, Prog.lift, Prog.bind_op, Prog.bind_ret, Prog.pure_eq_ret, Prog.bind_assoc, wp_deviceId]
  iintro #HE Hk
  iapply Hk
  iempintro

theorem part9_wp {v153 : FVec F S256x1024 .f32} {v219 v254 : IVec S256x1 32} {v256 v260 : FVec F S256x1 .f32} (hx : k0_pay17 v153 = Xh m 0 c) (hi : k0_pay18 v219 v254 v256 v260 = Ih m 0 c) {k : _ → Prog (TpuEff nD τ sig (Elt F) Λ₀ .tc) α} :
    (iprop(Env m K ∗ slot (F := F) c xS0 ∗ slot (F := F) c iS0 ∗ Flight EC c.tc (.dma (dsem 27)) () NW1 iprop(owns c.tc f1S0 fullShare (w1v0 m c) ∗ owns c.tc w1S0 fullShare (w1v0 m c)) ∗ Ow c 9 ∗ Flight EC c.tc (.dma (dsem 29)) () NW2 iprop(owns c.tc f2S0 fullShare (w2v0 m c) ∗ owns c.tc w2S0 fullShare (w2v0 m c))) : sProp 𝕄)
      ⊢ iprop(((owns c.tc xS0 fullShare (Xh m 0 c) ∗ owns c.tc iS0 fullShare (Ih m 0 c) ∗ Ow c 9 ∗ owns c.tc f1S0 fullShare (w1v0 m c) ∗ owns c.tc w1S0 fullShare (w1v0 m c) ∗ semVal (dCell c (dsem 27)) 0 ∗ owns c.tc f2S0 fullShare (w2v0 m c) ∗ owns c.tc w2S0 fullShare (w2v0 m c) ∗ semVal (dCell c (dsem 29)) 0) -∗ wp frame (wpE (defs₀ (F := F)) 𝒱₀ c.tc none) Set.univ (k ⟨⟩) Q)
          -∗ wp frame (wpE (defs₀ (F := F)) 𝒱₀ c.tc none) Set.univ (k0_part9 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v153 v219 v254 v256 v260 >>= k) Q) := by
  rw [k0_part9_eq_skeleton]
  unfold k0_part9_skel
  simp only [hx, hi, semSignalWord, semWaitWord, Prog.lift, Prog.bind_op, Prog.bind_ret, Prog.pure_eq_ret, Prog.bind_assoc, wp_deviceId, slice27, slice29]
  iintro ⟨#HE, X_0, I_0, FL27, OW, FL29⟩ Hk
  iapply (load_any c xcM (Rect.unit (s := S4x256x1024) ![0, 0, 0] S1x256x1024.size inb_S4x256x1024_S1x256x1024_0_0_0) (fun _ => rfl)) $$ X_0
  iintro %_ X_0
  iapply (store_any c xcM (Rect.unit (s := S4x256x1024) ![0, 0, 0] S1x256x1024.size inb_S4x256x1024_S1x256x1024_0_0_0) (fun _ => rfl)) $$ X_0
  iintro X_0
  iapply (load_any c icM (Rect.unit (s := S4x256x4) ![0, 0, 0] S1x256x4.size inb_S4x256x4_S1x256x4_0_0_0) (fun _ => rfl)) $$ I_0
  iintro %_ I_0
  iapply (store_any c icM (Rect.unit (s := S4x256x4) ![0, 0, 0] S1x256x4.size inb_S4x256x4_S1x256x4_0_0_0) (fun _ => rfl)) $$ I_0
  iintro I_0
  iapply (local_wait m K c (dsem 27) slice27 9 (by decide) (by show dmaLv _ + _ ≤ _; decide) (dstw := f1S0.squeeze S1024x2048 squeezes_S1x1024x2048_S1024x2048) (N := NW1) rfl) $$ [FL27 OW]
  · isplitr; · iexact HE
    isplitl [FL27]; · iexact FL27
    iexact OW
  iintro ⟨⟨F1_0, W1_0⟩, Z27, OW⟩
  iapply (local_wait m K c (dsem 29) slice29 9 (by decide) (by show dmaLv _ + _ ≤ _; decide) (dstw := f2S0.squeeze S2048x1024 squeezes_S1x2048x1024_S2048x1024) (N := NW2) rfl) $$ [FL29 OW]
  · isplitr; · iexact HE
    isplitl [FL29]; · iexact FL29
    iexact OW
  iintro ⟨⟨F2_0, W2_0⟩, Z29, OW⟩
  iapply Hk
  isplitl [X_0]; · iexact X_0
  isplitl [I_0]; · iexact I_0
  isplitl [OW]; · iexact OW
  isplitl [F1_0]; · iexact F1_0
  isplitl [W1_0]; · iexact W1_0
  isplitl [Z27]; · iexact Z27
  isplitl [F2_0]; · iexact F2_0
  isplitl [W2_0]; · iexact W2_0
  iexact Z29

theorem part10_wp {v2 v5 v10 : BitVec 32} {k : _ → Prog (TpuEff nD τ sig (Elt F) Λ₀ .tc) α} :
    (iprop(Env m K ∗ Flight EC c.tc (.dma (dsem 28)) () NW1 iprop(owns c.tc f1S1 fullShare (w1v1 m c) ∗ owns c.tc w1S1 fullShare (w1v1 m c)) ∗ Ow c 9 ∗ Flight EC c.tc (.dma (dsem 30)) () NW2 iprop(owns c.tc f2S1 fullShare (w2v1 m c) ∗ owns c.tc w2S1 fullShare (w2v1 m c)) ∗ owns c.tc xS0 fullShare (Xh m 0 c) ∗ slot (F := F) (nxt c) xS1 ∗ X0 c (dsem 3) (dsem 6)) : sProp 𝕄)
      ⊢ iprop(((owns c.tc f1S1 fullShare (w1v1 m c) ∗ owns c.tc w1S1 fullShare (w1v1 m c) ∗ semVal (dCell c (dsem 28)) 0 ∗ owns c.tc f2S1 fullShare (w2v1 m c) ∗ owns c.tc w2S1 fullShare (w2v1 m c) ∗ semVal (dCell c (dsem 30)) 0 ∗ owns c.tc xS0 fullShare.left (Xh m 0 c) ∗ X1 c (dsem 3) (dsem 6) ∗ Ow c 8) -∗ wp frame (wpE (defs₀ (F := F)) 𝒱₀ c.tc none) Set.univ (k ⟨⟩) Q)
          -∗ wp frame (wpE (defs₀ (F := F)) 𝒱₀ c.tc none) Set.univ (k0_part10 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 >>= k) Q) := by
  rw [k0_part10_eq_skeleton]
  unfold k0_part10_skel
  simp only [semSignalWord, semWaitWord, Prog.lift, Prog.bind_op, Prog.bind_ret, Prog.pure_eq_ret, Prog.bind_assoc, wp_deviceId, slice3, slice6, slice28, slice30, dev6_eq c]
  iintro ⟨#HE, FL28, OW, FL30, X_0, D_3, T_3⟩ Hk
  iapply (local_wait m K c (dsem 28) slice28 9 (by decide) (by show dmaLv _ + _ ≤ _; decide) (dstw := f1S1.squeeze S1024x2048 squeezes_S1x1024x2048_S1024x2048) (N := NW1) rfl) $$ [FL28 OW]
  · isplitr; · iexact HE
    isplitl [FL28]; · iexact FL28
    iexact OW
  iintro ⟨⟨F1_1, W1_1⟩, Z28, OW⟩
  iapply (local_wait m K c (dsem 30) slice30 9 (by decide) (by show dmaLv _ + _ ≤ _; decide) (dstw := f2S1.squeeze S2048x1024 squeezes_S1x2048x1024_S2048x1024) (N := NW2) rfl) $$ [FL30 OW]
  · isplitr; · iexact HE
    isplitl [FL30]; · iexact FL30
    iexact OW
  iintro ⟨⟨F2_1, W2_1⟩, Z30, OW⟩
  ihave HT := (owns_halves c.tc xS0 (Xh m 0 c)) $$ X_0
  icases HT with ⟨XL_0, XR_0⟩
  iapply (send_cell m K c (dsem 3) (dsem 6) slice3 slice6 8 (by decide) (by decide) (dev6_eq c) rfl xS0 xS1 squeezes_S1x256x1024_S256x1024 squeezes_S1x256x1024_S256x1024 rfl rfl (payS_3 m c) (payR_3 m c)) $$ [XR_0 D_3 T_3 OW]
  · isplitr; · iexact HE
    isplitl [XR_0]; · iexact XR_0
    isplitl [D_3]; · iexact D_3
    isplitl [T_3]; · iexact T_3
    iexact OW
  iintro ⟨T_3, OW⟩
  iapply Hk
  isplitl [F1_1]; · iexact F1_1
  isplitl [W1_1]; · iexact W1_1
  isplitl [Z28]; · iexact Z28
  isplitl [F2_1]; · iexact F2_1
  isplitl [W2_1]; · iexact W2_1
  isplitl [Z30]; · iexact Z30
  isplitl [XL_0]; · iexact XL_0
  isplitl [T_3]; · iexact T_3
  iexact OW

end Parts

end Cert.KernelIdeal.Ring
-- ==== Proof.KernelIdealParts2.lean ====
/-
# The body's parts, 11 to 19
-/
module

public import proofs.«01_k».proof.Proof.KernelIdealParts1

@[expose] public section

set_option maxRecDepth 8000
set_option maxHeartbeats 4000000

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

section Parts
variable (K : Dev nD × Fin 25 → ℕ) (c : Dev nD) {α : Type} {Q : α → sProp (MT nD τ sig Unit (Elt F) ℕ UU ℕ)}

theorem part11_wp {k : _ → Prog (TpuEff nD τ sig (Elt F) Λ₀ .tc) α} :
    (iprop(Env m K ∗ owns c.tc iS0 fullShare (Ih m 0 c) ∗ slot (F := F) (nxt c) iS1 ∗ X0 c (dsem 15) (dsem 18) ∗ Ow c 8 ∗ owns c.tc xS0 fullShare.left (Xh m 0 c) ∗ owns c.tc f1S0 fullShare (w1v0 m c) ∗ owns c.tc f1S1 fullShare (w1v1 m c) ∗ owns c.tc f2S0 fullShare (w2v0 m c) ∗ owns c.tc f2S1 fullShare (w2v1 m c) ∗ slot (F := F) c pS0) : sProp 𝕄)
      ⊢ iprop(((owns c.tc iS0 fullShare.left (Ih m 0 c) ∗ X1 c (dsem 15) (dsem 18) ∗ Ow c 7 ∗ owns c.tc xS0 fullShare.left (Xh m 0 c) ∗ owns c.tc f1S0 fullShare (w1v0 m c) ∗ owns c.tc f1S1 fullShare (w1v1 m c) ∗ owns c.tc f2S0 fullShare (w2v0 m c) ∗ owns c.tc f2S1 fullShare (w2v1 m c) ∗ owns c.tc pS0 fullShare (pt0 m c)) -∗ wp frame (wpE (defs₀ (F := F)) 𝒱₀ c.tc none) Set.univ (k ⟨⟩) Q)
          -∗ wp frame (wpE (defs₀ (F := F)) 𝒱₀ c.tc none) Set.univ (k0_part11 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c (zw c) >>= k) Q) := by
  rw [k0_part11_eq_skeleton]
  unfold k0_part11_skel
  simp only [k0_t1_body, semSignalWord, semWaitWord, Prog.lift, Prog.bind_op, Prog.bind_ret, Prog.pure_eq_ret, Prog.bind_assoc, wp_deviceId, slice15, slice18, dev7_eq c]
  iintro ⟨#HE, I_0, D_4, T_4, OW, XL_0, F1_0, F1_1, F2_0, F2_1, P_0⟩ Hk
  ihave HT := (owns_halves c.tc iS0 (Ih m 0 c)) $$ I_0
  icases HT with ⟨IL_0, IR_0⟩
  iapply (send_cell m K c (dsem 15) (dsem 18) slice15 slice18 7 (by decide) (by decide) (dev7_eq c) rfl iS0 iS1 squeezes_S1x256x4_S256x4 squeezes_S1x256x4_S256x4 rfl rfl (payS_4 m c) (payR_4 m c)) $$ [IR_0 D_4 T_4 OW]
  · isplitr; · iexact HE
    isplitl [IR_0]; · iexact IR_0
    isplitl [D_4]; · iexact D_4
    isplitl [T_4]; · iexact T_4
    iexact OW
  iintro ⟨T_4, OW⟩
  iapply (slot_load 𝒱₀ c.tc none xcM (Rect.unit (s := S4x256x1024) ![0, 0, 0] S1x256x1024.size inb_S4x256x1024_S1x256x1024_0_0_0) (hr := fun _ => rfl)) $$ XL_0
  iintro XL_0
  iapply (slot_load 𝒱₀ c.tc none icM (Rect.unit (s := S4x256x4) ![0, 0, 0] S1x256x4.size inb_S4x256x4_S1x256x4_0_0_0) (hr := fun _ => rfl)) $$ IL_0
  iintro IL_0
  iapply (slot_load 𝒱₀ c.tc none icM (Rect.unit (s := S4x256x4) ![0, 0, 0] S1x256x4.size inb_S4x256x4_S1x256x4_0_0_0) (hr := fun _ => rfl)) $$ IL_0
  iintro IL_0
  iapply (slot_load 𝒱₀ c.tc none icM (Rect.unit (s := S4x256x4) ![0, 0, 0] S1x256x4.size inb_S4x256x4_S1x256x4_0_0_0) (hr := fun _ => rfl)) $$ IL_0
  iintro IL_0
  iapply (slot_load 𝒱₀ c.tc none icM (Rect.unit (s := S4x256x4) ![0, 0, 0] S1x256x4.size inb_S4x256x4_S1x256x4_0_0_0) (hr := fun _ => rfl)) $$ IL_0
  iintro IL_0
  ihave HP : pairAt c (w1v0 m c) (w1v1 m c) (w2v0 m c) (w2v1 m c) $$ [F1_0 F1_1 F2_0 F2_1]
  · unfold pairAt
    isplitl [F1_0]; · iexact F1_0
    isplitl [F1_1]; · iexact F1_1
    isplitl [F2_0] <;> iassumption
  iapply (pair_loop c k0_t1_loop k0_t1_ok trips1 k0_off1 k0_off2 k0_off1_eq k0_off2_eq _ _ _ _ (fun k acc a b => k0_pay20 (zw c) (Xh m 0 c) (Ih m 0 c) (Ih m 0 c) (Ih m 0 c) (Ih m 0 c) k acc a b) (k0_pay19 (F := F))) $$ HP
  iintro HP
  unfold pairAt
  icases HP with ⟨F1_0, F1_1, F2_0, F2_1⟩
  iapply (load_any c ptM (Rect.unit (s := S1024x1024) ![0, 0] S256x1024.size inb_S1024x1024_S256x1024_0_0) (fun _ => rfl)) $$ P_0
  iintro %_ P_0
  iapply (store_any c ptM (Rect.unit (s := S1024x1024) ![0, 0] S256x1024.size inb_S1024x1024_S256x1024_0_0) (fun _ => rfl)) $$ P_0
  iintro P_0
  iapply Hk
  isplitl [IL_0]; · iexact IL_0
  isplitl [T_4]; · iexact T_4
  isplitl [OW]; · iexact OW
  isplitl [XL_0]; · iexact XL_0
  isplitl [F1_0]; · iexact F1_0
  isplitl [F1_1]; · iexact F1_1
  isplitl [F2_0]; · iexact F2_0
  isplitl [F2_1]; · iexact F2_1
  iexact P_0

theorem part12_wp {v2 v5 v10 : BitVec 32} {k : _ → Prog (TpuEff nD τ sig (Elt F) Λ₀ .tc) α} :
    (iprop(Env m K ∗ X1 c (dsem 3) (dsem 6) ∗ Ow c 7 ∗ X1 c (dsem 15) (dsem 18)) : sProp 𝕄)
      ⊢ iprop((∀ w, ∀ w0, (owns c.tc xS0 fullShare.right (Xh m 0 c) ∗ X3 c (dsem 3) (dsem 6) ∗ owns c.tc xS1 fullShare (Xh m 1 c) ∗ X2 c (dsem 15) (dsem 18) ∗ Ow c 7 ∗ owns c.tc iS0 fullShare.right (Ih m 0 c)) -∗ wp frame (wpE (defs₀ (F := F)) 𝒱₀ c.tc none) Set.univ (k ⟨w, w0⟩) Q)
          -∗ wp frame (wpE (defs₀ (F := F)) 𝒱₀ c.tc none) Set.univ (k0_part12 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 v10 >>= k) Q) := by
  rw [k0_part12_eq_skeleton]
  unfold k0_part12_skel
  simp only [semSignalWord, semWaitWord, Prog.lift, Prog.bind_op, Prog.bind_ret, Prog.pure_eq_ret, Prog.bind_assoc, wp_deviceId, slice3, slice6, slice15, slice18]
  iintro ⟨#HE, T_3, OW, T_4⟩ Hk
  iapply (wait_send m K c (dsem 3) (dsem 6) slice3 7 (by decide) (by decide) (by show dmaLv _ + _ ≤ _; decide) (dstw := (xS0.squeeze S256x1024 squeezes_S1x256x1024_S256x1024)) rfl (P := owns c.tc xS0 fullShare.right (Xh m 0 c)) rfl) $$ [T_3 OW]
  · isplitr; · iexact HE
    isplitl [T_3]; · iexact T_3
    iexact OW
  iintro ⟨T_3, OW, XR_0⟩
  iapply (wait_recv m K c (dsem 3) (dsem 6) slice6 7 (by decide) (by decide) (by show dmaLv _ + _ ≤ _; decide) (dstw := (xS1.squeeze S256x1024 squeezes_S1x256x1024_S256x1024)) rfl (P := owns c.tc xS1 fullShare (Xh m 1 c)) rfl) $$ [T_3 OW]
  · isplitr; · iexact HE
    isplitl [T_3]; · iexact T_3
    iexact OW
  iintro ⟨T_3, OW, X_1⟩
  iapply (wait_send m K c (dsem 15) (dsem 18) slice15 7 (by decide) (by decide) (by show dmaLv _ + _ ≤ _; decide) (dstw := (iS0.squeeze S256x4 squeezes_S1x256x4_S256x4)) rfl (P := owns c.tc iS0 fullShare.right (Ih m 0 c)) rfl) $$ [T_4 OW]
  · isplitr; · iexact HE
    isplitl [T_4]; · iexact T_4
    iexact OW
  iintro ⟨T_4, OW, IR_0⟩
  iapply Hk
  isplitl [XR_0]; · iexact XR_0
  isplitl [T_3]; · iexact T_3
  isplitl [X_1]; · iexact X_1
  isplitl [T_4]; · iexact T_4
  isplitl [OW]; · iexact OW
  iexact IR_0

theorem part13_wp {v2 v5 v10 w w0 : BitVec 32} {k : _ → Prog (TpuEff nD τ sig (Elt F) Λ₀ .tc) α} :
    (iprop(Env m K ∗ X2 c (dsem 15) (dsem 18) ∗ Ow c 7 ∗ owns c.tc xS1 fullShare (Xh m 1 c) ∗ slot (F := F) (nxt c) xS2 ∗ X0 c (dsem 4) (dsem 7)) : sProp 𝕄)
      ⊢ iprop(((X3 c (dsem 15) (dsem 18) ∗ owns c.tc iS1 fullShare (Ih m 1 c) ∗ owns c.tc xS1 fullShare.left (Xh m 1 c) ∗ X1 c (dsem 4) (dsem 7) ∗ Ow c 6) -∗ wp frame (wpE (defs₀ (F := F)) 𝒱₀ c.tc none) Set.univ (k ⟨⟩) Q)
          -∗ wp frame (wpE (defs₀ (F := F)) 𝒱₀ c.tc none) Set.univ (k0_part13 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 w w0 >>= k) Q) := by
  rw [k0_part13_eq_skeleton]
  unfold k0_part13_skel
  simp only [semSignalWord, semWaitWord, Prog.lift, Prog.bind_op, Prog.bind_ret, Prog.pure_eq_ret, Prog.bind_assoc, wp_deviceId, slice4, slice7, slice15, slice18, dev8_eq c]
  iintro ⟨#HE, T_4, OW, X_1, D_5, T_5⟩ Hk
  iapply (wait_recv m K c (dsem 15) (dsem 18) slice18 7 (by decide) (by decide) (by show dmaLv _ + _ ≤ _; decide) (dstw := (iS1.squeeze S256x4 squeezes_S1x256x4_S256x4)) rfl (P := owns c.tc iS1 fullShare (Ih m 1 c)) rfl) $$ [T_4 OW]
  · isplitr; · iexact HE
    isplitl [T_4]; · iexact T_4
    iexact OW
  iintro ⟨T_4, OW, I_1⟩
  ihave HT := (owns_halves c.tc xS1 (Xh m 1 c)) $$ X_1
  icases HT with ⟨XL_1, XR_1⟩
  iapply (send_cell m K c (dsem 4) (dsem 7) slice4 slice7 6 (by decide) (by decide) (dev8_eq c) rfl xS1 xS2 squeezes_S1x256x1024_S256x1024 squeezes_S1x256x1024_S256x1024 rfl rfl (payS_5 m c) (payR_5 m c)) $$ [XR_1 D_5 T_5 OW]
  · isplitr; · iexact HE
    isplitl [XR_1]; · iexact XR_1
    isplitl [D_5]; · iexact D_5
    isplitl [T_5]; · iexact T_5
    iexact OW
  iintro ⟨T_5, OW⟩
  iapply Hk
  isplitl [T_4]; · iexact T_4
  isplitl [I_1]; · iexact I_1
  isplitl [XL_1]; · iexact XL_1
  isplitl [T_5]; · iexact T_5
  iexact OW

theorem part14_wp {k : _ → Prog (TpuEff nD τ sig (Elt F) Λ₀ .tc) α} :
    (iprop(Env m K ∗ owns c.tc iS1 fullShare (Ih m 1 c) ∗ slot (F := F) (nxt c) iS2 ∗ X0 c (dsem 16) (dsem 19) ∗ Ow c 6 ∗ owns c.tc xS1 fullShare.left (Xh m 1 c) ∗ owns c.tc f1S0 fullShare (w1v0 m c) ∗ owns c.tc f1S1 fullShare (w1v1 m c) ∗ owns c.tc f2S0 fullShare (w2v0 m c) ∗ owns c.tc f2S1 fullShare (w2v1 m c) ∗ slot (F := F) c pS1) : sProp 𝕄)
      ⊢ iprop(((owns c.tc iS1 fullShare.left (Ih m 1 c) ∗ X1 c (dsem 16) (dsem 19) ∗ Ow c 5 ∗ owns c.tc xS1 fullShare.left (Xh m 1 c) ∗ owns c.tc f1S0 fullShare (w1v0 m c) ∗ owns c.tc f1S1 fullShare (w1v1 m c) ∗ owns c.tc f2S0 fullShare (w2v0 m c) ∗ owns c.tc f2S1 fullShare (w2v1 m c) ∗ owns c.tc pS1 fullShare (pt1 m c)) -∗ wp frame (wpE (defs₀ (F := F)) 𝒱₀ c.tc none) Set.univ (k ⟨⟩) Q)
          -∗ wp frame (wpE (defs₀ (F := F)) 𝒱₀ c.tc none) Set.univ (k0_part14 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c (zw c) >>= k) Q) := by
  rw [k0_part14_eq_skeleton]
  unfold k0_part14_skel
  simp only [k0_t2_body, semSignalWord, semWaitWord, Prog.lift, Prog.bind_op, Prog.bind_ret, Prog.pure_eq_ret, Prog.bind_assoc, wp_deviceId, slice16, slice19, dev9_eq c]
  iintro ⟨#HE, I_1, D_6, T_6, OW, XL_1, F1_0, F1_1, F2_0, F2_1, P_1⟩ Hk
  ihave HT := (owns_halves c.tc iS1 (Ih m 1 c)) $$ I_1
  icases HT with ⟨IL_1, IR_1⟩
  iapply (send_cell m K c (dsem 16) (dsem 19) slice16 slice19 5 (by decide) (by decide) (dev9_eq c) rfl iS1 iS2 squeezes_S1x256x4_S256x4 squeezes_S1x256x4_S256x4 rfl rfl (payS_6 m c) (payR_6 m c)) $$ [IR_1 D_6 T_6 OW]
  · isplitr; · iexact HE
    isplitl [IR_1]; · iexact IR_1
    isplitl [D_6]; · iexact D_6
    isplitl [T_6]; · iexact T_6
    iexact OW
  iintro ⟨T_6, OW⟩
  iapply (slot_load 𝒱₀ c.tc none xcM (Rect.unit (s := S4x256x1024) ![1, 0, 0] S1x256x1024.size inb_S4x256x1024_S1x256x1024_1_0_0) (hr := fun _ => rfl)) $$ XL_1
  iintro XL_1
  iapply (slot_load 𝒱₀ c.tc none icM (Rect.unit (s := S4x256x4) ![1, 0, 0] S1x256x4.size inb_S4x256x4_S1x256x4_1_0_0) (hr := fun _ => rfl)) $$ IL_1
  iintro IL_1
  iapply (slot_load 𝒱₀ c.tc none icM (Rect.unit (s := S4x256x4) ![1, 0, 0] S1x256x4.size inb_S4x256x4_S1x256x4_1_0_0) (hr := fun _ => rfl)) $$ IL_1
  iintro IL_1
  iapply (slot_load 𝒱₀ c.tc none icM (Rect.unit (s := S4x256x4) ![1, 0, 0] S1x256x4.size inb_S4x256x4_S1x256x4_1_0_0) (hr := fun _ => rfl)) $$ IL_1
  iintro IL_1
  iapply (slot_load 𝒱₀ c.tc none icM (Rect.unit (s := S4x256x4) ![1, 0, 0] S1x256x4.size inb_S4x256x4_S1x256x4_1_0_0) (hr := fun _ => rfl)) $$ IL_1
  iintro IL_1
  ihave HP : pairAt c (w1v0 m c) (w1v1 m c) (w2v0 m c) (w2v1 m c) $$ [F1_0 F1_1 F2_0 F2_1]
  · unfold pairAt
    isplitl [F1_0]; · iexact F1_0
    isplitl [F1_1]; · iexact F1_1
    isplitl [F2_0] <;> iassumption
  iapply (pair_loop c k0_t2_loop k0_t2_ok trips2 k0_off3 k0_off4 k0_off3_eq k0_off4_eq _ _ _ _ (fun k acc a b => k0_pay23 (zw c) (Xh m 1 c) (Ih m 1 c) (Ih m 1 c) (Ih m 1 c) (Ih m 1 c) k acc a b) (k0_pay22 (F := F))) $$ HP
  iintro HP
  unfold pairAt
  icases HP with ⟨F1_0, F1_1, F2_0, F2_1⟩
  iapply (load_any c ptM (Rect.unit (s := S1024x1024) ![256, 0] S256x1024.size inb_S1024x1024_S256x1024_256_0) (fun _ => rfl)) $$ P_1
  iintro %_ P_1
  iapply (store_any c ptM (Rect.unit (s := S1024x1024) ![256, 0] S256x1024.size inb_S1024x1024_S256x1024_256_0) (fun _ => rfl)) $$ P_1
  iintro P_1
  iapply Hk
  isplitl [IL_1]; · iexact IL_1
  isplitl [T_6]; · iexact T_6
  isplitl [OW]; · iexact OW
  isplitl [XL_1]; · iexact XL_1
  isplitl [F1_0]; · iexact F1_0
  isplitl [F1_1]; · iexact F1_1
  isplitl [F2_0]; · iexact F2_0
  isplitl [F2_1]; · iexact F2_1
  iexact P_1

theorem part15_wp {v2 v5 v10 : BitVec 32} {k : _ → Prog (TpuEff nD τ sig (Elt F) Λ₀ .tc) α} :
    (iprop(Env m K ∗ X1 c (dsem 4) (dsem 7) ∗ Ow c 5 ∗ X1 c (dsem 16) (dsem 19)) : sProp 𝕄)
      ⊢ iprop((∀ w, ∀ w0, (owns c.tc xS1 fullShare.right (Xh m 1 c) ∗ X3 c (dsem 4) (dsem 7) ∗ owns c.tc xS2 fullShare (Xh m 2 c) ∗ X2 c (dsem 16) (dsem 19) ∗ Ow c 5 ∗ owns c.tc iS1 fullShare.right (Ih m 1 c)) -∗ wp frame (wpE (defs₀ (F := F)) 𝒱₀ c.tc none) Set.univ (k ⟨w, w0⟩) Q)
          -∗ wp frame (wpE (defs₀ (F := F)) 𝒱₀ c.tc none) Set.univ (k0_part15 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 v10 >>= k) Q) := by
  rw [k0_part15_eq_skeleton]
  unfold k0_part15_skel
  simp only [semSignalWord, semWaitWord, Prog.lift, Prog.bind_op, Prog.bind_ret, Prog.pure_eq_ret, Prog.bind_assoc, wp_deviceId, slice4, slice7, slice16, slice19]
  iintro ⟨#HE, T_5, OW, T_6⟩ Hk
  iapply (wait_send m K c (dsem 4) (dsem 7) slice4 5 (by decide) (by decide) (by show dmaLv _ + _ ≤ _; decide) (dstw := (xS1.squeeze S256x1024 squeezes_S1x256x1024_S256x1024)) rfl (P := owns c.tc xS1 fullShare.right (Xh m 1 c)) rfl) $$ [T_5 OW]
  · isplitr; · iexact HE
    isplitl [T_5]; · iexact T_5
    iexact OW
  iintro ⟨T_5, OW, XR_1⟩
  iapply (wait_recv m K c (dsem 4) (dsem 7) slice7 5 (by decide) (by decide) (by show dmaLv _ + _ ≤ _; decide) (dstw := (xS2.squeeze S256x1024 squeezes_S1x256x1024_S256x1024)) rfl (P := owns c.tc xS2 fullShare (Xh m 2 c)) rfl) $$ [T_5 OW]
  · isplitr; · iexact HE
    isplitl [T_5]; · iexact T_5
    iexact OW
  iintro ⟨T_5, OW, X_2⟩
  iapply (wait_send m K c (dsem 16) (dsem 19) slice16 5 (by decide) (by decide) (by show dmaLv _ + _ ≤ _; decide) (dstw := (iS1.squeeze S256x4 squeezes_S1x256x4_S256x4)) rfl (P := owns c.tc iS1 fullShare.right (Ih m 1 c)) rfl) $$ [T_6 OW]
  · isplitr; · iexact HE
    isplitl [T_6]; · iexact T_6
    iexact OW
  iintro ⟨T_6, OW, IR_1⟩
  iapply Hk
  isplitl [XR_1]; · iexact XR_1
  isplitl [T_5]; · iexact T_5
  isplitl [X_2]; · iexact X_2
  isplitl [T_6]; · iexact T_6
  isplitl [OW]; · iexact OW
  iexact IR_1

theorem part16_wp {v2 v5 v10 w w0 : BitVec 32} {k : _ → Prog (TpuEff nD τ sig (Elt F) Λ₀ .tc) α} :
    (iprop(Env m K ∗ X2 c (dsem 16) (dsem 19) ∗ Ow c 5 ∗ owns c.tc xS2 fullShare (Xh m 2 c) ∗ slot (F := F) (nxt c) xS3 ∗ X0 c (dsem 5) (dsem 8)) : sProp 𝕄)
      ⊢ iprop(((X3 c (dsem 16) (dsem 19) ∗ owns c.tc iS2 fullShare (Ih m 2 c) ∗ owns c.tc xS2 fullShare.left (Xh m 2 c) ∗ X1 c (dsem 5) (dsem 8) ∗ Ow c 4) -∗ wp frame (wpE (defs₀ (F := F)) 𝒱₀ c.tc none) Set.univ (k ⟨⟩) Q)
          -∗ wp frame (wpE (defs₀ (F := F)) 𝒱₀ c.tc none) Set.univ (k0_part16 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v2 v5 v10 w w0 >>= k) Q) := by
  rw [k0_part16_eq_skeleton]
  unfold k0_part16_skel
  simp only [semSignalWord, semWaitWord, Prog.lift, Prog.bind_op, Prog.bind_ret, Prog.pure_eq_ret, Prog.bind_assoc, wp_deviceId, slice5, slice8, slice16, slice19, dev10_eq c]
  iintro ⟨#HE, T_6, OW, X_2, D_7, T_7⟩ Hk
  iapply (wait_recv m K c (dsem 16) (dsem 19) slice19 5 (by decide) (by decide) (by show dmaLv _ + _ ≤ _; decide) (dstw := (iS2.squeeze S256x4 squeezes_S1x256x4_S256x4)) rfl (P := owns c.tc iS2 fullShare (Ih m 2 c)) rfl) $$ [T_6 OW]
  · isplitr; · iexact HE
    isplitl [T_6]; · iexact T_6
    iexact OW
  iintro ⟨T_6, OW, I_2⟩
  ihave HT := (owns_halves c.tc xS2 (Xh m 2 c)) $$ X_2
  icases HT with ⟨XL_2, XR_2⟩
  iapply (send_cell m K c (dsem 5) (dsem 8) slice5 slice8 4 (by decide) (by decide) (dev10_eq c) rfl xS2 xS3 squeezes_S1x256x1024_S256x1024 squeezes_S1x256x1024_S256x1024 rfl rfl (payS_7 m c) (payR_7 m c)) $$ [XR_2 D_7 T_7 OW]
  · isplitr; · iexact HE
    isplitl [XR_2]; · iexact XR_2
    isplitl [D_7]; · iexact D_7
    isplitl [T_7]; · iexact T_7
    iexact OW
  iintro ⟨T_7, OW⟩
  iapply Hk
  isplitl [T_6]; · iexact T_6
  isplitl [I_2]; · iexact I_2
  isplitl [XL_2]; · iexact XL_2
  isplitl [T_7]; · iexact T_7
  iexact OW

theorem part17_wp {k : _ → Prog (TpuEff nD τ sig (Elt F) Λ₀ .tc) α} :
    (iprop(Env m K ∗ owns c.tc iS2 fullShare (Ih m 2 c) ∗ slot (F := F) (nxt c) iS3 ∗ X0 c (dsem 17) (dsem 20) ∗ Ow c 4 ∗ owns c.tc xS2 fullShare.left (Xh m 2 c) ∗ owns c.tc f1S0 fullShare (w1v0 m c) ∗ owns c.tc f1S1 fullShare (w1v1 m c) ∗ owns c.tc f2S0 fullShare (w2v0 m c) ∗ owns c.tc f2S1 fullShare (w2v1 m c) ∗ slot (F := F) c pS2) : sProp 𝕄)
      ⊢ iprop(((owns c.tc iS2 fullShare.left (Ih m 2 c) ∗ X1 c (dsem 17) (dsem 20) ∗ Ow c 3 ∗ owns c.tc xS2 fullShare.left (Xh m 2 c) ∗ owns c.tc f1S0 fullShare (w1v0 m c) ∗ owns c.tc f1S1 fullShare (w1v1 m c) ∗ owns c.tc f2S0 fullShare (w2v0 m c) ∗ owns c.tc f2S1 fullShare (w2v1 m c) ∗ owns c.tc pS2 fullShare (pt2 m c)) -∗ wp frame (wpE (defs₀ (F := F)) 𝒱₀ c.tc none) Set.univ (k ⟨⟩) Q)
          -∗ wp frame (wpE (defs₀ (F := F)) 𝒱₀ c.tc none) Set.univ (k0_part17 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c (zw c) >>= k) Q) := by
  rw [k0_part17_eq_skeleton]
  unfold k0_part17_skel
  simp only [k0_t3_body, semSignalWord, semWaitWord, Prog.lift, Prog.bind_op, Prog.bind_ret, Prog.pure_eq_ret, Prog.bind_assoc, wp_deviceId, slice17, slice20, dev11_eq c]
  iintro ⟨#HE, I_2, D_8, T_8, OW, XL_2, F1_0, F1_1, F2_0, F2_1, P_2⟩ Hk
  ihave HT := (owns_halves c.tc iS2 (Ih m 2 c)) $$ I_2
  icases HT with ⟨IL_2, IR_2⟩
  iapply (send_cell m K c (dsem 17) (dsem 20) slice17 slice20 3 (by decide) (by decide) (dev11_eq c) rfl iS2 iS3 squeezes_S1x256x4_S256x4 squeezes_S1x256x4_S256x4 rfl rfl (payS_8 m c) (payR_8 m c)) $$ [IR_2 D_8 T_8 OW]
  · isplitr; · iexact HE
    isplitl [IR_2]; · iexact IR_2
    isplitl [D_8]; · iexact D_8
    isplitl [T_8]; · iexact T_8
    iexact OW
  iintro ⟨T_8, OW⟩
  iapply (slot_load 𝒱₀ c.tc none xcM (Rect.unit (s := S4x256x1024) ![2, 0, 0] S1x256x1024.size inb_S4x256x1024_S1x256x1024_2_0_0) (hr := fun _ => rfl)) $$ XL_2
  iintro XL_2
  iapply (slot_load 𝒱₀ c.tc none icM (Rect.unit (s := S4x256x4) ![2, 0, 0] S1x256x4.size inb_S4x256x4_S1x256x4_2_0_0) (hr := fun _ => rfl)) $$ IL_2
  iintro IL_2
  iapply (slot_load 𝒱₀ c.tc none icM (Rect.unit (s := S4x256x4) ![2, 0, 0] S1x256x4.size inb_S4x256x4_S1x256x4_2_0_0) (hr := fun _ => rfl)) $$ IL_2
  iintro IL_2
  iapply (slot_load 𝒱₀ c.tc none icM (Rect.unit (s := S4x256x4) ![2, 0, 0] S1x256x4.size inb_S4x256x4_S1x256x4_2_0_0) (hr := fun _ => rfl)) $$ IL_2
  iintro IL_2
  iapply (slot_load 𝒱₀ c.tc none icM (Rect.unit (s := S4x256x4) ![2, 0, 0] S1x256x4.size inb_S4x256x4_S1x256x4_2_0_0) (hr := fun _ => rfl)) $$ IL_2
  iintro IL_2
  ihave HP : pairAt c (w1v0 m c) (w1v1 m c) (w2v0 m c) (w2v1 m c) $$ [F1_0 F1_1 F2_0 F2_1]
  · unfold pairAt
    isplitl [F1_0]; · iexact F1_0
    isplitl [F1_1]; · iexact F1_1
    isplitl [F2_0] <;> iassumption
  iapply (pair_loop c k0_t3_loop k0_t3_ok trips3 k0_off5 k0_off6 k0_off5_eq k0_off6_eq _ _ _ _ (fun k acc a b => k0_pay26 (zw c) (Xh m 2 c) (Ih m 2 c) (Ih m 2 c) (Ih m 2 c) (Ih m 2 c) k acc a b) (k0_pay25 (F := F))) $$ HP
  iintro HP
  unfold pairAt
  icases HP with ⟨F1_0, F1_1, F2_0, F2_1⟩
  iapply (load_any c ptM (Rect.unit (s := S1024x1024) ![512, 0] S256x1024.size inb_S1024x1024_S256x1024_512_0) (fun _ => rfl)) $$ P_2
  iintro %_ P_2
  iapply (store_any c ptM (Rect.unit (s := S1024x1024) ![512, 0] S256x1024.size inb_S1024x1024_S256x1024_512_0) (fun _ => rfl)) $$ P_2
  iintro P_2
  iapply Hk
  isplitl [IL_2]; · iexact IL_2
  isplitl [T_8]; · iexact T_8
  isplitl [OW]; · iexact OW
  isplitl [XL_2]; · iexact XL_2
  isplitl [F1_0]; · iexact F1_0
  isplitl [F1_1]; · iexact F1_1
  isplitl [F2_0]; · iexact F2_0
  isplitl [F2_1]; · iexact F2_1
  iexact P_2

theorem part18_wp {v2 v5 v10 : BitVec 32} {k : _ → Prog (TpuEff nD τ sig (Elt F) Λ₀ .tc) α} :
    (iprop(Env m K ∗ X1 c (dsem 5) (dsem 8) ∗ Ow c 3 ∗ X1 c (dsem 17) (dsem 20)) : sProp 𝕄)
      ⊢ iprop((∀ w, ∀ w0, (owns c.tc xS2 fullShare.right (Xh m 2 c) ∗ X3 c (dsem 5) (dsem 8) ∗ owns c.tc xS3 fullShare (Xh m 3 c) ∗ X2 c (dsem 17) (dsem 20) ∗ Ow c 3 ∗ owns c.tc iS2 fullShare.right (Ih m 2 c)) -∗ wp frame (wpE (defs₀ (F := F)) 𝒱₀ c.tc none) Set.univ (k ⟨w, w0⟩) Q)
          -∗ wp frame (wpE (defs₀ (F := F)) 𝒱₀ c.tc none) Set.univ (k0_part18 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 v10 >>= k) Q) := by
  rw [k0_part18_eq_skeleton]
  unfold k0_part18_skel
  simp only [semSignalWord, semWaitWord, Prog.lift, Prog.bind_op, Prog.bind_ret, Prog.pure_eq_ret, Prog.bind_assoc, wp_deviceId, slice5, slice8, slice17, slice20]
  iintro ⟨#HE, T_7, OW, T_8⟩ Hk
  iapply (wait_send m K c (dsem 5) (dsem 8) slice5 3 (by decide) (by decide) (by show dmaLv _ + _ ≤ _; decide) (dstw := (xS2.squeeze S256x1024 squeezes_S1x256x1024_S256x1024)) rfl (P := owns c.tc xS2 fullShare.right (Xh m 2 c)) rfl) $$ [T_7 OW]
  · isplitr; · iexact HE
    isplitl [T_7]; · iexact T_7
    iexact OW
  iintro ⟨T_7, OW, XR_2⟩
  iapply (wait_recv m K c (dsem 5) (dsem 8) slice8 3 (by decide) (by decide) (by show dmaLv _ + _ ≤ _; decide) (dstw := (xS3.squeeze S256x1024 squeezes_S1x256x1024_S256x1024)) rfl (P := owns c.tc xS3 fullShare (Xh m 3 c)) rfl) $$ [T_7 OW]
  · isplitr; · iexact HE
    isplitl [T_7]; · iexact T_7
    iexact OW
  iintro ⟨T_7, OW, X_3⟩
  iapply (wait_send m K c (dsem 17) (dsem 20) slice17 3 (by decide) (by decide) (by show dmaLv _ + _ ≤ _; decide) (dstw := (iS2.squeeze S256x4 squeezes_S1x256x4_S256x4)) rfl (P := owns c.tc iS2 fullShare.right (Ih m 2 c)) rfl) $$ [T_8 OW]
  · isplitr; · iexact HE
    isplitl [T_8]; · iexact T_8
    iexact OW
  iintro ⟨T_8, OW, IR_2⟩
  iapply Hk
  isplitl [XR_2]; · iexact XR_2
  isplitl [T_7]; · iexact T_7
  isplitl [X_3]; · iexact X_3
  isplitl [T_8]; · iexact T_8
  isplitl [OW]; · iexact OW
  iexact IR_2

theorem part19_wp {v5 v10 w w0 : BitVec 32} {k : _ → Prog (TpuEff nD τ sig (Elt F) Λ₀ .tc) α} :
    (iprop(Env m K ∗ X2 c (dsem 17) (dsem 20) ∗ Ow c 3 ∗ owns c.tc xS3 fullShare (Xh m 3 c) ∗ owns c.tc f1S0 fullShare (w1v0 m c) ∗ owns c.tc f1S1 fullShare (w1v1 m c) ∗ owns c.tc f2S0 fullShare (w2v0 m c) ∗ owns c.tc f2S1 fullShare (w2v1 m c) ∗ slot (F := F) c pS3) : sProp 𝕄)
      ⊢ iprop(((X3 c (dsem 17) (dsem 20) ∗ Ow c 3 ∗ owns c.tc iS3 fullShare (Ih m 3 c) ∗ owns c.tc xS3 fullShare (Xh m 3 c) ∗ owns c.tc f1S0 fullShare (w1v0 m c) ∗ owns c.tc f1S1 fullShare (w1v1 m c) ∗ owns c.tc f2S0 fullShare (w2v0 m c) ∗ owns c.tc f2S1 fullShare (w2v1 m c) ∗ slot (F := F) c pS3) -∗ wp frame (wpE (defs₀ (F := F)) 𝒱₀ c.tc none) Set.univ (k (lp4 m c)) Q)
          -∗ wp frame (wpE (defs₀ (F := F)) 𝒱₀ c.tc none) Set.univ (k0_part19 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v5 (zw c) v10 w w0 >>= k) Q) := by
  rw [k0_part19_eq_skeleton]
  unfold k0_part19_skel
  simp only [k0_t4_body, semSignalWord, semWaitWord, Prog.lift, Prog.bind_op, Prog.bind_ret, Prog.pure_eq_ret, Prog.bind_assoc, wp_deviceId, slice17, slice20]
  iintro ⟨#HE, T_8, OW, X_3, F1_0, F1_1, F2_0, F2_1, P_3⟩ Hk
  iapply (wait_recv m K c (dsem 17) (dsem 20) slice20 3 (by decide) (by decide) (by show dmaLv _ + _ ≤ _; decide) (dstw := (iS3.squeeze S256x4 squeezes_S1x256x4_S256x4)) rfl (P := owns c.tc iS3 fullShare (Ih m 3 c)) rfl) $$ [T_8 OW]
  · isplitr; · iexact HE
    isplitl [T_8]; · iexact T_8
    iexact OW
  iintro ⟨T_8, OW, I_3⟩
  iapply (slot_load 𝒱₀ c.tc none xcM (Rect.unit (s := S4x256x1024) ![3, 0, 0] S1x256x1024.size inb_S4x256x1024_S1x256x1024_3_0_0) (hr := fun _ => rfl)) $$ X_3
  iintro X_3
  iapply (slot_load 𝒱₀ c.tc none icM (Rect.unit (s := S4x256x4) ![3, 0, 0] S1x256x4.size inb_S4x256x4_S1x256x4_3_0_0) (hr := fun _ => rfl)) $$ I_3
  iintro I_3
  iapply (slot_load 𝒱₀ c.tc none icM (Rect.unit (s := S4x256x4) ![3, 0, 0] S1x256x4.size inb_S4x256x4_S1x256x4_3_0_0) (hr := fun _ => rfl)) $$ I_3
  iintro I_3
  iapply (slot_load 𝒱₀ c.tc none icM (Rect.unit (s := S4x256x4) ![3, 0, 0] S1x256x4.size inb_S4x256x4_S1x256x4_3_0_0) (hr := fun _ => rfl)) $$ I_3
  iintro I_3
  iapply (slot_load 𝒱₀ c.tc none icM (Rect.unit (s := S4x256x4) ![3, 0, 0] S1x256x4.size inb_S4x256x4_S1x256x4_3_0_0) (hr := fun _ => rfl)) $$ I_3
  iintro I_3
  ihave HP : pairAt c (w1v0 m c) (w1v1 m c) (w2v0 m c) (w2v1 m c) $$ [F1_0 F1_1 F2_0 F2_1]
  · unfold pairAt
    isplitl [F1_0]; · iexact F1_0
    isplitl [F1_1]; · iexact F1_1
    isplitl [F2_0] <;> iassumption
  iapply (pair_loop c k0_t4_loop k0_t4_ok trips4 k0_off7 k0_off8 k0_off7_eq k0_off8_eq _ _ _ _ (fun k acc a b => k0_pay29 (zw c) (Xh m 3 c) (Ih m 3 c) (Ih m 3 c) (Ih m 3 c) (Ih m 3 c) k acc a b) (k0_pay28 (F := F))) $$ HP
  iintro HP
  unfold pairAt
  icases HP with ⟨F1_0, F1_1, F2_0, F2_1⟩
  iapply (load_any c ptM (Rect.unit (s := S1024x1024) ![768, 0] S256x1024.size inb_S1024x1024_S256x1024_768_0) (fun _ => rfl)) $$ P_3
  iintro %_ P_3
  iapply Hk
  isplitl [T_8]; · iexact T_8
  isplitl [OW]; · iexact OW
  isplitl [I_3]; · iexact I_3
  isplitl [X_3]; · iexact X_3
  isplitl [F1_0]; · iexact F1_0
  isplitl [F1_1]; · iexact F1_1
  isplitl [F2_0]; · iexact F2_0
  isplitl [F2_1]; · iexact F2_1
  iexact P_3

end Parts

end Cert.KernelIdeal.Ring
-- ==== Proof.KernelIdealParts3.lean ====
/-
# The body's parts, 20 to 27
-/
module

public import proofs.«01_k».proof.Proof.KernelIdealParts1

@[expose] public section

set_option maxRecDepth 8000
set_option maxHeartbeats 4000000

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

section Parts
variable (K : Dev nD × Fin 25 → ℕ) (c : Dev nD) {α : Type} {Q : α → sProp (MT nD τ sig Unit (Elt F) ℕ UU ℕ)}

theorem part20_wp {k : _ → Prog (TpuEff nD τ sig (Elt F) Λ₀ .tc) α} :
    (iprop(Env m K ∗ slot (F := F) c pS3 ∗ owns c.tc f1S0 fullShare (w1v0 m c) ∗ owns c.tc w1S2 fullShare (w1v2 m c) ∗ semVal (dCell c (dsem 27)) 0 ∗ owns c.tc f2S0 fullShare (w2v0 m c) ∗ owns c.tc w2S2 fullShare (w2v2 m c) ∗ semVal (dCell c (dsem 29)) 0 ∗ owns c.tc f1S1 fullShare (w1v1 m c) ∗ owns c.tc w1S3 fullShare (w1v3 m c) ∗ semVal (dCell c (dsem 28)) 0 ∗ owns c.tc f2S1 fullShare (w2v1 m c) ∗ owns c.tc w2S3 fullShare (w2v3 m c) ∗ semVal (dCell c (dsem 30)) 0) : sProp 𝕄)
      ⊢ iprop(((owns c.tc pS3 fullShare (pt3 m c) ∗ Flight EC c.tc (.dma (dsem 27)) () NW1 iprop(owns c.tc f1S0 fullShare (w1v2 m c) ∗ owns c.tc w1S2 fullShare (w1v2 m c)) ∗ Flight EC c.tc (.dma (dsem 29)) () NW2 iprop(owns c.tc f2S0 fullShare (w2v2 m c) ∗ owns c.tc w2S2 fullShare (w2v2 m c)) ∗ Flight EC c.tc (.dma (dsem 28)) () NW1 iprop(owns c.tc f1S1 fullShare (w1v3 m c) ∗ owns c.tc w1S3 fullShare (w1v3 m c)) ∗ Flight EC c.tc (.dma (dsem 30)) () NW2 iprop(owns c.tc f2S1 fullShare (w2v3 m c) ∗ owns c.tc w2S3 fullShare (w2v3 m c))) -∗ wp frame (wpE (defs₀ (F := F)) 𝒱₀ c.tc none) Set.univ (k ⟨⟩) Q)
          -∗ wp frame (wpE (defs₀ (F := F)) 𝒱₀ c.tc none) Set.univ (k0_part20 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 (lp4 m c) >>= k) Q) := by
  rw [k0_part20_eq_skeleton]
  unfold k0_part20_skel
  simp only [semSignalWord, semWaitWord, Prog.lift, Prog.bind_op, Prog.bind_ret, Prog.pure_eq_ret, Prog.bind_assoc, wp_deviceId, slice27, slice28, slice29, slice30]
  iintro ⟨#HE, P_3, F1_0, W1_2, Z27, F2_0, W2_2, Z29, F1_1, W1_3, Z28, F2_1, W2_3, Z30⟩ Hk
  iapply (store_any c ptM (Rect.unit (s := S1024x1024) ![768, 0] S256x1024.size inb_S1024x1024_S256x1024_768_0) (fun _ => rfl)) $$ P_3
  iintro P_3
  ihave F1_0 := (forget c f1S0 _) $$ F1_0
  iapply (local_dma c (dsem 27) slice27 w1S2 f1S0 squeezes_S1x1024x2048_S1024x2048 squeezes_S1x1024x2048_S1024x2048 (N := NW1) rfl NW1_pos) $$ [W1_2 F1_0 Z27]
  · isplitl [W1_2]; · iexact W1_2
    isplitl [F1_0]; · iexact F1_0
    iexact Z27
  iintro FL27
  ihave F2_0 := (forget c f2S0 _) $$ F2_0
  iapply (local_dma c (dsem 29) slice29 w2S2 f2S0 squeezes_S1x2048x1024_S2048x1024 squeezes_S1x2048x1024_S2048x1024 (N := NW2) rfl NW2_pos) $$ [W2_2 F2_0 Z29]
  · isplitl [W2_2]; · iexact W2_2
    isplitl [F2_0]; · iexact F2_0
    iexact Z29
  iintro FL29
  ihave F1_1 := (forget c f1S1 _) $$ F1_1
  iapply (local_dma c (dsem 28) slice28 w1S3 f1S1 squeezes_S1x1024x2048_S1024x2048 squeezes_S1x1024x2048_S1024x2048 (N := NW1) rfl NW1_pos) $$ [W1_3 F1_1 Z28]
  · isplitl [W1_3]; · iexact W1_3
    isplitl [F1_1]; · iexact F1_1
    iexact Z28
  iintro FL28
  ihave F2_1 := (forget c f2S1 _) $$ F2_1
  iapply (local_dma c (dsem 30) slice30 w2S3 f2S1 squeezes_S1x2048x1024_S2048x1024 squeezes_S1x2048x1024_S2048x1024 (N := NW2) rfl NW2_pos) $$ [W2_3 F2_1 Z30]
  · isplitl [W2_3]; · iexact W2_3
    isplitl [F2_1]; · iexact F2_1
    iexact Z30
  iintro FL30
  iapply Hk
  isplitl [P_3]; · iexact P_3
  isplitl [FL27]; · iexact FL27
  isplitl [FL29]; · iexact FL29
  isplitl [FL28]; · iexact FL28
  iexact FL30

theorem part21_wp {k : _ → Prog (TpuEff nD τ sig (Elt F) Λ₀ .tc) α} :
    (iprop(Env m K ∗ Flight EC c.tc (.dma (dsem 27)) () NW1 iprop(owns c.tc f1S0 fullShare (w1v2 m c) ∗ owns c.tc w1S2 fullShare (w1v2 m c)) ∗ Ow c 3 ∗ Flight EC c.tc (.dma (dsem 29)) () NW2 iprop(owns c.tc f2S0 fullShare (w2v2 m c) ∗ owns c.tc w2S2 fullShare (w2v2 m c)) ∗ Flight EC c.tc (.dma (dsem 28)) () NW1 iprop(owns c.tc f1S1 fullShare (w1v3 m c) ∗ owns c.tc w1S3 fullShare (w1v3 m c)) ∗ Flight EC c.tc (.dma (dsem 30)) () NW2 iprop(owns c.tc f2S1 fullShare (w2v3 m c) ∗ owns c.tc w2S3 fullShare (w2v3 m c)) ∗ owns c.tc xS1 fullShare.left (Xh m 1 c)) : sProp 𝕄)
      ⊢ iprop(((Ow c 3 ∗ owns c.tc f1S0 fullShare (w1v2 m c) ∗ owns c.tc w1S2 fullShare (w1v2 m c) ∗ semVal (dCell c (dsem 27)) 0 ∗ owns c.tc f2S0 fullShare (w2v2 m c) ∗ owns c.tc w2S2 fullShare (w2v2 m c) ∗ semVal (dCell c (dsem 29)) 0 ∗ owns c.tc f1S1 fullShare (w1v3 m c) ∗ owns c.tc w1S3 fullShare (w1v3 m c) ∗ semVal (dCell c (dsem 28)) 0 ∗ owns c.tc f2S1 fullShare (w2v3 m c) ∗ owns c.tc w2S3 fullShare (w2v3 m c) ∗ semVal (dCell c (dsem 30)) 0 ∗ owns c.tc xS1 fullShare.left (Xh m 1 c)) -∗ wp frame (wpE (defs₀ (F := F)) 𝒱₀ c.tc none) Set.univ (k (k0_pay31 (Xh m 1 c))) Q)
          -∗ wp frame (wpE (defs₀ (F := F)) 𝒱₀ c.tc none) Set.univ (k0_part21 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 >>= k) Q) := by
  rw [k0_part21_eq_skeleton]
  unfold k0_part21_skel
  simp only [semSignalWord, semWaitWord, Prog.lift, Prog.bind_op, Prog.bind_ret, Prog.pure_eq_ret, Prog.bind_assoc, wp_deviceId, slice27, slice28, slice29, slice30]
  iintro ⟨#HE, FL27, OW, FL29, FL28, FL30, XL_1⟩ Hk
  iapply (local_wait m K c (dsem 27) slice27 3 (by decide) (by show dmaLv _ + _ ≤ _; decide) (dstw := f1S0.squeeze S1024x2048 squeezes_S1x1024x2048_S1024x2048) (N := NW1) rfl) $$ [FL27 OW]
  · isplitr; · iexact HE
    isplitl [FL27]; · iexact FL27
    iexact OW
  iintro ⟨⟨F1_0, W1_2⟩, Z27, OW⟩
  iapply (local_wait m K c (dsem 29) slice29 3 (by decide) (by show dmaLv _ + _ ≤ _; decide) (dstw := f2S0.squeeze S2048x1024 squeezes_S1x2048x1024_S2048x1024) (N := NW2) rfl) $$ [FL29 OW]
  · isplitr; · iexact HE
    isplitl [FL29]; · iexact FL29
    iexact OW
  iintro ⟨⟨F2_0, W2_2⟩, Z29, OW⟩
  iapply (local_wait m K c (dsem 28) slice28 3 (by decide) (by show dmaLv _ + _ ≤ _; decide) (dstw := f1S1.squeeze S1024x2048 squeezes_S1x1024x2048_S1024x2048) (N := NW1) rfl) $$ [FL28 OW]
  · isplitr; · iexact HE
    isplitl [FL28]; · iexact FL28
    iexact OW
  iintro ⟨⟨F1_1, W1_3⟩, Z28, OW⟩
  iapply (local_wait m K c (dsem 30) slice30 3 (by decide) (by show dmaLv _ + _ ≤ _; decide) (dstw := f2S1.squeeze S2048x1024 squeezes_S1x2048x1024_S2048x1024) (N := NW2) rfl) $$ [FL30 OW]
  · isplitr; · iexact HE
    isplitl [FL30]; · iexact FL30
    iexact OW
  iintro ⟨⟨F2_1, W2_3⟩, Z30, OW⟩
  iapply (slot_load 𝒱₀ c.tc none xcM (Rect.unit (s := S4x256x1024) ![1, 0, 0] S1x256x1024.size inb_S4x256x1024_S1x256x1024_1_0_0) (hr := fun _ => rfl)) $$ XL_1
  iintro XL_1
  iapply Hk
  isplitl [OW]; · iexact OW
  isplitl [F1_0]; · iexact F1_0
  isplitl [W1_2]; · iexact W1_2
  isplitl [Z27]; · iexact Z27
  isplitl [F2_0]; · iexact F2_0
  isplitl [W2_2]; · iexact W2_2
  isplitl [Z29]; · iexact Z29
  isplitl [F1_1]; · iexact F1_1
  isplitl [W1_3]; · iexact W1_3
  isplitl [Z28]; · iexact Z28
  isplitl [F2_1]; · iexact F2_1
  isplitl [W2_3]; · iexact W2_3
  isplitl [Z30]; · iexact Z30
  iexact XL_1

theorem part22_wp {v2 v5 v10 : BitVec 32} {k : _ → Prog (TpuEff nD τ sig (Elt F) Λ₀ .tc) α} :
    (iprop(Env m K ∗ owns c.tc iS1 fullShare.left (Ih m 1 c) ∗ owns c.tc f1S0 fullShare (w1v2 m c) ∗ owns c.tc f1S1 fullShare (w1v3 m c) ∗ owns c.tc f2S0 fullShare (w2v2 m c) ∗ owns c.tc f2S1 fullShare (w2v3 m c) ∗ owns c.tc pS1 fullShare (pt1 m c) ∗ slot (F := F) c sbS0) : sProp 𝕄)
      ⊢ iprop(((owns c.tc iS1 fullShare.left (Ih m 1 c) ∗ owns c.tc f1S0 fullShare (w1v2 m c) ∗ owns c.tc f1S1 fullShare (w1v3 m c) ∗ owns c.tc f2S0 fullShare (w2v2 m c) ∗ owns c.tc f2S1 fullShare (w2v3 m c) ∗ owns c.tc pS1 fullShare (pt1 m c) ∗ owns c.tc sbS0 fullShare (red0 m c)) -∗ wp frame (wpE (defs₀ (F := F)) 𝒱₀ c.tc none) Set.univ (k ⟨⟩) Q)
          -∗ wp frame (wpE (defs₀ (F := F)) 𝒱₀ c.tc none) Set.univ (k0_part22 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 (zw c) v10 (k0_pay31 (Xh m 1 c)) >>= k) Q) := by
  rw [k0_part22_eq_skeleton]
  unfold k0_part22_skel
  simp only [k0_t5_body, semSignalWord, semWaitWord, Prog.lift, Prog.bind_op, Prog.bind_ret, Prog.pure_eq_ret, Prog.bind_assoc, wp_deviceId]
  iintro ⟨#HE, IL_1, F1_0, F1_1, F2_0, F2_1, P_1, S_0⟩ Hk
  iapply (slot_load 𝒱₀ c.tc none icM (Rect.unit (s := S4x256x4) ![1, 0, 0] S1x256x4.size inb_S4x256x4_S1x256x4_1_0_0) (hr := fun _ => rfl)) $$ IL_1
  iintro IL_1
  iapply (slot_load 𝒱₀ c.tc none icM (Rect.unit (s := S4x256x4) ![1, 0, 0] S1x256x4.size inb_S4x256x4_S1x256x4_1_0_0) (hr := fun _ => rfl)) $$ IL_1
  iintro IL_1
  iapply (slot_load 𝒱₀ c.tc none icM (Rect.unit (s := S4x256x4) ![1, 0, 0] S1x256x4.size inb_S4x256x4_S1x256x4_1_0_0) (hr := fun _ => rfl)) $$ IL_1
  iintro IL_1
  iapply (slot_load 𝒱₀ c.tc none icM (Rect.unit (s := S4x256x4) ![1, 0, 0] S1x256x4.size inb_S4x256x4_S1x256x4_1_0_0) (hr := fun _ => rfl)) $$ IL_1
  iintro IL_1
  ihave HP : pairAt c (w1v2 m c) (w1v3 m c) (w2v2 m c) (w2v3 m c) $$ [F1_0 F1_1 F2_0 F2_1]
  · unfold pairAt
    isplitl [F1_0]; · iexact F1_0
    isplitl [F1_1]; · iexact F1_1
    isplitl [F2_0] <;> iassumption
  iapply (pair_loop c k0_t5_loop k0_t5_ok trips5 k0_off9 k0_off10 k0_off9_eq k0_off10_eq _ _ _ _ (fun k acc a b => k0_pay33 (zw c) (k0_pay31 (Xh m 1 c)) (Ih m 1 c) (Ih m 1 c) (Ih m 1 c) (Ih m 1 c) k acc a b) (k0_pay32 (F := F))) $$ HP
  iintro HP
  unfold pairAt
  icases HP with ⟨F1_0, F1_1, F2_0, F2_1⟩
  iapply (slot_load 𝒱₀ c.tc none ptM (Rect.unit (s := S1024x1024) ![256, 0] S256x1024.size inb_S1024x1024_S256x1024_256_0) (hr := fun _ => rfl)) $$ P_1
  iintro P_1
  iapply (load_any c sbM (Rect.unit (s := S3x256x1024) ![0, 0, 0] S1x256x1024.size inb_S3x256x1024_S1x256x1024_0_0_0) (fun _ => rfl)) $$ S_0
  iintro %_ S_0
  iapply (store_any c sbM (Rect.unit (s := S3x256x1024) ![0, 0, 0] S1x256x1024.size inb_S3x256x1024_S1x256x1024_0_0_0) (fun _ => rfl)) $$ S_0
  iintro S_0
  iapply Hk
  isplitl [IL_1]; · iexact IL_1
  isplitl [F1_0]; · iexact F1_0
  isplitl [F1_1]; · iexact F1_1
  isplitl [F2_0]; · iexact F2_0
  isplitl [F2_1]; · iexact F2_1
  isplitl [P_1]; · iexact P_1
  iexact S_0

theorem part23_wp {k : _ → Prog (TpuEff nD τ sig (Elt F) Λ₀ .tc) α} :
    (iprop(Env m K ∗ owns c.tc sbS0 fullShare (red0 m c) ∗ slot (F := F) (nxt c) rbS0 ∗ X0 c (dsem 21) (dsem 24) ∗ Ow c 3 ∗ owns c.tc xS2 fullShare.left (Xh m 2 c) ∗ owns c.tc iS2 fullShare.left (Ih m 2 c) ∗ owns c.tc f1S0 fullShare (w1v2 m c) ∗ owns c.tc f1S1 fullShare (w1v3 m c) ∗ owns c.tc f2S0 fullShare (w2v2 m c) ∗ owns c.tc f2S1 fullShare (w2v3 m c)) : sProp 𝕄)
      ⊢ iprop(((X1 c (dsem 21) (dsem 24) ∗ Ow c 2 ∗ owns c.tc xS2 fullShare.left (Xh m 2 c) ∗ owns c.tc iS2 fullShare.left (Ih m 2 c) ∗ owns c.tc f1S0 fullShare (w1v2 m c) ∗ owns c.tc f1S1 fullShare (w1v3 m c) ∗ owns c.tc f2S0 fullShare (w2v2 m c) ∗ owns c.tc f2S1 fullShare (w2v3 m c)) -∗ wp frame (wpE (defs₀ (F := F)) 𝒱₀ c.tc none) Set.univ (k (lp6 m c)) Q)
          -∗ wp frame (wpE (defs₀ (F := F)) 𝒱₀ c.tc none) Set.univ (k0_part23 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c (zw c) >>= k) Q) := by
  rw [k0_part23_eq_skeleton]
  unfold k0_part23_skel
  simp only [k0_t6_body, semSignalWord, semWaitWord, Prog.lift, Prog.bind_op, Prog.bind_ret, Prog.pure_eq_ret, Prog.bind_assoc, wp_deviceId, slice21, slice24, dev12_eq c]
  iintro ⟨#HE, S_0, D_9, T_9, OW, XL_2, IL_2, F1_0, F1_1, F2_0, F2_1⟩ Hk
  iapply (send_cell m K c (dsem 21) (dsem 24) slice21 slice24 2 (by decide) (by decide) (dev12_eq c) rfl sbS0 rbS0 squeezes_S1x256x1024_S256x1024 squeezes_S1x256x1024_S256x1024 rfl rfl (payS_9 m c) (payR_9 m c)) $$ [S_0 D_9 T_9 OW]
  · isplitr; · iexact HE
    isplitl [S_0]; · iexact S_0
    isplitl [D_9]; · iexact D_9
    isplitl [T_9]; · iexact T_9
    iexact OW
  iintro ⟨T_9, OW⟩
  iapply (slot_load 𝒱₀ c.tc none xcM (Rect.unit (s := S4x256x1024) ![2, 0, 0] S1x256x1024.size inb_S4x256x1024_S1x256x1024_2_0_0) (hr := fun _ => rfl)) $$ XL_2
  iintro XL_2
  iapply (slot_load 𝒱₀ c.tc none icM (Rect.unit (s := S4x256x4) ![2, 0, 0] S1x256x4.size inb_S4x256x4_S1x256x4_2_0_0) (hr := fun _ => rfl)) $$ IL_2
  iintro IL_2
  iapply (slot_load 𝒱₀ c.tc none icM (Rect.unit (s := S4x256x4) ![2, 0, 0] S1x256x4.size inb_S4x256x4_S1x256x4_2_0_0) (hr := fun _ => rfl)) $$ IL_2
  iintro IL_2
  iapply (slot_load 𝒱₀ c.tc none icM (Rect.unit (s := S4x256x4) ![2, 0, 0] S1x256x4.size inb_S4x256x4_S1x256x4_2_0_0) (hr := fun _ => rfl)) $$ IL_2
  iintro IL_2
  iapply (slot_load 𝒱₀ c.tc none icM (Rect.unit (s := S4x256x4) ![2, 0, 0] S1x256x4.size inb_S4x256x4_S1x256x4_2_0_0) (hr := fun _ => rfl)) $$ IL_2
  iintro IL_2
  ihave HP : pairAt c (w1v2 m c) (w1v3 m c) (w2v2 m c) (w2v3 m c) $$ [F1_0 F1_1 F2_0 F2_1]
  · unfold pairAt
    isplitl [F1_0]; · iexact F1_0
    isplitl [F1_1]; · iexact F1_1
    isplitl [F2_0] <;> iassumption
  iapply (pair_loop c k0_t6_loop k0_t6_ok trips6 k0_off11 k0_off12 k0_off11_eq k0_off12_eq _ _ _ _ (fun k acc a b => k0_pay36 (zw c) (Xh m 2 c) (Ih m 2 c) (Ih m 2 c) (Ih m 2 c) (Ih m 2 c) k acc a b) (k0_pay35 (F := F))) $$ HP
  iintro HP
  unfold pairAt
  icases HP with ⟨F1_0, F1_1, F2_0, F2_1⟩
  iapply Hk
  isplitl [T_9]; · iexact T_9
  isplitl [OW]; · iexact OW
  isplitl [XL_2]; · iexact XL_2
  isplitl [IL_2]; · iexact IL_2
  isplitl [F1_0]; · iexact F1_0
  isplitl [F1_1]; · iexact F1_1
  isplitl [F2_0]; · iexact F2_0
  iexact F2_1

theorem part24_wp {v2 v5 v10 : BitVec 32} {k : _ → Prog (TpuEff nD τ sig (Elt F) Λ₀ .tc) α} :
    (iprop(Env m K ∗ X1 c (dsem 21) (dsem 24) ∗ Ow c 2 ∗ owns c.tc pS2 fullShare (pt2 m c) ∗ slot (F := F) c sbS1) : sProp 𝕄)
      ⊢ iprop((∀ w, (owns c.tc sbS0 fullShare (red0 m c) ∗ X3 c (dsem 21) (dsem 24) ∗ Ow c 2 ∗ owns c.tc rbS0 fullShare (red0 m (prv c)) ∗ owns c.tc pS2 fullShare (pt2 m c) ∗ owns c.tc sbS1 fullShare (red1 m c)) -∗ wp frame (wpE (defs₀ (F := F)) 𝒱₀ c.tc none) Set.univ (k w) Q)
          -∗ wp frame (wpE (defs₀ (F := F)) 𝒱₀ c.tc none) Set.univ (k0_part24 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 v10 (lp6 m c) >>= k) Q) := by
  rw [k0_part24_eq_skeleton]
  unfold k0_part24_skel
  simp only [semSignalWord, semWaitWord, Prog.lift, Prog.bind_op, Prog.bind_ret, Prog.pure_eq_ret, Prog.bind_assoc, wp_deviceId, slice21, slice24]
  iintro ⟨#HE, T_9, OW, P_2, S_1⟩ Hk
  iapply (wait_send m K c (dsem 21) (dsem 24) slice21 2 (by decide) (by decide) (by show dmaLv _ + _ ≤ _; decide) (dstw := (sbS0.squeeze S256x1024 squeezes_S1x256x1024_S256x1024)) rfl (P := owns c.tc sbS0 fullShare (red0 m c)) rfl) $$ [T_9 OW]
  · isplitr; · iexact HE
    isplitl [T_9]; · iexact T_9
    iexact OW
  iintro ⟨T_9, OW, S_0⟩
  iapply (wait_recv m K c (dsem 21) (dsem 24) slice24 2 (by decide) (by decide) (by show dmaLv _ + _ ≤ _; decide) (dstw := (rbS0.squeeze S256x1024 squeezes_S1x256x1024_S256x1024)) rfl (P := owns c.tc rbS0 fullShare (red0 m (prv c))) rfl) $$ [T_9 OW]
  · isplitr; · iexact HE
    isplitl [T_9]; · iexact T_9
    iexact OW
  iintro ⟨T_9, OW, B_0⟩
  iapply (slot_load 𝒱₀ c.tc none ptM (Rect.unit (s := S1024x1024) ![512, 0] S256x1024.size inb_S1024x1024_S256x1024_512_0) (hr := fun _ => rfl)) $$ P_2
  iintro P_2
  iapply (slot_load 𝒱₀ c.tc none rbM (Rect.unit (s := S3x256x1024) ![0, 0, 0] S1x256x1024.size inb_S3x256x1024_S1x256x1024_0_0_0) (hr := fun _ => rfl)) $$ B_0
  iintro B_0
  iapply (load_any c sbM (Rect.unit (s := S3x256x1024) ![1, 0, 0] S1x256x1024.size inb_S3x256x1024_S1x256x1024_1_0_0) (fun _ => rfl)) $$ S_1
  iintro %_ S_1
  iapply (store_any c sbM (Rect.unit (s := S3x256x1024) ![1, 0, 0] S1x256x1024.size inb_S3x256x1024_S1x256x1024_1_0_0) (fun _ => rfl)) $$ S_1
  iintro S_1
  iapply Hk
  isplitl [S_0]; · iexact S_0
  isplitl [T_9]; · iexact T_9
  isplitl [OW]; · iexact OW
  isplitl [B_0]; · iexact B_0
  isplitl [P_2]; · iexact P_2
  iexact S_1

theorem part25_wp {v10 w : BitVec 32} {k : _ → Prog (TpuEff nD τ sig (Elt F) Λ₀ .tc) α} :
    (iprop(Env m K ∗ owns c.tc sbS1 fullShare (red1 m c) ∗ slot (F := F) (nxt c) rbS1 ∗ X0 c (dsem 22) (dsem 25) ∗ Ow c 2 ∗ owns c.tc xS3 fullShare (Xh m 3 c) ∗ owns c.tc iS3 fullShare (Ih m 3 c) ∗ owns c.tc f1S0 fullShare (w1v2 m c) ∗ owns c.tc f1S1 fullShare (w1v3 m c) ∗ owns c.tc f2S0 fullShare (w2v2 m c) ∗ owns c.tc f2S1 fullShare (w2v3 m c)) : sProp 𝕄)
      ⊢ iprop(((X1 c (dsem 22) (dsem 25) ∗ Ow c 1 ∗ owns c.tc xS3 fullShare (Xh m 3 c) ∗ owns c.tc iS3 fullShare (Ih m 3 c) ∗ owns c.tc f1S0 fullShare (w1v2 m c) ∗ owns c.tc f1S1 fullShare (w1v3 m c) ∗ owns c.tc f2S0 fullShare (w2v2 m c) ∗ owns c.tc f2S1 fullShare (w2v3 m c)) -∗ wp frame (wpE (defs₀ (F := F)) 𝒱₀ c.tc none) Set.univ (k (lp7 m c)) Q)
          -∗ wp frame (wpE (defs₀ (F := F)) 𝒱₀ c.tc none) Set.univ (k0_part25 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c (zw c) v10 w >>= k) Q) := by
  rw [k0_part25_eq_skeleton]
  unfold k0_part25_skel
  simp only [k0_t7_body, semSignalWord, semWaitWord, Prog.lift, Prog.bind_op, Prog.bind_ret, Prog.pure_eq_ret, Prog.bind_assoc, wp_deviceId, slice22, slice25, dev13_eq c]
  iintro ⟨#HE, S_1, D_10, T_10, OW, X_3, I_3, F1_0, F1_1, F2_0, F2_1⟩ Hk
  iapply (send_cell m K c (dsem 22) (dsem 25) slice22 slice25 1 (by decide) (by decide) (dev13_eq c) rfl sbS1 rbS1 squeezes_S1x256x1024_S256x1024 squeezes_S1x256x1024_S256x1024 rfl rfl (payS_10 m c) (payR_10 m c)) $$ [S_1 D_10 T_10 OW]
  · isplitr; · iexact HE
    isplitl [S_1]; · iexact S_1
    isplitl [D_10]; · iexact D_10
    isplitl [T_10]; · iexact T_10
    iexact OW
  iintro ⟨T_10, OW⟩
  iapply (slot_load 𝒱₀ c.tc none xcM (Rect.unit (s := S4x256x1024) ![3, 0, 0] S1x256x1024.size inb_S4x256x1024_S1x256x1024_3_0_0) (hr := fun _ => rfl)) $$ X_3
  iintro X_3
  iapply (slot_load 𝒱₀ c.tc none icM (Rect.unit (s := S4x256x4) ![3, 0, 0] S1x256x4.size inb_S4x256x4_S1x256x4_3_0_0) (hr := fun _ => rfl)) $$ I_3
  iintro I_3
  iapply (slot_load 𝒱₀ c.tc none icM (Rect.unit (s := S4x256x4) ![3, 0, 0] S1x256x4.size inb_S4x256x4_S1x256x4_3_0_0) (hr := fun _ => rfl)) $$ I_3
  iintro I_3
  iapply (slot_load 𝒱₀ c.tc none icM (Rect.unit (s := S4x256x4) ![3, 0, 0] S1x256x4.size inb_S4x256x4_S1x256x4_3_0_0) (hr := fun _ => rfl)) $$ I_3
  iintro I_3
  iapply (slot_load 𝒱₀ c.tc none icM (Rect.unit (s := S4x256x4) ![3, 0, 0] S1x256x4.size inb_S4x256x4_S1x256x4_3_0_0) (hr := fun _ => rfl)) $$ I_3
  iintro I_3
  ihave HP : pairAt c (w1v2 m c) (w1v3 m c) (w2v2 m c) (w2v3 m c) $$ [F1_0 F1_1 F2_0 F2_1]
  · unfold pairAt
    isplitl [F1_0]; · iexact F1_0
    isplitl [F1_1]; · iexact F1_1
    isplitl [F2_0] <;> iassumption
  iapply (pair_loop c k0_t7_loop k0_t7_ok trips7 k0_off13 k0_off14 k0_off13_eq k0_off14_eq _ _ _ _ (fun k acc a b => k0_pay39 (zw c) (Xh m 3 c) (Ih m 3 c) (Ih m 3 c) (Ih m 3 c) (Ih m 3 c) k acc a b) (k0_pay38 (F := F))) $$ HP
  iintro HP
  unfold pairAt
  icases HP with ⟨F1_0, F1_1, F2_0, F2_1⟩
  iapply Hk
  isplitl [T_10]; · iexact T_10
  isplitl [OW]; · iexact OW
  isplitl [X_3]; · iexact X_3
  isplitl [I_3]; · iexact I_3
  isplitl [F1_0]; · iexact F1_0
  isplitl [F1_1]; · iexact F1_1
  isplitl [F2_0]; · iexact F2_0
  iexact F2_1

theorem part26_wp {v2 v5 v10 : BitVec 32} {k : _ → Prog (TpuEff nD τ sig (Elt F) Λ₀ .tc) α} :
    (iprop(Env m K ∗ X1 c (dsem 22) (dsem 25) ∗ Ow c 1 ∗ owns c.tc pS3 fullShare (pt3 m c) ∗ slot (F := F) c sbS2) : sProp 𝕄)
      ⊢ iprop((∀ w, (owns c.tc sbS1 fullShare (red1 m c) ∗ X3 c (dsem 22) (dsem 25) ∗ Ow c 1 ∗ owns c.tc rbS1 fullShare (red1 m (prv c)) ∗ owns c.tc pS3 fullShare (pt3 m c) ∗ owns c.tc sbS2 fullShare (red2 m c)) -∗ wp frame (wpE (defs₀ (F := F)) 𝒱₀ c.tc none) Set.univ (k w) Q)
          -∗ wp frame (wpE (defs₀ (F := F)) 𝒱₀ c.tc none) Set.univ (k0_part26 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 v2 v5 v10 (lp7 m c) >>= k) Q) := by
  rw [k0_part26_eq_skeleton]
  unfold k0_part26_skel
  simp only [semSignalWord, semWaitWord, Prog.lift, Prog.bind_op, Prog.bind_ret, Prog.pure_eq_ret, Prog.bind_assoc, wp_deviceId, slice22, slice25]
  iintro ⟨#HE, T_10, OW, P_3, S_2⟩ Hk
  iapply (wait_send m K c (dsem 22) (dsem 25) slice22 1 (by decide) (by decide) (by show dmaLv _ + _ ≤ _; decide) (dstw := (sbS1.squeeze S256x1024 squeezes_S1x256x1024_S256x1024)) rfl (P := owns c.tc sbS1 fullShare (red1 m c)) rfl) $$ [T_10 OW]
  · isplitr; · iexact HE
    isplitl [T_10]; · iexact T_10
    iexact OW
  iintro ⟨T_10, OW, S_1⟩
  iapply (wait_recv m K c (dsem 22) (dsem 25) slice25 1 (by decide) (by decide) (by show dmaLv _ + _ ≤ _; decide) (dstw := (rbS1.squeeze S256x1024 squeezes_S1x256x1024_S256x1024)) rfl (P := owns c.tc rbS1 fullShare (red1 m (prv c))) rfl) $$ [T_10 OW]
  · isplitr; · iexact HE
    isplitl [T_10]; · iexact T_10
    iexact OW
  iintro ⟨T_10, OW, B_1⟩
  iapply (slot_load 𝒱₀ c.tc none ptM (Rect.unit (s := S1024x1024) ![768, 0] S256x1024.size inb_S1024x1024_S256x1024_768_0) (hr := fun _ => rfl)) $$ P_3
  iintro P_3
  iapply (slot_load 𝒱₀ c.tc none rbM (Rect.unit (s := S3x256x1024) ![1, 0, 0] S1x256x1024.size inb_S3x256x1024_S1x256x1024_1_0_0) (hr := fun _ => rfl)) $$ B_1
  iintro B_1
  iapply (load_any c sbM (Rect.unit (s := S3x256x1024) ![2, 0, 0] S1x256x1024.size inb_S3x256x1024_S1x256x1024_2_0_0) (fun _ => rfl)) $$ S_2
  iintro %_ S_2
  iapply (store_any c sbM (Rect.unit (s := S3x256x1024) ![2, 0, 0] S1x256x1024.size inb_S3x256x1024_S1x256x1024_2_0_0) (fun _ => rfl)) $$ S_2
  iintro S_2
  iapply Hk
  isplitl [S_1]; · iexact S_1
  isplitl [T_10]; · iexact T_10
  isplitl [OW]; · iexact OW
  isplitl [B_1]; · iexact B_1
  isplitl [P_3]; · iexact P_3
  iexact S_2

theorem part27_wp {v5 v10 w : BitVec 32} {k : _ → Prog (TpuEff nD τ sig (Elt F) Λ₀ .tc) α} :
    (iprop(Env m K ∗ owns c.tc sbS2 fullShare (red2 m c) ∗ slot (F := F) (nxt c) rbS2 ∗ X0 c (dsem 23) (dsem 26) ∗ Ow c 1 ∗ owns c.tc pS0 fullShare (pt0 m c) ∗ owns c.tc xS0 fullShare.left (Xh m 0 c) ∗ owns c.tc iS0 fullShare.left (Ih m 0 c)) : sProp 𝕄)
      ⊢ iprop(((X1 c (dsem 23) (dsem 26) ∗ Ow c 0 ∗ owns c.tc pS0 fullShare (pt0 m c) ∗ owns c.tc xS0 fullShare.left (Xh m 0 c) ∗ owns c.tc iS0 fullShare.left (Ih m 0 c)) -∗ wp frame (wpE (defs₀ (F := F)) 𝒱₀ c.tc none) Set.univ (k ⟨pt0 m c, k0_pay41 (Xh m 0 c), k0_pay42 (Ih m 0 c), k0_pay43 (Ih m 0 c), k0_pay44 (Ih m 0 c), k0_pay45 (Ih m 0 c), k0_pay46 (F := F), 0#32, 1#32⟩) Q)
          -∗ wp frame (wpE (defs₀ (F := F)) 𝒱₀ c.tc none) Set.univ (k0_part27 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 c v5 v10 w >>= k) Q) := by
  rw [k0_part27_eq_skeleton]
  unfold k0_part27_skel
  simp only [semSignalWord, semWaitWord, Prog.lift, Prog.bind_op, Prog.bind_ret, Prog.pure_eq_ret, Prog.bind_assoc, wp_deviceId, slice23, slice26, dev14_eq c]
  iintro ⟨#HE, S_2, D_11, T_11, OW, P_0, XL_0, IL_0⟩ Hk
  iapply (send_cell m K c (dsem 23) (dsem 26) slice23 slice26 0 (by decide) (by decide) (dev14_eq c) rfl sbS2 rbS2 squeezes_S1x256x1024_S256x1024 squeezes_S1x256x1024_S256x1024 rfl rfl (payS_11 m c) (payR_11 m c)) $$ [S_2 D_11 T_11 OW]
  · isplitr; · iexact HE
    isplitl [S_2]; · iexact S_2
    isplitl [D_11]; · iexact D_11
    isplitl [T_11]; · iexact T_11
    iexact OW
  iintro ⟨T_11, OW⟩
  iapply (slot_load 𝒱₀ c.tc none ptM (Rect.unit (s := S1024x1024) ![0, 0] S256x1024.size inb_S1024x1024_S256x1024_0_0) (hr := fun _ => rfl)) $$ P_0
  iintro P_0
  iapply (slot_load 𝒱₀ c.tc none xcM (Rect.unit (s := S4x256x1024) ![0, 0, 0] S1x256x1024.size inb_S4x256x1024_S1x256x1024_0_0_0) (hr := fun _ => rfl)) $$ XL_0
  iintro XL_0
  iapply (slot_load 𝒱₀ c.tc none icM (Rect.unit (s := S4x256x4) ![0, 0, 0] S1x256x4.size inb_S4x256x4_S1x256x4_0_0_0) (hr := fun _ => rfl)) $$ IL_0
  iintro IL_0
  iapply (slot_load 𝒱₀ c.tc none icM (Rect.unit (s := S4x256x4) ![0, 0, 0] S1x256x4.size inb_S4x256x4_S1x256x4_0_0_0) (hr := fun _ => rfl)) $$ IL_0
  iintro IL_0
  iapply (slot_load 𝒱₀ c.tc none icM (Rect.unit (s := S4x256x4) ![0, 0, 0] S1x256x4.size inb_S4x256x4_S1x256x4_0_0_0) (hr := fun _ => rfl)) $$ IL_0
  iintro IL_0
  iapply (slot_load 𝒱₀ c.tc none icM (Rect.unit (s := S4x256x4) ![0, 0, 0] S1x256x4.size inb_S4x256x4_S1x256x4_0_0_0) (hr := fun _ => rfl)) $$ IL_0
  iintro IL_0
  iapply Hk
  isplitl [T_11]; · iexact T_11
  isplitl [OW]; · iexact OW
  isplitl [P_0]; · iexact P_0
  isplitl [XL_0]; · iexact XL_0
  iexact IL_0

end Parts

end Cert.KernelIdeal.Ring
-- ==== Proof.KernelIdealBody.lean ====
/-
# The body, from its start to its end

The parts in order, the last loop and the last transfer's waits, and the output's store.
-/
module

public import proofs.«01_k».proof.Proof.KernelIdealParts2
public import proofs.«01_k».proof.Proof.KernelIdealParts3

@[expose] public section

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- What a device has as its body starts: its slots and weights, its semaphores' and transfers' shares. -/
def bodyIn (c : Dev nD) : sProp 𝕄 :=
  iprop(owns c.tc w1S0 fullShare (w1v0 m c)
    ∗ owns c.tc w2S0 fullShare (w2v0 m c)
    ∗ owns c.tc w1S1 fullShare (w1v1 m c)
    ∗ owns c.tc w2S1 fullShare (w2v1 m c)
    ∗ owns c.tc w1S2 fullShare (w1v2 m c)
    ∗ owns c.tc w2S2 fullShare (w2v2 m c)
    ∗ owns c.tc w1S3 fullShare (w1v3 m c)
    ∗ owns c.tc w2S3 fullShare (w2v3 m c)
    ∗ slot (F := F) c f1S0
    ∗ slot (F := F) c f2S0
    ∗ slot (F := F) c f1S1
    ∗ slot (F := F) c f2S1
    ∗ semVal (dCell c (dsem 27)) 0
    ∗ semVal (dCell c (dsem 28)) 0
    ∗ semVal (dCell c (dsem 29)) 0
    ∗ semVal (dCell c (dsem 30)) 0
    ∗ (∃ W, owes c.tc (O₀ c) W)
    ∗ dutyTok ER (barCell (prv c)) 0 true
    ∗ dutyTok ER (barCell (nxt c)) 0 false
    ∗ atPos ER (barCell c) 0 ∅ 0
    ∗ cred (tallyAt (barCell c) () 2)
    ∗ lands (F := F) c
    ∗ xPt m c
    ∗ gPt m c
    ∗ oAny c
    ∗ slot (F := F) c rS0
    ∗ slot (F := F) c xS0
    ∗ slot (F := F) c iS0
    ∗ slot (F := F) c sbS0
    ∗ slot (F := F) c sbS1
    ∗ slot (F := F) c sbS2
    ∗ slot (F := F) c pS0
    ∗ slot (F := F) c pS1
    ∗ slot (F := F) c pS2
    ∗ slot (F := F) c pS3
    ∗ X0 c (dsem 9) (dsem 12)
    ∗ X0 c (dsem 10) (dsem 13)
    ∗ X0 c (dsem 11) (dsem 14)
    ∗ X0 c (dsem 3) (dsem 6)
    ∗ X0 c (dsem 15) (dsem 18)
    ∗ X0 c (dsem 4) (dsem 7)
    ∗ X0 c (dsem 16) (dsem 19)
    ∗ X0 c (dsem 5) (dsem 8)
    ∗ X0 c (dsem 17) (dsem 20)
    ∗ X0 c (dsem 21) (dsem 24)
    ∗ X0 c (dsem 22) (dsem 25)
    ∗ X0 c (dsem 23) (dsem 26))

/-- The same as the last transfer has been sent and the last loop is through. -/
def bodyMid (c : Dev nD) : sProp 𝕄 :=
  iprop(xPt m c
    ∗ gPt m c
    ∗ oAny c
    ∗ owns c.tc pS0 fullShare (pt0 m c)
    ∗ owns c.tc pS1 fullShare (pt1 m c)
    ∗ owns c.tc pS2 fullShare (pt2 m c)
    ∗ owns c.tc pS3 fullShare (pt3 m c)
    ∗ semVal (barCell c) 0
    ∗ owns c.tc rS0 fullShare (Rh m 0 c)
    ∗ X3 c (dsem 9) (dsem 12)
    ∗ owns c.tc rS1 fullShare (Rh m 1 c)
    ∗ X3 c (dsem 10) (dsem 13)
    ∗ owns c.tc rS2 fullShare (Rh m 2 c)
    ∗ X3 c (dsem 11) (dsem 14)
    ∗ owns c.tc rS3 fullShare (Rh m 3 c)
    ∗ owns c.tc w1S0 fullShare (w1v0 m c)
    ∗ owns c.tc w2S0 fullShare (w2v0 m c)
    ∗ owns c.tc w1S1 fullShare (w1v1 m c)
    ∗ owns c.tc w2S1 fullShare (w2v1 m c)
    ∗ owns c.tc xS0 fullShare.left (Xh m 0 c)
    ∗ owns c.tc iS0 fullShare.left (Ih m 0 c)
    ∗ owns c.tc xS0 fullShare.right (Xh m 0 c)
    ∗ X3 c (dsem 3) (dsem 6)
    ∗ owns c.tc iS0 fullShare.right (Ih m 0 c)
    ∗ X3 c (dsem 15) (dsem 18)
    ∗ owns c.tc xS1 fullShare.left (Xh m 1 c)
    ∗ owns c.tc iS1 fullShare.left (Ih m 1 c)
    ∗ owns c.tc xS1 fullShare.right (Xh m 1 c)
    ∗ X3 c (dsem 4) (dsem 7)
    ∗ owns c.tc iS1 fullShare.right (Ih m 1 c)
    ∗ X3 c (dsem 16) (dsem 19)
    ∗ owns c.tc xS2 fullShare.left (Xh m 2 c)
    ∗ owns c.tc iS2 fullShare.left (Ih m 2 c)
    ∗ owns c.tc xS2 fullShare.right (Xh m 2 c)
    ∗ X3 c (dsem 5) (dsem 8)
    ∗ owns c.tc xS3 fullShare (Xh m 3 c)
    ∗ owns c.tc iS2 fullShare.right (Ih m 2 c)
    ∗ X3 c (dsem 17) (dsem 20)
    ∗ owns c.tc iS3 fullShare (Ih m 3 c)
    ∗ owns c.tc f1S0 fullShare (w1v2 m c)
    ∗ owns c.tc w1S2 fullShare (w1v2 m c)
    ∗ semVal (dCell c (dsem 27)) 0
    ∗ owns c.tc f2S0 fullShare (w2v2 m c)
    ∗ owns c.tc w2S2 fullShare (w2v2 m c)
    ∗ semVal (dCell c (dsem 29)) 0
    ∗ owns c.tc f1S1 fullShare (w1v3 m c)
    ∗ owns c.tc w1S3 fullShare (w1v3 m c)
    ∗ semVal (dCell c (dsem 28)) 0
    ∗ owns c.tc f2S1 fullShare (w2v3 m c)
    ∗ owns c.tc w2S3 fullShare (w2v3 m c)
    ∗ semVal (dCell c (dsem 30)) 0
    ∗ owns c.tc sbS0 fullShare (red0 m c)
    ∗ X3 c (dsem 21) (dsem 24)
    ∗ owns c.tc rbS0 fullShare (red0 m (prv c))
    ∗ owns c.tc sbS1 fullShare (red1 m c)
    ∗ X3 c (dsem 22) (dsem 25)
    ∗ owns c.tc rbS1 fullShare (red1 m (prv c))
    ∗ X2 c (dsem 23) (dsem 26)
    ∗ Ow c 0
    ∗ owns c.tc sbS2 fullShare (red2 m c))

/-- What it has at the end. -/
def bodyOut (c : Dev nD) : sProp 𝕄 :=
  iprop(xPt m c
    ∗ gPt m c
    ∗ oPt c (outv m c)
    ∗ owns c.tc pS0 fullShare (pt0 m c)
    ∗ owns c.tc pS1 fullShare (pt1 m c)
    ∗ owns c.tc pS2 fullShare (pt2 m c)
    ∗ owns c.tc pS3 fullShare (pt3 m c)
    ∗ semVal (barCell c) 0
    ∗ owns c.tc rS0 fullShare (Rh m 0 c)
    ∗ X3 c (dsem 9) (dsem 12)
    ∗ owns c.tc rS1 fullShare (Rh m 1 c)
    ∗ X3 c (dsem 10) (dsem 13)
    ∗ owns c.tc rS2 fullShare (Rh m 2 c)
    ∗ X3 c (dsem 11) (dsem 14)
    ∗ owns c.tc rS3 fullShare (Rh m 3 c)
    ∗ owns c.tc w1S0 fullShare (w1v0 m c)
    ∗ owns c.tc w2S0 fullShare (w2v0 m c)
    ∗ owns c.tc w1S1 fullShare (w1v1 m c)
    ∗ owns c.tc w2S1 fullShare (w2v1 m c)
    ∗ owns c.tc xS0 fullShare.left (Xh m 0 c)
    ∗ owns c.tc iS0 fullShare.left (Ih m 0 c)
    ∗ owns c.tc xS0 fullShare.right (Xh m 0 c)
    ∗ X3 c (dsem 3) (dsem 6)
    ∗ owns c.tc iS0 fullShare.right (Ih m 0 c)
    ∗ X3 c (dsem 15) (dsem 18)
    ∗ owns c.tc xS1 fullShare.left (Xh m 1 c)
    ∗ owns c.tc iS1 fullShare.left (Ih m 1 c)
    ∗ owns c.tc xS1 fullShare.right (Xh m 1 c)
    ∗ X3 c (dsem 4) (dsem 7)
    ∗ owns c.tc iS1 fullShare.right (Ih m 1 c)
    ∗ X3 c (dsem 16) (dsem 19)
    ∗ owns c.tc xS2 fullShare.left (Xh m 2 c)
    ∗ owns c.tc iS2 fullShare.left (Ih m 2 c)
    ∗ owns c.tc xS2 fullShare.right (Xh m 2 c)
    ∗ X3 c (dsem 5) (dsem 8)
    ∗ owns c.tc xS3 fullShare (Xh m 3 c)
    ∗ owns c.tc iS2 fullShare.right (Ih m 2 c)
    ∗ X3 c (dsem 17) (dsem 20)
    ∗ owns c.tc iS3 fullShare (Ih m 3 c)
    ∗ owns c.tc f1S0 fullShare (w1v2 m c)
    ∗ owns c.tc w1S2 fullShare (w1v2 m c)
    ∗ semVal (dCell c (dsem 27)) 0
    ∗ owns c.tc f2S0 fullShare (w2v2 m c)
    ∗ owns c.tc w2S2 fullShare (w2v2 m c)
    ∗ semVal (dCell c (dsem 29)) 0
    ∗ owns c.tc f1S1 fullShare (w1v3 m c)
    ∗ owns c.tc w1S3 fullShare (w1v3 m c)
    ∗ semVal (dCell c (dsem 28)) 0
    ∗ owns c.tc f2S1 fullShare (w2v3 m c)
    ∗ owns c.tc w2S3 fullShare (w2v3 m c)
    ∗ semVal (dCell c (dsem 30)) 0
    ∗ owns c.tc sbS0 fullShare (red0 m c)
    ∗ X3 c (dsem 21) (dsem 24)
    ∗ owns c.tc rbS0 fullShare (red0 m (prv c))
    ∗ owns c.tc sbS1 fullShare (red1 m c)
    ∗ X3 c (dsem 22) (dsem 25)
    ∗ owns c.tc rbS1 fullShare (red1 m (prv c))
    ∗ owns c.tc sbS2 fullShare (red2 m c)
    ∗ X3 c (dsem 23) (dsem 26)
    ∗ Ow c 0
    ∗ owns c.tc rbS2 fullShare (red2 m (prv c)))

section Body
variable (K : Dev nD × Fin 25 → ℕ) (c : Dev nD) {α : Type} {Q : α → sProp (MT nD τ sig Unit (Elt F) ℕ UU ℕ)}

set_option maxRecDepth 8000 in
set_option maxHeartbeats 8000000 in
theorem part28_wp {k : _ → Prog (TpuEff nD τ sig (Elt F) Λ₀ .tc) α} :
    (iprop(Env m K ∗ bodyIn m c) : sProp 𝕄)
      ⊢ iprop((bodyMid m c -∗ wp frame (wpE (defs₀ (F := F)) 𝒱₀ c.tc none) Set.univ (k (k0_pay48 (pt0 m c) (lp8 m c))) Q)
          -∗ wp frame (wpE (defs₀ (F := F)) 𝒱₀ c.tc none) Set.univ (k0_part28 xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17 >>= k) Q) := by
  rw [k0_part28_eq_skeleton]
  unfold k0_part28_skel bodyIn bodyMid
  simp only [k0_t8_body, Prog.lift, Prog.bind_op, Prog.bind_ret, Prog.pure_eq_ret, Prog.bind_assoc]
  iintro ⟨#HE, W1_0, W2_0, W1_1, W2_1, W1_2, W2_2, W1_3, W2_3, F1_0, F2_0, F1_1, F2_1, Z27, Z28, Z29, Z30, OO, TB1, TB2, AB, CB, LA, XP, GP, OP, R_0, X_0, I_0, S_0, S_1, S_2, P_0, P_1, P_2, P_3, T_0, T_1, T_2, T_3, T_4, T_5, T_6, T_7, T_8, T_9, T_10, T_11⟩ Hk
  iapply (part1_wp m K c ) $$ [W1_0 F1_0 Z27 W2_0 F2_0 Z29]
  · isplitr; · iexact HE
    isplitl [W1_0]; · iexact W1_0
    isplitl [F1_0]; · iexact F1_0
    isplitl [Z27]; · iexact Z27
    isplitl [W2_0]; · iexact W2_0
    isplitl [F2_0]; · iexact F2_0
    iexact Z29
  iintro %v2 %v5 %v10 %v13 ⟨FL27, FL29⟩
  dsimp only
  iapply (part2_wp m K c (rfl : Rh m 0 c = k0_pay2 (gstg m c))) $$ [W1_1 F1_1 Z28 W2_1 F2_1 Z30 TB1 LA OO TB2 CB AB GP R_0]
  · isplitr; · iexact HE
    isplitl [W1_1]; · iexact W1_1
    isplitl [F1_1]; · iexact F1_1
    isplitl [Z28]; · iexact Z28
    isplitl [W2_1]; · iexact W2_1
    isplitl [F2_1]; · iexact F2_1
    isplitl [Z30]; · iexact Z30
    isplitl [TB1]; · iexact TB1
    isplitl [LA]; · iexact LA
    isplitl [OO]; · iexact OO
    isplitl [TB2]; · iexact TB2
    isplitl [CB]; · iexact CB
    isplitl [AB]; · iexact AB
    isplitl [GP]; · iexact GP
    iexact R_0
  iintro ⟨FL28, FL30, ZB, OW, D_0, D_1, D_2, D_3, D_4, D_5, D_6, D_7, D_8, D_9, D_10, D_11, GP, R_0⟩
  iapply (part3_wp m K c ) $$ [R_0 D_0 T_0 OW]
  · isplitr; · iexact HE
    isplitl [R_0]; · iexact R_0
    isplitl [D_0]; · iexact D_0
    isplitl [T_0]; · iexact T_0
    iexact OW
  iintro ⟨T_0, OW, R_0⟩
  iapply (part4_wp m K c ) $$ [T_0 OW D_1 T_1]
  · isplitr; · iexact HE
    isplitl [T_0]; · iexact T_0
    isplitl [OW]; · iexact OW
    isplitl [D_1]; · iexact D_1
    iexact T_1
  iintro %w4 ⟨T_0, T_1, OW, R_1⟩
  iapply (part5_wp m K c ) $$ [T_1 OW D_2 T_2]
  · isplitr; · iexact HE
    isplitl [T_1]; · iexact T_1
    isplitl [OW]; · iexact OW
    isplitl [D_2]; · iexact D_2
    iexact T_2
  iintro ⟨T_1, T_2, OW, R_2⟩
  iapply (part6_wp m K c rfl rfl rfl) $$ [T_2 OW XP R_0 R_1 R_2]
  · isplitr; · iexact HE
    isplitl [T_2]; · iexact T_2
    isplitl [OW]; · iexact OW
    isplitl [XP]; · iexact XP
    isplitl [R_0]; · iexact R_0
    isplitl [R_1]; · iexact R_1
    iexact R_2
  iintro ⟨T_2, OW, R_3, XP, R_0, R_1, R_2⟩
  dsimp only
  iapply (part7_wp m K c ) $$ []
  · iexact HE
  iintro -
  dsimp only
  iapply (part8_wp m K c ) $$ []
  · iexact HE
  iintro -
  dsimp only
  iapply (part9_wp m K c (v153 := k0_pay3 (xstg m c)) (v219 := k0_pay13 (k0_pay8 io16 (hit m c) k0_pay7) (k0_pay12 (zw c) io16 (hit m c) k0_pay7) 4#32)
    (v254 := k0_pay14 (zw c) (k0_pay11 (gat m c) io16 (hit m c) k0_pay7)) (v256 := k0_pay15 (top m c) (k0_pay10 (gat m c) io16 (hit m c) k0_pay7)) (v260 := k0_pay16 (top m c) (k0_pay10 (gat m c) io16 (hit m c) k0_pay7)) rfl rfl) $$ [X_0 I_0 FL27 OW FL29]
  · isplitr; · iexact HE
    isplitl [X_0]; · iexact X_0
    isplitl [I_0]; · iexact I_0
    isplitl [FL27]; · iexact FL27
    isplitl [OW]; · iexact OW
    iexact FL29
  iintro ⟨X_0, I_0, OW, F1_0, W1_0, Z27, F2_0, W2_0, Z29⟩
  iapply (part10_wp m K c ) $$ [FL28 OW FL30 X_0 D_3 T_3]
  · isplitr; · iexact HE
    isplitl [FL28]; · iexact FL28
    isplitl [OW]; · iexact OW
    isplitl [FL30]; · iexact FL30
    isplitl [X_0]; · iexact X_0
    isplitl [D_3]; · iexact D_3
    iexact T_3
  iintro ⟨F1_1, W1_1, Z28, F2_1, W2_1, Z30, XL_0, T_3, OW⟩
  iapply (part11_wp m K c ) $$ [I_0 D_4 T_4 OW XL_0 F1_0 F1_1 F2_0 F2_1 P_0]
  · isplitr; · iexact HE
    isplitl [I_0]; · iexact I_0
    isplitl [D_4]; · iexact D_4
    isplitl [T_4]; · iexact T_4
    isplitl [OW]; · iexact OW
    isplitl [XL_0]; · iexact XL_0
    isplitl [F1_0]; · iexact F1_0
    isplitl [F1_1]; · iexact F1_1
    isplitl [F2_0]; · iexact F2_0
    isplitl [F2_1]; · iexact F2_1
    iexact P_0
  iintro ⟨IL_0, T_4, OW, XL_0, F1_0, F1_1, F2_0, F2_1, P_0⟩
  iapply (part12_wp m K c ) $$ [T_3 OW T_4]
  · isplitr; · iexact HE
    isplitl [T_3]; · iexact T_3
    isplitl [OW]; · iexact OW
    iexact T_4
  iintro %w12 %u12 ⟨XR_0, T_3, X_1, T_4, OW, IR_0⟩
  dsimp only
  iapply (part13_wp m K c ) $$ [T_4 OW X_1 D_5 T_5]
  · isplitr; · iexact HE
    isplitl [T_4]; · iexact T_4
    isplitl [OW]; · iexact OW
    isplitl [X_1]; · iexact X_1
    isplitl [D_5]; · iexact D_5
    iexact T_5
  iintro ⟨T_4, I_1, XL_1, T_5, OW⟩
  iapply (part14_wp m K c ) $$ [I_1 D_6 T_6 OW XL_1 F1_0 F1_1 F2_0 F2_1 P_1]
  · isplitr; · iexact HE
    isplitl [I_1]; · iexact I_1
    isplitl [D_6]; · iexact D_6
    isplitl [T_6]; · iexact T_6
    isplitl [OW]; · iexact OW
    isplitl [XL_1]; · iexact XL_1
    isplitl [F1_0]; · iexact F1_0
    isplitl [F1_1]; · iexact F1_1
    isplitl [F2_0]; · iexact F2_0
    isplitl [F2_1]; · iexact F2_1
    iexact P_1
  iintro ⟨IL_1, T_6, OW, XL_1, F1_0, F1_1, F2_0, F2_1, P_1⟩
  iapply (part15_wp m K c ) $$ [T_5 OW T_6]
  · isplitr; · iexact HE
    isplitl [T_5]; · iexact T_5
    isplitl [OW]; · iexact OW
    iexact T_6
  iintro %w15 %u15 ⟨XR_1, T_5, X_2, T_6, OW, IR_1⟩
  dsimp only
  iapply (part16_wp m K c ) $$ [T_6 OW X_2 D_7 T_7]
  · isplitr; · iexact HE
    isplitl [T_6]; · iexact T_6
    isplitl [OW]; · iexact OW
    isplitl [X_2]; · iexact X_2
    isplitl [D_7]; · iexact D_7
    iexact T_7
  iintro ⟨T_6, I_2, XL_2, T_7, OW⟩
  iapply (part17_wp m K c ) $$ [I_2 D_8 T_8 OW XL_2 F1_0 F1_1 F2_0 F2_1 P_2]
  · isplitr; · iexact HE
    isplitl [I_2]; · iexact I_2
    isplitl [D_8]; · iexact D_8
    isplitl [T_8]; · iexact T_8
    isplitl [OW]; · iexact OW
    isplitl [XL_2]; · iexact XL_2
    isplitl [F1_0]; · iexact F1_0
    isplitl [F1_1]; · iexact F1_1
    isplitl [F2_0]; · iexact F2_0
    isplitl [F2_1]; · iexact F2_1
    iexact P_2
  iintro ⟨IL_2, T_8, OW, XL_2, F1_0, F1_1, F2_0, F2_1, P_2⟩
  iapply (part18_wp m K c ) $$ [T_7 OW T_8]
  · isplitr; · iexact HE
    isplitl [T_7]; · iexact T_7
    isplitl [OW]; · iexact OW
    iexact T_8
  iintro %w18 %u18 ⟨XR_2, T_7, X_3, T_8, OW, IR_2⟩
  dsimp only
  iapply (part19_wp m K c ) $$ [T_8 OW X_3 F1_0 F1_1 F2_0 F2_1 P_3]
  · isplitr; · iexact HE
    isplitl [T_8]; · iexact T_8
    isplitl [OW]; · iexact OW
    isplitl [X_3]; · iexact X_3
    isplitl [F1_0]; · iexact F1_0
    isplitl [F1_1]; · iexact F1_1
    isplitl [F2_0]; · iexact F2_0
    isplitl [F2_1]; · iexact F2_1
    iexact P_3
  iintro ⟨T_8, OW, I_3, X_3, F1_0, F1_1, F2_0, F2_1, P_3⟩
  iapply (part20_wp m K c ) $$ [P_3 F1_0 W1_2 Z27 F2_0 W2_2 Z29 F1_1 W1_3 Z28 F2_1 W2_3 Z30]
  · isplitr; · iexact HE
    isplitl [P_3]; · iexact P_3
    isplitl [F1_0]; · iexact F1_0
    isplitl [W1_2]; · iexact W1_2
    isplitl [Z27]; · iexact Z27
    isplitl [F2_0]; · iexact F2_0
    isplitl [W2_2]; · iexact W2_2
    isplitl [Z29]; · iexact Z29
    isplitl [F1_1]; · iexact F1_1
    isplitl [W1_3]; · iexact W1_3
    isplitl [Z28]; · iexact Z28
    isplitl [F2_1]; · iexact F2_1
    isplitl [W2_3]; · iexact W2_3
    iexact Z30
  iintro ⟨P_3, FL27, FL29, FL28, FL30⟩
  iapply (part21_wp m K c ) $$ [FL27 OW FL29 FL28 FL30 XL_1]
  · isplitr; · iexact HE
    isplitl [FL27]; · iexact FL27
    isplitl [OW]; · iexact OW
    isplitl [FL29]; · iexact FL29
    isplitl [FL28]; · iexact FL28
    isplitl [FL30]; · iexact FL30
    iexact XL_1
  iintro ⟨OW, F1_0, W1_2, Z27, F2_0, W2_2, Z29, F1_1, W1_3, Z28, F2_1, W2_3, Z30, XL_1⟩
  iapply (part22_wp m K c ) $$ [IL_1 F1_0 F1_1 F2_0 F2_1 P_1 S_0]
  · isplitr; · iexact HE
    isplitl [IL_1]; · iexact IL_1
    isplitl [F1_0]; · iexact F1_0
    isplitl [F1_1]; · iexact F1_1
    isplitl [F2_0]; · iexact F2_0
    isplitl [F2_1]; · iexact F2_1
    isplitl [P_1]; · iexact P_1
    iexact S_0
  iintro ⟨IL_1, F1_0, F1_1, F2_0, F2_1, P_1, S_0⟩
  iapply (part23_wp m K c ) $$ [S_0 D_9 T_9 OW XL_2 IL_2 F1_0 F1_1 F2_0 F2_1]
  · isplitr; · iexact HE
    isplitl [S_0]; · iexact S_0
    isplitl [D_9]; · iexact D_9
    isplitl [T_9]; · iexact T_9
    isplitl [OW]; · iexact OW
    isplitl [XL_2]; · iexact XL_2
    isplitl [IL_2]; · iexact IL_2
    isplitl [F1_0]; · iexact F1_0
    isplitl [F1_1]; · iexact F1_1
    isplitl [F2_0]; · iexact F2_0
    iexact F2_1
  iintro ⟨T_9, OW, XL_2, IL_2, F1_0, F1_1, F2_0, F2_1⟩
  iapply (part24_wp m K c ) $$ [T_9 OW P_2 S_1]
  · isplitr; · iexact HE
    isplitl [T_9]; · iexact T_9
    isplitl [OW]; · iexact OW
    isplitl [P_2]; · iexact P_2
    iexact S_1
  iintro %w24 ⟨S_0, T_9, OW, B_0, P_2, S_1⟩
  iapply (part25_wp m K c ) $$ [S_1 D_10 T_10 OW X_3 I_3 F1_0 F1_1 F2_0 F2_1]
  · isplitr; · iexact HE
    isplitl [S_1]; · iexact S_1
    isplitl [D_10]; · iexact D_10
    isplitl [T_10]; · iexact T_10
    isplitl [OW]; · iexact OW
    isplitl [X_3]; · iexact X_3
    isplitl [I_3]; · iexact I_3
    isplitl [F1_0]; · iexact F1_0
    isplitl [F1_1]; · iexact F1_1
    isplitl [F2_0]; · iexact F2_0
    iexact F2_1
  iintro ⟨T_10, OW, X_3, I_3, F1_0, F1_1, F2_0, F2_1⟩
  iapply (part26_wp m K c ) $$ [T_10 OW P_3 S_2]
  · isplitr; · iexact HE
    isplitl [T_10]; · iexact T_10
    isplitl [OW]; · iexact OW
    isplitl [P_3]; · iexact P_3
    iexact S_2
  iintro %w26 ⟨S_1, T_10, OW, B_1, P_3, S_2⟩
  iapply (part27_wp m K c ) $$ [S_2 D_11 T_11 OW P_0 XL_0 IL_0]
  · isplitr; · iexact HE
    isplitl [S_2]; · iexact S_2
    isplitl [D_11]; · iexact D_11
    isplitl [T_11]; · iexact T_11
    isplitl [OW]; · iexact OW
    isplitl [P_0]; · iexact P_0
    isplitl [XL_0]; · iexact XL_0
    iexact IL_0
  iintro ⟨T_11, OW, P_0, XL_0, IL_0⟩
  dsimp only
  ihave HP : pairAt c (w1v2 m c) (w1v3 m c) (w2v2 m c) (w2v3 m c) $$ [F1_0 F1_1 F2_0 F2_1]
  · unfold pairAt
    isplitl [F1_0]; · iexact F1_0
    isplitl [F1_1]; · iexact F1_1
    isplitl [F2_0] <;> iassumption
  iapply (pair_loop c k0_t8_loop k0_t8_ok trips8 k0_off15 k0_off16 k0_off15_eq k0_off16_eq _ _ _ _ (fun k acc a b => k0_pay47 (zw c) (k0_pay41 (Xh m 0 c)) (k0_pay42 (Ih m 0 c)) (k0_pay43 (Ih m 0 c)) (k0_pay44 (Ih m 0 c)) (k0_pay45 (Ih m 0 c)) 0#32 1#32 k acc a b) (k0_pay46 (F := F))) $$ HP
  iintro HP
  unfold pairAt
  icases HP with ⟨F1_0, F1_1, F2_0, F2_1⟩
  iapply (wait_send m K c (dsem 23) (dsem 26) slice23 0 (by decide) (by decide) (by show dmaLv _ + _ ≤ _; decide) (dstw := (sbS2.squeeze S256x1024 squeezes_S1x256x1024_S256x1024)) rfl (P := owns c.tc sbS2 fullShare (red2 m c)) rfl) $$ [T_11 OW]
  · isplitr; · iexact HE
    isplitl [T_11]; · iexact T_11
    iexact OW
  iintro ⟨T_11, OW, S_2⟩
  iapply Hk
  isplitl [XP]; · iexact XP
  isplitl [GP]; · iexact GP
  isplitl [OP]; · iexact OP
  isplitl [P_0]; · iexact P_0
  isplitl [P_1]; · iexact P_1
  isplitl [P_2]; · iexact P_2
  isplitl [P_3]; · iexact P_3
  isplitl [ZB]; · iexact ZB
  isplitl [R_0]; · iexact R_0
  isplitl [T_0]; · iexact T_0
  isplitl [R_1]; · iexact R_1
  isplitl [T_1]; · iexact T_1
  isplitl [R_2]; · iexact R_2
  isplitl [T_2]; · iexact T_2
  isplitl [R_3]; · iexact R_3
  isplitl [W1_0]; · iexact W1_0
  isplitl [W2_0]; · iexact W2_0
  isplitl [W1_1]; · iexact W1_1
  isplitl [W2_1]; · iexact W2_1
  isplitl [XL_0]; · iexact XL_0
  isplitl [IL_0]; · iexact IL_0
  isplitl [XR_0]; · iexact XR_0
  isplitl [T_3]; · iexact T_3
  isplitl [IR_0]; · iexact IR_0
  isplitl [T_4]; · iexact T_4
  isplitl [XL_1]; · iexact XL_1
  isplitl [IL_1]; · iexact IL_1
  isplitl [XR_1]; · iexact XR_1
  isplitl [T_5]; · iexact T_5
  isplitl [IR_1]; · iexact IR_1
  isplitl [T_6]; · iexact T_6
  isplitl [XL_2]; · iexact XL_2
  isplitl [IL_2]; · iexact IL_2
  isplitl [XR_2]; · iexact XR_2
  isplitl [T_7]; · iexact T_7
  isplitl [X_3]; · iexact X_3
  isplitl [IR_2]; · iexact IR_2
  isplitl [T_8]; · iexact T_8
  isplitl [I_3]; · iexact I_3
  isplitl [F1_0]; · iexact F1_0
  isplitl [W1_2]; · iexact W1_2
  isplitl [Z27]; · iexact Z27
  isplitl [F2_0]; · iexact F2_0
  isplitl [W2_2]; · iexact W2_2
  isplitl [Z29]; · iexact Z29
  isplitl [F1_1]; · iexact F1_1
  isplitl [W1_3]; · iexact W1_3
  isplitl [Z28]; · iexact Z28
  isplitl [F2_1]; · iexact F2_1
  isplitl [W2_3]; · iexact W2_3
  isplitl [Z30]; · iexact Z30
  isplitl [S_0]; · iexact S_0
  isplitl [T_9]; · iexact T_9
  isplitl [B_0]; · iexact B_0
  isplitl [S_1]; · iexact S_1
  isplitl [T_10]; · iexact T_10
  isplitl [B_1]; · iexact B_1
  isplitl [T_11]; · iexact T_11
  isplitl [OW]; · iexact OW
  iexact S_2

set_option maxRecDepth 8000 in
set_option maxHeartbeats 4000000 in
theorem body_wp (Kt : PUnit → sProp (MT nD τ sig Unit (Elt F) ℕ UU ℕ)) :
    (iprop(Env m K ∗ bodyIn m c) : sProp 𝕄)
      ⊢ iprop((bodyOut m c -∗ Kt ⟨⟩) -∗ wp frame (wpE (defs₀ (F := F)) 𝒱₀ c.tc none) Set.univ (cc0_body xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17) Kt) := by
  rw [cc0_body_eq_skeleton]
  unfold cc0_body_skel
  simp only [Prog.lift, Prog.bind_op, Prog.bind_ret, Prog.pure_eq_ret, Prog.bind_assoc]
  iintro ⟨#HE, H⟩ Hk
  iapply (part28_wp m K c) $$ [H]
  · isplitr; · iexact HE
    iexact H
  iintro H
  unfold bodyMid bodyOut
  icases H with ⟨XP, GP, OP, P_0, P_1, P_2, P_3, ZB, R_0, T_0, R_1, T_1, R_2, T_2, R_3, W1_0, W2_0, W1_1, W2_1, XL_0, IL_0, XR_0, T_3, IR_0, T_4, XL_1, IL_1, XR_1, T_5, IR_1, T_6, XL_2, IL_2, XR_2, T_7, X_3, IR_2, T_8, I_3, F1_0, W1_2, Z27, F2_0, W2_2, Z29, F1_1, W1_3, Z28, F2_1, W2_3, Z30, S_0, T_9, B_0, S_1, T_10, B_1, T_11, OW, S_2⟩
  iapply (wait_recv m K c (dsem 23) (dsem 26) slice26 0 (by decide) (by decide) (by show dmaLv _ + _ ≤ _; decide) (dstw := (rbS2.squeeze S256x1024 squeezes_S1x256x1024_S256x1024)) rfl (P := owns c.tc rbS2 fullShare (red2 m (prv c))) rfl) $$ [T_11 OW]
  · isplitr; · iexact HE
    isplitl [T_11]; · iexact T_11
    iexact OW
  iintro ⟨T_11, OW, B_2⟩
  iapply (slot_load 𝒱₀ c.tc none rbM (Rect.unit (s := S3x256x1024) ![2, 0, 0] S1x256x1024.size inb_S3x256x1024_S1x256x1024_2_0_0) (hr := fun _ => rfl)) $$ B_2
  iintro B_2
  iapply (o_load c) $$ OP
  iintro %_ OP
  iapply (o_store c) $$ OP
  iintro OP
  rw [wp_ret]; imodintro
  iapply Hk
  isplitl [XP]; · iexact XP
  isplitl [GP]; · iexact GP
  isplitl [OP]; · iexact OP
  isplitl [P_0]; · iexact P_0
  isplitl [P_1]; · iexact P_1
  isplitl [P_2]; · iexact P_2
  isplitl [P_3]; · iexact P_3
  isplitl [ZB]; · iexact ZB
  isplitl [R_0]; · iexact R_0
  isplitl [T_0]; · iexact T_0
  isplitl [R_1]; · iexact R_1
  isplitl [T_1]; · iexact T_1
  isplitl [R_2]; · iexact R_2
  isplitl [T_2]; · iexact T_2
  isplitl [R_3]; · iexact R_3
  isplitl [W1_0]; · iexact W1_0
  isplitl [W2_0]; · iexact W2_0
  isplitl [W1_1]; · iexact W1_1
  isplitl [W2_1]; · iexact W2_1
  isplitl [XL_0]; · iexact XL_0
  isplitl [IL_0]; · iexact IL_0
  isplitl [XR_0]; · iexact XR_0
  isplitl [T_3]; · iexact T_3
  isplitl [IR_0]; · iexact IR_0
  isplitl [T_4]; · iexact T_4
  isplitl [XL_1]; · iexact XL_1
  isplitl [IL_1]; · iexact IL_1
  isplitl [XR_1]; · iexact XR_1
  isplitl [T_5]; · iexact T_5
  isplitl [IR_1]; · iexact IR_1
  isplitl [T_6]; · iexact T_6
  isplitl [XL_2]; · iexact XL_2
  isplitl [IL_2]; · iexact IL_2
  isplitl [XR_2]; · iexact XR_2
  isplitl [T_7]; · iexact T_7
  isplitl [X_3]; · iexact X_3
  isplitl [IR_2]; · iexact IR_2
  isplitl [T_8]; · iexact T_8
  isplitl [I_3]; · iexact I_3
  isplitl [F1_0]; · iexact F1_0
  isplitl [W1_2]; · iexact W1_2
  isplitl [Z27]; · iexact Z27
  isplitl [F2_0]; · iexact F2_0
  isplitl [W2_2]; · iexact W2_2
  isplitl [Z29]; · iexact Z29
  isplitl [F1_1]; · iexact F1_1
  isplitl [W1_3]; · iexact W1_3
  isplitl [Z28]; · iexact Z28
  isplitl [F2_1]; · iexact F2_1
  isplitl [W2_3]; · iexact W2_3
  isplitl [Z30]; · iexact Z30
  isplitl [S_0]; · iexact S_0
  isplitl [T_9]; · iexact T_9
  isplitl [B_0]; · iexact B_0
  isplitl [S_1]; · iexact S_1
  isplitl [T_10]; · iexact T_10
  isplitl [B_1]; · iexact B_1
  isplitl [S_2]; · iexact S_2
  isplitl [T_11]; · iexact T_11
  isplitl [OW]; · iexact OW
  iexact B_2

end Body

end Cert.KernelIdeal.Ring
-- ==== Proof.KernelIdealObl.lean ====
/-
# The launch

The body's obligation at the kernel's one grid point, what the devices are dealt before it, and the run: every
fair execution ends, the result holds the computed block, the arguments are unchanged and every semaphore is at zero.
-/
module

public import proofs.«01_k».proof.Proof.KernelIdealSlots
public import proofs.«01_k».proof.Proof.KernelIdealBody
public import Idealize.ShloMosaic.Lib.Pipeline.CollectiveSegs

@[expose] public section

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The protocol's shares, device by device -/

/-- The kernel's own semaphores: the transfers' and the weight copies'. -/
def osem (k : Fin 28) : SemLoc sig := .dma ⟨k.val + 3, by have := k.isLt; show _ < 31; omega⟩

/-- A transfer's shares but the credit. -/
def Xg (c : Dev nD) (q₁ q₂ : DmaSem sig) : sProp 𝕄 :=
  iprop(dutyTok ER (dCell c q₁) 0 false ∗ dutyTok ER (dCell (nxt c) q₂) 0 false ∗ atPos ER (dCell c q₁) 0 ∅ 0 ∗ atPos ER (dCell c q₂) 0 ∅ 0)

/-- The tokens of the duties on device `c`'s own cells, -/
def toks (c : Dev nD) : sProp 𝕄 :=
  iprop(dutyTok ER (barCell c) 0 false
    ∗ dutyTok ER (barCell c) 0 true
    ∗ dutyTok ER (dCell c (dsem 3)) 0 false
    ∗ dutyTok ER (dCell c (dsem 4)) 0 false
    ∗ dutyTok ER (dCell c (dsem 5)) 0 false
    ∗ dutyTok ER (dCell c (dsem 6)) 0 false
    ∗ dutyTok ER (dCell c (dsem 7)) 0 false
    ∗ dutyTok ER (dCell c (dsem 8)) 0 false
    ∗ dutyTok ER (dCell c (dsem 9)) 0 false
    ∗ dutyTok ER (dCell c (dsem 10)) 0 false
    ∗ dutyTok ER (dCell c (dsem 11)) 0 false
    ∗ dutyTok ER (dCell c (dsem 12)) 0 false
    ∗ dutyTok ER (dCell c (dsem 13)) 0 false
    ∗ dutyTok ER (dCell c (dsem 14)) 0 false
    ∗ dutyTok ER (dCell c (dsem 15)) 0 false
    ∗ dutyTok ER (dCell c (dsem 16)) 0 false
    ∗ dutyTok ER (dCell c (dsem 17)) 0 false
    ∗ dutyTok ER (dCell c (dsem 18)) 0 false
    ∗ dutyTok ER (dCell c (dsem 19)) 0 false
    ∗ dutyTok ER (dCell c (dsem 20)) 0 false
    ∗ dutyTok ER (dCell c (dsem 21)) 0 false
    ∗ dutyTok ER (dCell c (dsem 22)) 0 false
    ∗ dutyTok ER (dCell c (dsem 23)) 0 false
    ∗ dutyTok ER (dCell c (dsem 24)) 0 false
    ∗ dutyTok ER (dCell c (dsem 25)) 0 false
    ∗ dutyTok ER (dCell c (dsem 26)) 0 false)
/-- and of the duties that it pays. -/
def payToks (c : Dev nD) : sProp 𝕄 :=
  iprop(dutyTok ER (barCell (prv c)) 0 true
    ∗ dutyTok ER (barCell (nxt c)) 0 false
    ∗ dutyTok ER (dCell c (dsem 9)) 0 false
    ∗ dutyTok ER (dCell c (dsem 10)) 0 false
    ∗ dutyTok ER (dCell c (dsem 11)) 0 false
    ∗ dutyTok ER (dCell c (dsem 3)) 0 false
    ∗ dutyTok ER (dCell c (dsem 15)) 0 false
    ∗ dutyTok ER (dCell c (dsem 4)) 0 false
    ∗ dutyTok ER (dCell c (dsem 16)) 0 false
    ∗ dutyTok ER (dCell c (dsem 5)) 0 false
    ∗ dutyTok ER (dCell c (dsem 17)) 0 false
    ∗ dutyTok ER (dCell c (dsem 21)) 0 false
    ∗ dutyTok ER (dCell c (dsem 22)) 0 false
    ∗ dutyTok ER (dCell c (dsem 23)) 0 false
    ∗ dutyTok ER (dCell (nxt c) (dsem 12)) 0 false
    ∗ dutyTok ER (dCell (nxt c) (dsem 13)) 0 false
    ∗ dutyTok ER (dCell (nxt c) (dsem 14)) 0 false
    ∗ dutyTok ER (dCell (nxt c) (dsem 6)) 0 false
    ∗ dutyTok ER (dCell (nxt c) (dsem 18)) 0 false
    ∗ dutyTok ER (dCell (nxt c) (dsem 7)) 0 false
    ∗ dutyTok ER (dCell (nxt c) (dsem 19)) 0 false
    ∗ dutyTok ER (dCell (nxt c) (dsem 8)) 0 false
    ∗ dutyTok ER (dCell (nxt c) (dsem 20)) 0 false
    ∗ dutyTok ER (dCell (nxt c) (dsem 24)) 0 false
    ∗ dutyTok ER (dCell (nxt c) (dsem 25)) 0 false
    ∗ dutyTok ER (dCell (nxt c) (dsem 26)) 0 false)
/-- The counters of the weight copies' semaphores. -/
def wz (c : Dev nD) : sProp 𝕄 :=
  iprop(semVal (dCell c (dsem 27)) 0 ∗ semVal (dCell c (dsem 28)) 0 ∗ semVal (dCell c (dsem 29)) 0 ∗ semVal (dCell c (dsem 30)) 0)
def poss (c : Dev nD) : sProp 𝕄 := bigSep Finset.univ fun k : Fin 25 => atPos ER (kcell (c, k)) 0 ∅ 0

/-- What a device alone holds of the protocol. -/
def linear (c : Dev nD) : sProp 𝕄 := iprop(poss c ∗ payToks c ∗ wz c)
/-- The launch's credits. -/
def creds (c : Dev nD) : sProp 𝕄 :=
  iprop(cred (tallyAt (barCell c) () 2)
    ∗ cred (tallyAt (dCell c (dsem 12)) () (dmaAmt (dsem 12).val))
    ∗ cred (tallyAt (dCell c (dsem 13)) () (dmaAmt (dsem 13).val))
    ∗ cred (tallyAt (dCell c (dsem 14)) () (dmaAmt (dsem 14).val))
    ∗ cred (tallyAt (dCell c (dsem 6)) () (dmaAmt (dsem 6).val))
    ∗ cred (tallyAt (dCell c (dsem 18)) () (dmaAmt (dsem 18).val))
    ∗ cred (tallyAt (dCell c (dsem 7)) () (dmaAmt (dsem 7).val))
    ∗ cred (tallyAt (dCell c (dsem 19)) () (dmaAmt (dsem 19).val))
    ∗ cred (tallyAt (dCell c (dsem 8)) () (dmaAmt (dsem 8).val))
    ∗ cred (tallyAt (dCell c (dsem 20)) () (dmaAmt (dsem 20).val))
    ∗ cred (tallyAt (dCell c (dsem 24)) () (dmaAmt (dsem 24).val))
    ∗ cred (tallyAt (dCell c (dsem 25)) () (dmaAmt (dsem 25).val))
    ∗ cred (tallyAt (dCell c (dsem 26)) () (dmaAmt (dsem 26).val)))

/-- What a device starts from. -/
def start (c : Dev nD) : sProp 𝕄 :=
  iprop((∃ K, Env m K ∗ linear c) ∗ creds c
    ∗ (c.tc.loc main_arg2 ↦{fullShare} m (c.tc.loc main_arg2)) ∗ (c.tc.loc main_arg3 ↦{fullShare} m (c.tc.loc main_arg3)))
def ownZ (c : Dev nD) : sProp 𝕄 := Pipeline.ownSems0 (Ix := Unit) (Name := ℕ) (U := UU) (Lvl := ℕ) (Val := Elt F) (τ := τ) osem c
def rest (c : Dev nD) : sProp 𝕄 := Pipeline.scopedRest (Ix := Unit) (Name := ℕ) (U := UU) (Lvl := ℕ) (Val := Elt F) cfg0.spec c
def Φ₀ (c : Dev nD) : sProp 𝕄 := iprop(start m c ∗ rest c)
/-- What it ends with, besides its scratch and its own semaphores. -/
def fin (c : Dev nD) : sProp 𝕄 :=
  iprop(unscopedSems0 c ∗ (c.tc.loc main_arg2 ↦{fullShare} m (c.tc.loc main_arg2)) ∗ (c.tc.loc main_arg3 ↦{fullShare} m (c.tc.loc main_arg3)))
def Φ₁ (c : Dev nD) : sProp 𝕄 := iprop(fin m c ∗ ownZ c ∗ rest c)

theorem ownZ_eq (c : Dev nD) : (ownZ c : sProp 𝕄)
    = iprop(semVal (dCell c (dsem 3)) 0 ∗ semVal (dCell c (dsem 4)) 0 ∗ semVal (dCell c (dsem 5)) 0 ∗ semVal (dCell c (dsem 6)) 0 ∗ semVal (dCell c (dsem 7)) 0 ∗ semVal (dCell c (dsem 8)) 0 ∗ semVal (dCell c (dsem 9)) 0 ∗ semVal (dCell c (dsem 10)) 0 ∗ semVal (dCell c (dsem 11)) 0 ∗ semVal (dCell c (dsem 12)) 0 ∗ semVal (dCell c (dsem 13)) 0 ∗ semVal (dCell c (dsem 14)) 0 ∗ semVal (dCell c (dsem 15)) 0 ∗ semVal (dCell c (dsem 16)) 0 ∗ semVal (dCell c (dsem 17)) 0 ∗ semVal (dCell c (dsem 18)) 0 ∗ semVal (dCell c (dsem 19)) 0 ∗ semVal (dCell c (dsem 20)) 0 ∗ semVal (dCell c (dsem 21)) 0 ∗ semVal (dCell c (dsem 22)) 0 ∗ semVal (dCell c (dsem 23)) 0 ∗ semVal (dCell c (dsem 24)) 0 ∗ semVal (dCell c (dsem 25)) 0 ∗ semVal (dCell c (dsem 26)) 0 ∗ semVal (dCell c (dsem 27)) 0 ∗ semVal (dCell c (dsem 28)) 0 ∗ semVal (dCell c (dsem 29)) 0 ∗ semVal (dCell c (dsem 30)) 0) := by
  unfold ownZ
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide) Φ
theorem poss_eq (c : Dev nD) : (poss c : sProp 𝕄)
    = iprop(atPos ER (barCell c) 0 ∅ 0 ∗ atPos ER (dCell c (dsem 3)) 0 ∅ 0 ∗ atPos ER (dCell c (dsem 4)) 0 ∅ 0 ∗ atPos ER (dCell c (dsem 5)) 0 ∅ 0 ∗ atPos ER (dCell c (dsem 6)) 0 ∅ 0 ∗ atPos ER (dCell c (dsem 7)) 0 ∅ 0 ∗ atPos ER (dCell c (dsem 8)) 0 ∅ 0 ∗ atPos ER (dCell c (dsem 9)) 0 ∅ 0 ∗ atPos ER (dCell c (dsem 10)) 0 ∅ 0 ∗ atPos ER (dCell c (dsem 11)) 0 ∅ 0 ∗ atPos ER (dCell c (dsem 12)) 0 ∅ 0 ∗ atPos ER (dCell c (dsem 13)) 0 ∅ 0 ∗ atPos ER (dCell c (dsem 14)) 0 ∅ 0 ∗ atPos ER (dCell c (dsem 15)) 0 ∅ 0 ∗ atPos ER (dCell c (dsem 16)) 0 ∅ 0 ∗ atPos ER (dCell c (dsem 17)) 0 ∅ 0 ∗ atPos ER (dCell c (dsem 18)) 0 ∅ 0 ∗ atPos ER (dCell c (dsem 19)) 0 ∅ 0 ∗ atPos ER (dCell c (dsem 20)) 0 ∅ 0 ∗ atPos ER (dCell c (dsem 21)) 0 ∅ 0 ∗ atPos ER (dCell c (dsem 22)) 0 ∅ 0 ∗ atPos ER (dCell c (dsem 23)) 0 ∅ 0 ∗ atPos ER (dCell c (dsem 24)) 0 ∅ 0 ∗ atPos ER (dCell c (dsem 25)) 0 ∅ 0 ∗ atPos ER (dCell c (dsem 26)) 0 ∅ 0) := by
  unfold poss; rw [bigSep_fin25]; rfl

/-! ## The body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc c.tc)
  after w _ := match w with
    | ⟨0, _⟩ => xstg m c
    | ⟨1, _⟩ => gstg m c
    | ⟨2, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl
theorem before_0 (c : Dev nD) (d) : (dats m 0 c).before (0 : Fin 3) t₀ d = xstg m c := by
  unfold Dat.before; rw [if_pos (fetch_0 t₀)]; rfl
theorem before_1 (c : Dev nD) (d) : (dats m 0 c).before (1 : Fin 3) t₀ d = gstg m c := by
  unfold Dat.before; rw [if_pos (fetch_1 t₀)]; rfl

theorem owns_whole_eq (c : Dev nD) (b : Ref sig .tc) (X : b.ty.Contents (Elt F)) :
    (owns (Ix := Unit) (Name := ℕ) (U := UU) (Lvl := ℕ) c.tc (Memref.whole b) fullShare X : sProp 𝕄)
      = iprop(∃ f : Buf (Elt F) (c.tc.loc b), ⌜f = X⌝ ∗ ((c.tc.loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (c.tc.loc b), ⌜f = X⌝ ∗ ((c.tc.loc b) ↦{fullShare} f))

/-- The scratch buffers are their slots, -/
theorem rest_open (c : Dev nD) : (rest c : sProp 𝕄)
    ⊢ iprop(slot (F := F) c xS0
    ∗ slot (F := F) c xS1
    ∗ slot (F := F) c xS2
    ∗ slot (F := F) c xS3
    ∗ slot (F := F) c rS0
    ∗ slot (F := F) c rS1
    ∗ slot (F := F) c rS2
    ∗ slot (F := F) c rS3
    ∗ slot (F := F) c iS0
    ∗ slot (F := F) c iS1
    ∗ slot (F := F) c iS2
    ∗ slot (F := F) c iS3
    ∗ slot (F := F) c sbS0
    ∗ slot (F := F) c sbS1
    ∗ slot (F := F) c sbS2
    ∗ slot (F := F) c rbS0
    ∗ slot (F := F) c rbS1
    ∗ slot (F := F) c rbS2
    ∗ slot (F := F) c pS0
    ∗ slot (F := F) c pS1
    ∗ slot (F := F) c pS2
    ∗ slot (F := F) c pS3
    ∗ slot (F := F) c f1S0
    ∗ slot (F := F) c f1S1
    ∗ slot (F := F) c f2S0
    ∗ slot (F := F) c f2S1) := by
  unfold rest
  rw [show cfg0.spec = spec0 from rfl, scopedRest0_eq]
  iintro ⟨Bx, Br, Bi, Bsb, Brb, Bp, Bf1, Bf2⟩
  ihave Bx := (x_open (F := F) c) $$ Bx
  icases Bx with ⟨xS0, xS1, xS2, xS3⟩
  ihave Br := (r_open (F := F) c) $$ Br
  icases Br with ⟨rS0, rS1, rS2, rS3⟩
  ihave Bi := (i_open (F := F) c) $$ Bi
  icases Bi with ⟨iS0, iS1, iS2, iS3⟩
  ihave Bsb := (sb_open (F := F) c) $$ Bsb
  icases Bsb with ⟨sbS0, sbS1, sbS2⟩
  ihave Brb := (rb_open (F := F) c) $$ Brb
  icases Brb with ⟨rbS0, rbS1, rbS2⟩
  ihave Bp := (p_open (F := F) c) $$ Bp
  icases Bp with ⟨pS0, pS1, pS2, pS3⟩
  ihave Bf1 := (f1_open (F := F) c) $$ Bf1
  icases Bf1 with ⟨f1S0, f1S1⟩
  ihave Bf2 := (f2_open (F := F) c) $$ Bf2
  icases Bf2 with ⟨f2S0, f2S1⟩
  isplitl [xS0]; · iexact xS0
  isplitl [xS1]; · iexact xS1
  isplitl [xS2]; · iexact xS2
  isplitl [xS3]; · iexact xS3
  isplitl [rS0]; · iexact rS0
  isplitl [rS1]; · iexact rS1
  isplitl [rS2]; · iexact rS2
  isplitl [rS3]; · iexact rS3
  isplitl [iS0]; · iexact iS0
  isplitl [iS1]; · iexact iS1
  isplitl [iS2]; · iexact iS2
  isplitl [iS3]; · iexact iS3
  isplitl [sbS0]; · iexact sbS0
  isplitl [sbS1]; · iexact sbS1
  isplitl [sbS2]; · iexact sbS2
  isplitl [rbS0]; · iexact rbS0
  isplitl [rbS1]; · iexact rbS1
  isplitl [rbS2]; · iexact rbS2
  isplitl [pS0]; · iexact pS0
  isplitl [pS1]; · iexact pS1
  isplitl [pS2]; · iexact pS2
  isplitl [pS3]; · iexact pS3
  isplitl [f1S0]; · iexact f1S0
  isplitl [f1S1]; · iexact f1S1
  isplitl [f2S0]; · iexact f2S0
  iexact f2S1
/-- and the slots are the buffers again. -/
theorem rest_close (c : Dev nD) :
    (iprop(slot (F := F) c xS0
    ∗ slot (F := F) c xS1
    ∗ slot (F := F) c xS2
    ∗ slot (F := F) c xS3
    ∗ slot (F := F) c rS0
    ∗ slot (F := F) c rS1
    ∗ slot (F := F) c rS2
    ∗ slot (F := F) c rS3
    ∗ slot (F := F) c iS0
    ∗ slot (F := F) c iS1
    ∗ slot (F := F) c iS2
    ∗ slot (F := F) c iS3
    ∗ slot (F := F) c sbS0
    ∗ slot (F := F) c sbS1
    ∗ slot (F := F) c sbS2
    ∗ slot (F := F) c rbS0
    ∗ slot (F := F) c rbS1
    ∗ slot (F := F) c rbS2
    ∗ slot (F := F) c pS0
    ∗ slot (F := F) c pS1
    ∗ slot (F := F) c pS2
    ∗ slot (F := F) c pS3
    ∗ slot (F := F) c f1S0
    ∗ slot (F := F) c f1S1
    ∗ slot (F := F) c f2S0
    ∗ slot (F := F) c f2S1) : sProp 𝕄) ⊢ rest c := by
  unfold rest
  rw [show cfg0.spec = spec0 from rfl, scopedRest0_eq]
  iintro ⟨xS0, xS1, xS2, xS3, rS0, rS1, rS2, rS3, iS0, iS1, iS2, iS3, sbS0, sbS1, sbS2, rbS0, rbS1, rbS2, pS0, pS1, pS2, pS3, f1S0, f1S1, f2S0, f2S1⟩
  ihave Bx := (x_close (F := F) c) $$ [xS0 xS1 xS2 xS3]
  · isplitl [xS0]; · iexact xS0
    isplitl [xS1]; · iexact xS1
    isplitl [xS2]; · iexact xS2
    iexact xS3
  ihave Br := (r_close (F := F) c) $$ [rS0 rS1 rS2 rS3]
  · isplitl [rS0]; · iexact rS0
    isplitl [rS1]; · iexact rS1
    isplitl [rS2]; · iexact rS2
    iexact rS3
  ihave Bi := (i_close (F := F) c) $$ [iS0 iS1 iS2 iS3]
  · isplitl [iS0]; · iexact iS0
    isplitl [iS1]; · iexact iS1
    isplitl [iS2]; · iexact iS2
    iexact iS3
  ihave Bsb := (sb_close (F := F) c) $$ [sbS0 sbS1 sbS2]
  · isplitl [sbS0]; · iexact sbS0
    isplitl [sbS1]; · iexact sbS1
    iexact sbS2
  ihave Brb := (rb_close (F := F) c) $$ [rbS0 rbS1 rbS2]
  · isplitl [rbS0]; · iexact rbS0
    isplitl [rbS1]; · iexact rbS1
    iexact rbS2
  ihave Bp := (p_close (F := F) c) $$ [pS0 pS1 pS2 pS3]
  · isplitl [pS0]; · iexact pS0
    isplitl [pS1]; · iexact pS1
    isplitl [pS2]; · iexact pS2
    iexact pS3
  ihave Bf1 := (f1_close (F := F) c) $$ [f1S0 f1S1]
  · isplitl [f1S0]; · iexact f1S0
    iexact f1S1
  ihave Bf2 := (f2_close (F := F) c) $$ [f2S0 f2S1]
  · isplitl [f2S0]; · iexact f2S0
    iexact f2S1
  isplitl [Bx]; · iexact Bx
  isplitl [Br]; · iexact Br
  isplitl [Bi]; · iexact Bi
  isplitl [Bsb]; · iexact Bsb
  isplitl [Brb]; · iexact Brb
  isplitl [Bp]; · iexact Bp
  isplitl [Bf1]; · iexact Bf1
  iexact Bf2

/-- A device's protocol shares, transfer by transfer. -/
theorem linear_open (c : Dev nD) : (iprop(linear c ∗ creds c) : sProp 𝕄)
    ⊢ iprop(dutyTok ER (barCell (prv c)) 0 true
    ∗ dutyTok ER (barCell (nxt c)) 0 false
    ∗ atPos ER (barCell c) 0 ∅ 0
    ∗ cred (tallyAt (barCell c) () 2)
    ∗ semVal (dCell c (dsem 27)) 0
    ∗ semVal (dCell c (dsem 28)) 0
    ∗ semVal (dCell c (dsem 29)) 0
    ∗ semVal (dCell c (dsem 30)) 0
    ∗ X0 c (dsem 9) (dsem 12)
    ∗ X0 c (dsem 10) (dsem 13)
    ∗ X0 c (dsem 11) (dsem 14)
    ∗ X0 c (dsem 3) (dsem 6)
    ∗ X0 c (dsem 15) (dsem 18)
    ∗ X0 c (dsem 4) (dsem 7)
    ∗ X0 c (dsem 16) (dsem 19)
    ∗ X0 c (dsem 5) (dsem 8)
    ∗ X0 c (dsem 17) (dsem 20)
    ∗ X0 c (dsem 21) (dsem 24)
    ∗ X0 c (dsem 22) (dsem 25)
    ∗ X0 c (dsem 23) (dsem 26)) := by
  unfold linear payToks wz creds
  rw [poss_eq]
  iintro ⟨⟨⟨PB, P3, P4, P5, P6, P7, P8, P9, P10, P11, P12, P13, P14, P15, P16, P17, P18, P19, P20, P21, P22, P23, P24, P25, P26⟩, ⟨TP, TN, TS0, TS1, TS2, TS3, TS4, TS5, TS6, TS7, TS8, TS9, TS10, TS11, TR0, TR1, TR2, TR3, TR4, TR5, TR6, TR7, TR8, TR9, TR10, TR11⟩, ⟨Z27, Z28, Z29, Z30⟩⟩, ⟨CB, C0, C1, C2, C3, C4, C5, C6, C7, C8, C9, C10, C11⟩⟩
  unfold X0
  isplitl [TP]; · iexact TP
  isplitl [TN]; · iexact TN
  isplitl [PB]; · iexact PB
  isplitl [CB]; · iexact CB
  isplitl [Z27]; · iexact Z27
  isplitl [Z28]; · iexact Z28
  isplitl [Z29]; · iexact Z29
  isplitl [Z30]; · iexact Z30
  isplitl [TS0 TR0 P9 P12 C0]
  · isplitl [TS0]; · iexact TS0
    isplitl [TR0]; · iexact TR0
    isplitl [P9]; · iexact P9
    isplitl [P12]; · iexact P12
    iexact C0
  isplitl [TS1 TR1 P10 P13 C1]
  · isplitl [TS1]; · iexact TS1
    isplitl [TR1]; · iexact TR1
    isplitl [P10]; · iexact P10
    isplitl [P13]; · iexact P13
    iexact C1
  isplitl [TS2 TR2 P11 P14 C2]
  · isplitl [TS2]; · iexact TS2
    isplitl [TR2]; · iexact TR2
    isplitl [P11]; · iexact P11
    isplitl [P14]; · iexact P14
    iexact C2
  isplitl [TS3 TR3 P3 P6 C3]
  · isplitl [TS3]; · iexact TS3
    isplitl [TR3]; · iexact TR3
    isplitl [P3]; · iexact P3
    isplitl [P6]; · iexact P6
    iexact C3
  isplitl [TS4 TR4 P15 P18 C4]
  · isplitl [TS4]; · iexact TS4
    isplitl [TR4]; · iexact TR4
    isplitl [P15]; · iexact P15
    isplitl [P18]; · iexact P18
    iexact C4
  isplitl [TS5 TR5 P4 P7 C5]
  · isplitl [TS5]; · iexact TS5
    isplitl [TR5]; · iexact TR5
    isplitl [P4]; · iexact P4
    isplitl [P7]; · iexact P7
    iexact C5
  isplitl [TS6 TR6 P16 P19 C6]
  · isplitl [TS6]; · iexact TS6
    isplitl [TR6]; · iexact TR6
    isplitl [P16]; · iexact P16
    isplitl [P19]; · iexact P19
    iexact C6
  isplitl [TS7 TR7 P5 P8 C7]
  · isplitl [TS7]; · iexact TS7
    isplitl [TR7]; · iexact TR7
    isplitl [P5]; · iexact P5
    isplitl [P8]; · iexact P8
    iexact C7
  isplitl [TS8 TR8 P17 P20 C8]
  · isplitl [TS8]; · iexact TS8
    isplitl [TR8]; · iexact TR8
    isplitl [P17]; · iexact P17
    isplitl [P20]; · iexact P20
    iexact C8
  isplitl [TS9 TR9 P21 P24 C9]
  · isplitl [TS9]; · iexact TS9
    isplitl [TR9]; · iexact TR9
    isplitl [P21]; · iexact P21
    isplitl [P24]; · iexact P24
    iexact C9
  isplitl [TS10 TR10 P22 P25 C10]
  · isplitl [TS10]; · iexact TS10
    isplitl [TR10]; · iexact TR10
    isplitl [P22]; · iexact P22
    isplitl [P25]; · iexact P25
    iexact C10
  isplitl [TS11]; · iexact TS11
  isplitl [TR11]; · iexact TR11
  isplitl [P23]; · iexact P23
  isplitl [P26]; · iexact P26
  iexact C11

/-- What the body takes, -/
theorem in_intro (c : Dev nD) (W) : (iprop(linear c ∗ creds c ∗ rest c ∗ (c.tc.loc main_arg2 ↦{fullShare} m (c.tc.loc main_arg2)) ∗ (c.tc.loc main_arg3 ↦{fullShare} m (c.tc.loc main_arg3))
      ∗ owes c.tc (O₀ c) W ∗ xPt m c ∗ gPt m c ∗ oAny c) : sProp 𝕄) ⊢ bodyIn m c := by
  unfold bodyIn lands
  iintro ⟨HL, HC, HR, H2, H3, OO, XP, GP, OP⟩
  ihave HL := (linear_open (F := F) c) $$ [HL HC]
  · isplitl [HL] <;> iassumption
  icases HL with ⟨TB1, TB2, AB, CB, Z27, Z28, Z29, Z30, T_0, T_1, T_2, T_3, T_4, T_5, T_6, T_7, T_8, T_9, T_10, T_11⟩
  ihave HR := (rest_open (F := F) c) $$ HR
  icases HR with ⟨xS0, xS1, xS2, xS3, rS0, rS1, rS2, rS3, iS0, iS1, iS2, iS3, sbS0, sbS1, sbS2, rbS0, rbS1, rbS2, pS0, pS1, pS2, pS3, f1S0, f1S1, f2S0, f2S1⟩
  ihave H2 := (w1_eq m c).1 $$ H2
  icases H2 with ⟨W1_0, W1_1, W1_2, W1_3⟩
  ihave H3 := (w2_eq m c).1 $$ H3
  icases H3 with ⟨W2_0, W2_1, W2_2, W2_3⟩
  isplitl [W1_0]; · iexact W1_0
  isplitl [W2_0]; · iexact W2_0
  isplitl [W1_1]; · iexact W1_1
  isplitl [W2_1]; · iexact W2_1
  isplitl [W1_2]; · iexact W1_2
  isplitl [W2_2]; · iexact W2_2
  isplitl [W1_3]; · iexact W1_3
  isplitl [W2_3]; · iexact W2_3
  isplitl [f1S0]; · iexact f1S0
  isplitl [f2S0]; · iexact f2S0
  isplitl [f1S1]; · iexact f1S1
  isplitl [f2S1]; · iexact f2S1
  isplitl [Z27]; · iexact Z27
  isplitl [Z28]; · iexact Z28
  isplitl [Z29]; · iexact Z29
  isplitl [Z30]; · iexact Z30
  isplitl [OO]; · iexists W; iexact OO
  isplitl [TB1]; · iexact TB1
  isplitl [TB2]; · iexact TB2
  isplitl [AB]; · iexact AB
  isplitl [CB]; · iexact CB
  isplitl [rS1 rS2 rS3 xS1 iS1 xS2 iS2 xS3 iS3 rbS0 rbS1 rbS2]
  · isplitl [rS1]; · iexact rS1
    isplitl [rS2]; · iexact rS2
    isplitl [rS3]; · iexact rS3
    isplitl [xS1]; · iexact xS1
    isplitl [iS1]; · iexact iS1
    isplitl [xS2]; · iexact xS2
    isplitl [iS2]; · iexact iS2
    isplitl [xS3]; · iexact xS3
    isplitl [iS3]; · iexact iS3
    isplitl [rbS0]; · iexact rbS0
    isplitl [rbS1]; · iexact rbS1
    iexact rbS2
  isplitl [XP]; · iexact XP
  isplitl [GP]; · iexact GP
  isplitl [OP]; · iexact OP
  isplitl [rS0]; · iexact rS0
  isplitl [xS0]; · iexact xS0
  isplitl [iS0]; · iexact iS0
  isplitl [sbS0]; · iexact sbS0
  isplitl [sbS1]; · iexact sbS1
  isplitl [sbS2]; · iexact sbS2
  isplitl [pS0]; · iexact pS0
  isplitl [pS1]; · iexact pS1
  isplitl [pS2]; · iexact pS2
  isplitl [pS3]; · iexact pS3
  isplitl [T_0]; · iexact T_0
  isplitl [T_1]; · iexact T_1
  isplitl [T_2]; · iexact T_2
  isplitl [T_3]; · iexact T_3
  isplitl [T_4]; · iexact T_4
  isplitl [T_5]; · iexact T_5
  isplitl [T_6]; · iexact T_6
  isplitl [T_7]; · iexact T_7
  isplitl [T_8]; · iexact T_8
  isplitl [T_9]; · iexact T_9
  isplitl [T_10]; · iexact T_10
  iexact T_11

/-- and what it leaves. -/
theorem out_elim (c : Dev nD) : (bodyOut m c : sProp 𝕄)
    ⊢ iprop(Φ₁ m c ∗ Ow c 0 ∗ xPt m c ∗ gPt m c ∗ oPt c (outv m c)) := by
  unfold bodyOut Φ₁ fin X3
  rw [ownZ_eq, unscopedSems0_eq]
  iintro ⟨XP, GP, OP, P_0, P_1, P_2, P_3, ZB, R_0, ⟨ZS0, ZR0⟩, R_1, ⟨ZS1, ZR1⟩, R_2, ⟨ZS2, ZR2⟩, R_3, W1_0, W2_0, W1_1, W2_1, XL_0, IL_0, XR_0, ⟨ZS3, ZR3⟩, IR_0, ⟨ZS4, ZR4⟩, XL_1, IL_1, XR_1, ⟨ZS5, ZR5⟩, IR_1, ⟨ZS6, ZR6⟩, XL_2, IL_2, XR_2, ⟨ZS7, ZR7⟩, X_3, IR_2, ⟨ZS8, ZR8⟩, I_3, F1_0, W1_2, Z27, F2_0, W2_2, Z29, F1_1, W1_3, Z28, F2_1, W2_3, Z30, S_0, ⟨ZS9, ZR9⟩, B_0, S_1, ⟨ZS10, ZR10⟩, B_1, S_2, ⟨ZS11, ZR11⟩, OW, B_2⟩
  ihave H2 := (w1_eq m c).2 $$ [W1_0 W1_1 W1_2 W1_3]
  · isplitl [W1_0]; · iexact W1_0
    isplitl [W1_1]; · iexact W1_1
    isplitl [W1_2] <;> iassumption
  ihave H3 := (w2_eq m c).2 $$ [W2_0 W2_1 W2_2 W2_3]
  · isplitl [W2_0]; · iexact W2_0
    isplitl [W2_1]; · iexact W2_1
    isplitl [W2_2] <;> iassumption
  ihave X_0 := (owns_unhalve c.tc xS0 _) $$ [XL_0 XR_0]
  · isplitl [XL_0] <;> iassumption
  ihave X_1 := (owns_unhalve c.tc xS1 _) $$ [XL_1 XR_1]
  · isplitl [XL_1] <;> iassumption
  ihave X_2 := (owns_unhalve c.tc xS2 _) $$ [XL_2 XR_2]
  · isplitl [XL_2] <;> iassumption
  ihave I_0 := (owns_unhalve c.tc iS0 _) $$ [IL_0 IR_0]
  · isplitl [IL_0] <;> iassumption
  ihave I_1 := (owns_unhalve c.tc iS1 _) $$ [IL_1 IR_1]
  · isplitl [IL_1] <;> iassumption
  ihave I_2 := (owns_unhalve c.tc iS2 _) $$ [IL_2 IR_2]
  · isplitl [IL_2] <;> iassumption
  ihave HR := (rest_close (F := F) c) $$ [X_0 X_1 X_2 X_3 R_0 R_1 R_2 R_3 I_0 I_1 I_2 I_3 S_0 S_1 S_2 B_0 B_1 B_2 P_0 P_1 P_2 P_3 F1_0 F1_1 F2_0 F2_1]
  · isplitl [X_0]; · iapply (slot_intro c xS0 _); iexact X_0
    isplitl [X_1]; · iapply (slot_intro c xS1 _); iexact X_1
    isplitl [X_2]; · iapply (slot_intro c xS2 _); iexact X_2
    isplitl [X_3]; · iapply (slot_intro c xS3 _); iexact X_3
    isplitl [R_0]; · iapply (slot_intro c rS0 _); iexact R_0
    isplitl [R_1]; · iapply (slot_intro c rS1 _); iexact R_1
    isplitl [R_2]; · iapply (slot_intro c rS2 _); iexact R_2
    isplitl [R_3]; · iapply (slot_intro c rS3 _); iexact R_3
    isplitl [I_0]; · iapply (slot_intro c iS0 _); iexact I_0
    isplitl [I_1]; · iapply (slot_intro c iS1 _); iexact I_1
    isplitl [I_2]; · iapply (slot_intro c iS2 _); iexact I_2
    isplitl [I_3]; · iapply (slot_intro c iS3 _); iexact I_3
    isplitl [S_0]; · iapply (slot_intro c sbS0 _); iexact S_0
    isplitl [S_1]; · iapply (slot_intro c sbS1 _); iexact S_1
    isplitl [S_2]; · iapply (slot_intro c sbS2 _); iexact S_2
    isplitl [B_0]; · iapply (slot_intro c rbS0 _); iexact B_0
    isplitl [B_1]; · iapply (slot_intro c rbS1 _); iexact B_1
    isplitl [B_2]; · iapply (slot_intro c rbS2 _); iexact B_2
    isplitl [P_0]; · iapply (slot_intro c pS0 _); iexact P_0
    isplitl [P_1]; · iapply (slot_intro c pS1 _); iexact P_1
    isplitl [P_2]; · iapply (slot_intro c pS2 _); iexact P_2
    isplitl [P_3]; · iapply (slot_intro c pS3 _); iexact P_3
    isplitl [F1_0]; · iapply (slot_intro c f1S0 _); iexact F1_0
    isplitl [F1_1]; · iapply (slot_intro c f1S1 _); iexact F1_1
    isplitl [F2_0]; · iapply (slot_intro c f2S0 _); iexact F2_0
    iapply (slot_intro c f2S1 _); iexact F2_1
  isplitr [OW XP GP OP]
  · isplitl [ZB H2 H3]
    · isplitl [ZB]; · iexact ZB
      isplitl [H2] <;> iassumption
    isplitr [HR]
    · isplitl [ZS3]; · iexact ZS3
      isplitl [ZS5]; · iexact ZS5
      isplitl [ZS7]; · iexact ZS7
      isplitl [ZR3]; · iexact ZR3
      isplitl [ZR5]; · iexact ZR5
      isplitl [ZR7]; · iexact ZR7
      isplitl [ZS0]; · iexact ZS0
      isplitl [ZS1]; · iexact ZS1
      isplitl [ZS2]; · iexact ZS2
      isplitl [ZR0]; · iexact ZR0
      isplitl [ZR1]; · iexact ZR1
      isplitl [ZR2]; · iexact ZR2
      isplitl [ZS4]; · iexact ZS4
      isplitl [ZS6]; · iexact ZS6
      isplitl [ZS8]; · iexact ZS8
      isplitl [ZR4]; · iexact ZR4
      isplitl [ZR6]; · iexact ZR6
      isplitl [ZR8]; · iexact ZR8
      isplitl [ZS9]; · iexact ZS9
      isplitl [ZS10]; · iexact ZS10
      isplitl [ZS11]; · iexact ZS11
      isplitl [ZR9]; · iexact ZR9
      isplitl [ZR10]; · iexact ZR10
      isplitl [ZR11]; · iexact ZR11
      isplitl [Z27]; · iexact Z27
      isplitl [Z28]; · iexact Z28
      isplitl [Z29]; · iexact Z29
      iexact Z30
    iexact HR
  isplitl [OW]; · iexact OW
  isplitl [XP]; · iexact XP
  isplitl [GP]; · iexact GP
  iexact OP

/-- The body's obligation. -/
theorem body_obligation (c : Dev nD) : BodyObligation (dats (F := F) m 0 c) (defs₀ (F := F)) 𝒱₀ () Set.univ := fun t => by
  rw [fin_N t]
  rw [bigSep_W, bigSep_W]
  simp only [owns_whole_eq]
  show iprop(Φ₀ m c ∗ (dats m 0 c).owesAt () t₀.castSucc
      ∗ (∃ d, stg c cc0_stg0_0 ((dats m 0 c).before (0 : Fin 3) t₀ d))
      ∗ (∃ d, stg c cc0_stg1_0 ((dats m 0 c).before (1 : Fin 3) t₀ d))
      ∗ (∃ d, stg c cc0_stg2_0 ((dats m 0 c).before (2 : Fin 3) t₀ d)))
    ⊢ wp frame (wpE (defs₀ (F := F)) 𝒱₀ c.tc none) Set.univ (cc0_body xM wh gM wh w1M wh w2M wh oM wh xcM wh rcM wh icM wh sbM wh rbM wh ptM wh f1M wh f2M wh cc0_scratch8 cc0_scratch9 cc0_scratch10 cc0_scratch11 cc0_scratch12 cc0_scratch13 cc0_scratch14 cc0_scratch15 cc0_scratch16 cc0_scratch17)
        (fun _ => iprop(Φ₁ m c ∗ (dats m 0 c).owesAt () t₀.succ ∗ stg c cc0_stg0_0 (xstg m c) ∗ stg c cc0_stg1_0 (gstg m c) ∗ stg c cc0_stg2_0 (outv m c)))
  simp only [before_0, before_1]
  unfold Φ₀ start Dat.owesAt Pipeline.owesWithin
  rw [show (dats m 0 c).owed t₀.castSucc = O₀ c from rfl, show (dats m 0 c).owed t₀.succ = 0 from rfl]
  iintro ⟨⟨⟨⟨%K, #HE, HL⟩, HC, H2, H3⟩, HR⟩, ⟨%W, -, HO⟩, ⟨%d0, %f0, %e0, Hx⟩, ⟨%d1, %f1, %e1, Hg⟩, ⟨%d2, %f2, -, Ho⟩⟩
  subst e0 e1
  iapply (body_wp m K c) $$ [HL HC H2 H3 HR HO Hx Hg Ho]
  · isplitr; · iexact HE
    iapply (in_intro m c W)
    isplitl [HL]; · iexact HL
    isplitl [HC]; · iexact HC
    isplitl [HR]; · iexact HR
    isplitl [H2]; · iexact H2
    isplitl [H3]; · iexact H3
    isplitl [HO]; · iexact HO
    isplitl [Hx]; · unfold xPt; iexact Hx
    isplitl [Hg]; · unfold gPt; iexact Hg
    unfold oAny; iexists f2; iexact Ho
  iintro H
  ihave H := (out_elim m c) $$ H
  unfold Ow xPt gPt oPt
  icases H with ⟨HΦ, ⟨%W', HO⟩, Hx, Hg, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Ho

end Cert.KernelIdeal.Ring
-- ==== Proof.KernelIdealLaunch.lean ====
/-
# The run

What the launch deals the devices — the cells' invariants, the tokens round the ring, the credits — and the run.
-/
module

public import proofs.«01_k».proof.Proof.KernelIdealObl

@[expose] public section

noncomputable section

namespace Cert.KernelIdeal.Ring

open Cert.KernelIdeal Cert.KernelIdeal.Gen Cert.SlotProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m 0 c).share w = fullShare := by unfold Dat.share; split <;> rfl

/-! ## Cells and tokens -/

theorem csem_injective : Function.Injective csem := by
  intro k k' h
  unfold csem at h
  split at h <;> split at h
  · exact Fin.ext (by omega)
  · cases h
  · cases h
  · injection h with h
    have h := congrArg Fin.val h
    exact Fin.ext (Nat.add_right_cancel h)
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one device's cells: the barrier's two, then one of each transfer semaphore. -/
def tsem (j : Fin 26) : SemLoc sig := if j.val < 2 then .reg barS else .dma ⟨j.val + 1, by have := j.isLt; show _ < 31; omega⟩
def tduty (j : Fin 26) : Bool := decide (j.val = 1)
abbrev tokOf (cj : Dev nD × Fin 26) : GSem nD τ sig × ℕ × Bool := ((cj.1.tc, tsem cj.2), 0, tduty cj.2)
theorem tokOf_injective : Function.Injective (tokOf : Dev nD × Fin 26 → GSem nD τ sig × ℕ × Bool) := by
  rintro ⟨c, j⟩ ⟨c', j'⟩ h
  have h1 : c = c' := congrArg (fun x : GSem nD τ sig × ℕ × Bool => x.1.1.1) h
  have h2 : tsem j = tsem j' := congrArg (fun x : GSem nD τ sig × ℕ × Bool => x.1.2) h
  have h3 : tduty j = tduty j' := congrArg (fun x : GSem nD τ sig × ℕ × Bool => x.2.2) h
  have h4 : j = j' := by
    unfold tsem at h2
    split at h2 <;> split at h2
    · unfold tduty at h3
      have h3 := decide_eq_decide.mp h3
      exact Fin.ext (by omega)
    · cases h2
    · cases h2
    · injection h2 with h2
      have h2 := congrArg Fin.val h2
      exact Fin.ext (Nat.add_right_cancel h2)
  rw [h1, h4]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- What the launch's element deals a device. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)
/-- What the devices make of it together. -/
def G' (c : Dev nD) : sProp 𝕄 := iprop(∃ K, records m K ∗ linear c)

theorem toks_eq (c : Dev nD) : (bigSep Finset.univ fun j : Fin 26 => (dutyTok ER (tokOf (c, j)).1 (tokOf (c, j)).2.1 (tokOf (c, j)).2.2 : sProp 𝕄)) = toks c := by
  rw [bigSep_univ_eq_bigSepL [(0 : Fin 26), (1 : Fin 26), (2 : Fin 26), (3 : Fin 26), (4 : Fin 26), (5 : Fin 26), (6 : Fin 26), (7 : Fin 26), (8 : Fin 26), (9 : Fin 26), (10 : Fin 26), (11 : Fin 26), (12 : Fin 26), (13 : Fin 26), (14 : Fin 26), (15 : Fin 26), (16 : Fin 26), (17 : Fin 26), (18 : Fin 26), (19 : Fin 26), (20 : Fin 26), (21 : Fin 26), (22 : Fin 26), (23 : Fin 26), (24 : Fin 26), (25 : Fin 26)] (by decide) (by decide)]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The semaphores at zero: the cells' and the weight copies'. -/
theorem sems0_eq (c : Dev nD) :
    (iprop(ownZ c ∗ unscopedSems0 c) : sProp 𝕄) ⊢ iprop((bigSep Finset.univ fun k : Fin 25 => semVal (kcell (c, k)) 0) ∗ wz c) := by
  have e : (bigSep Finset.univ fun k : Fin 25 => (semVal (kcell (c, k)) 0 : sProp 𝕄))
      = iprop(semVal (barCell c) 0 ∗ semVal (dCell c (dsem 3)) 0 ∗ semVal (dCell c (dsem 4)) 0 ∗ semVal (dCell c (dsem 5)) 0 ∗ semVal (dCell c (dsem 6)) 0 ∗ semVal (dCell c (dsem 7)) 0 ∗ semVal (dCell c (dsem 8)) 0 ∗ semVal (dCell c (dsem 9)) 0 ∗ semVal (dCell c (dsem 10)) 0 ∗ semVal (dCell c (dsem 11)) 0 ∗ semVal (dCell c (dsem 12)) 0 ∗ semVal (dCell c (dsem 13)) 0 ∗ semVal (dCell c (dsem 14)) 0 ∗ semVal (dCell c (dsem 15)) 0 ∗ semVal (dCell c (dsem 16)) 0 ∗ semVal (dCell c (dsem 17)) 0 ∗ semVal (dCell c (dsem 18)) 0 ∗ semVal (dCell c (dsem 19)) 0 ∗ semVal (dCell c (dsem 20)) 0 ∗ semVal (dCell c (dsem 21)) 0 ∗ semVal (dCell c (dsem 22)) 0 ∗ semVal (dCell c (dsem 23)) 0 ∗ semVal (dCell c (dsem 24)) 0 ∗ semVal (dCell c (dsem 25)) 0 ∗ semVal (dCell c (dsem 26)) 0) := by
    rw [bigSep_fin25]; rfl
  rw [e, ownZ_eq, unscopedSems0_eq]
  unfold wz
  iintro ⟨⟨Z3, Z4, Z5, Z6, Z7, Z8, Z9, Z10, Z11, Z12, Z13, Z14, Z15, Z16, Z17, Z18, Z19, Z20, Z21, Z22, Z23, Z24, Z25, Z26, Z27, Z28, Z29, Z30⟩, ZB⟩
  isplitr [Z27 Z28 Z29 Z30]
  · isplitl [ZB]; · iexact ZB
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    isplitl [Z25]; · iexact Z25
    iexact Z26
  isplitl [Z27]; · iexact Z27
  isplitl [Z28]; · iexact Z28
  isplitl [Z29]; · iexact Z29
  iexact Z30

theorem core_alloc (c : Dev nD) :
    (iprop(ownZ c ∗ unscopedSems0 c ∗ G m c) : sProp 𝕄)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ wz c) := by
  unfold G
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem tok_ring (q : DmaSem sig) : (bigSep Finset.univ fun c : Dev nD => (dutyTok ER (dCell c q) 0 false : sProp 𝕄))
    ⊢ bigSep Finset.univ fun c : Dev nD => dutyTok ER (dCell (nxt c) q) 0 false :=
  Entails.of_eq (bigSep_univ_equiv ring (fun c : Dev nD => (dutyTok ER (dCell c q) 0 false : sProp 𝕄)))
/-- A barrier's `false` token and the arrivals' tokens go to the previous device, a barrier's `true` token to the next. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄))]
  iintro ⟨BF, BT, D3, D4, D5, D6, D7, D8, D9, D10, D11, D12, D13, D14, D15, D16, D17, D18, D19, D20, D21, D22, D23, D24, D25, D26⟩
  ihave D12 := (tok_ring (F := F) _) $$ D12
  ihave D13 := (tok_ring (F := F) _) $$ D13
  ihave D14 := (tok_ring (F := F) _) $$ D14
  ihave D6 := (tok_ring (F := F) _) $$ D6
  ihave D18 := (tok_ring (F := F) _) $$ D18
  ihave D7 := (tok_ring (F := F) _) $$ D7
  ihave D19 := (tok_ring (F := F) _) $$ D19
  ihave D8 := (tok_ring (F := F) _) $$ D8
  ihave D20 := (tok_ring (F := F) _) $$ D20
  ihave D24 := (tok_ring (F := F) _) $$ D24
  ihave D25 := (tok_ring (F := F) _) $$ D25
  ihave D26 := (tok_ring (F := F) _) $$ D26
  isplitl [BT]; · iexact BT
  isplitl [BF]; · iexact BF
  isplitl [D9]; · iexact D9
  isplitl [D10]; · iexact D10
  isplitl [D11]; · iexact D11
  isplitl [D3]; · iexact D3
  isplitl [D15]; · iexact D15
  isplitl [D4]; · iexact D4
  isplitl [D16]; · iexact D16
  isplitl [D5]; · iexact D5
  isplitl [D17]; · iexact D17
  isplitl [D21]; · iexact D21
  isplitl [D22]; · iexact D22
  isplitl [D23]; · iexact D23
  isplitl [D12]; · iexact D12
  isplitl [D13]; · iexact D13
  isplitl [D14]; · iexact D14
  isplitl [D6]; · iexact D6
  isplitl [D18]; · iexact D18
  isplitl [D7]; · iexact D7
  isplitl [D19]; · iexact D19
  isplitl [D8]; · iexact D8
  isplitl [D20]; · iexact D20
  isplitl [D24]; · iexact D24
  isplitl [D25]; · iexact D25
  iexact D26

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

instance records_persistent (K : Dev nD × Fin 25 → ℕ) : BI.Persistent (records m K) := by unfold records; infer_instance

theorem deal_out (K : Dev nD × Fin 25 → ℕ) (c : Dev nD) : (iprop(records m K ∗ linear c) : sProp 𝕄) ⊢ G' m c := by
  unfold G'; iintro H; iexists K; iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ wz c) : sProp 𝕄)
      ⊢ bigSep Finset.univ (G' m) := by
  rw [bigSep_sep', bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok, Hw⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => deal_out m K c)
  isplitr
  · unfold records; isplitl; · iexact HI
    iexact HR
  · unfold linear poss
    simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem bar_eq_iff {a b : Dev nD} : Iff (barCell a = barCell b) (a = b) :=
  ⟨fun h => congrArg (fun g : GSem nD τ sig => g.1.1) h, fun h => h ▸ rfl⟩
theorem bar_ne_dma (a b : Dev nD) (q : DmaSem sig) : barCell a ≠ dCell b q := fun h => by
  have := congrArg Prod.snd h
  cases this
theorem recvQ_inj {i j : ℕ} (hi : i < 12) (hj : j < 12) (h : recvQ i = recvQ j) : i = j := by
  have h1 := lv_recvQ i hi (0 : Dev nD)
  rw [h, lv_recvQ j hj] at h1; omega

theorem OwR_bar (d c : Dev nD) (n : ℕ) (hn : n ≤ 12) : OwR d n (barCell c) () = 0 := by
  by_contra h
  obtain ⟨k, -, -, h'⟩ := OwR_pos hn (Nat.pos_of_ne_zero h)
  exact bar_ne_dma _ _ _ h'
theorem OwR_recv (d c : Dev nD) (k : ℕ) (hk : k < 12) : ∀ n, n ≤ 12 →
    OwR d n (dCell c (recvQ k)) () = if d = prv c ∧ 12 ≤ k + n then dmaAmt (recvQ k).val else 0
  | 0, _ => by rw [if_neg (by omega)]; rfl
  | n + 1, hn => by
    unfold OwR
    rw [Pi.add_apply, Finsupp.add_apply, OwR_recv d c k hk n (by omega), tallyAt_apply]
    by_cases hd : d = prv c
    · subst hd
      rw [nxt_prv]
      by_cases hkn : k = 11 - n
      · subst hkn
        rw [if_neg (by omega), if_pos ⟨rfl, rfl⟩, if_pos ⟨rfl, by omega⟩, Nat.zero_add]
      · rw [if_neg (c := _ ∧ _ = ()) (fun h => hkn (recvQ_inj hk (by omega) (by injection congrArg Prod.snd h.1))), Nat.add_zero]
        by_cases h12 : 12 ≤ k + n
        · rw [if_pos ⟨rfl, h12⟩, if_pos ⟨rfl, by omega⟩]
        · rw [if_neg (fun h => h12 h.2), if_neg (fun h => h12 (by have := h.2; omega))]
    · have hc : ¬ (dCell c (recvQ k) = dCell (nxt d) (recvQ (11 - n)) ∧ () = ()) := fun h =>
        hd (by rw [show c = nxt d from congrArg (fun g : GSem nD τ sig => g.1.1) h.1, prv_nxt])
      rw [if_neg (c := d = prv c ∧ 12 ≤ k + n) (fun h => hd h.1), if_neg (c := d = prv c ∧ 12 ≤ k + (n + 1)) (fun h => hd h.1), if_neg hc]

theorem owed_bar (d c : Dev nD) : O₀ d (barCell c) () = (if d = nxt c then 1 else 0) + (if d = prv c then 1 else 0) := by
  unfold O₀ O₁
  rw [Pi.add_apply, Finsupp.add_apply, Pi.add_apply, Finsupp.add_apply, OwR_bar d c 12 (le_refl _),
    tallyAt_apply, tallyAt_apply, Nat.zero_add, Nat.add_comm]
  congr 1
  · by_cases h : d = nxt c
    · subst h; rw [prv_nxt, if_pos ⟨rfl, rfl⟩, if_pos rfl]
    · rw [if_neg (fun ⟨h1, _⟩ => h (by rw [bar_eq_iff.mp h1, nxt_prv])), if_neg h]
  · by_cases h : d = prv c
    · subst h; rw [nxt_prv, if_pos ⟨rfl, rfl⟩, if_pos rfl]
    · rw [if_neg (fun ⟨h1, _⟩ => h (by rw [bar_eq_iff.mp h1, prv_nxt])), if_neg h]
theorem owed_recv (d c : Dev nD) (k : ℕ) (hk : k < 12) : O₀ d (dCell c (recvQ k)) () = if d = prv c then dmaAmt (recvQ k).val else 0 := by
  unfold O₀ O₁
  rw [Pi.add_apply, Finsupp.add_apply, Pi.add_apply, Finsupp.add_apply, OwR_recv d c k hk 12 (le_refl _),
    tallyAt_ne_cell (fun h => bar_ne_dma _ _ _ h.symm), tallyAt_ne_cell (fun h => bar_ne_dma _ _ _ h.symm), Finsupp.zero_apply, Nat.add_zero, Nat.add_zero]
  by_cases h : d = prv c
  · rw [if_pos ⟨h, by omega⟩, if_pos h]
  · rw [if_neg (fun h' => h h'.1), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_recv (c : Dev nD) (k : ℕ) (hk : k < 12) {q : DmaSem sig} (hq : recvQ k = q) :
    tallyOn (dCell c q) (launchCredit (Pipeline.owing O₀) 0 (dCell c q)) = (tallyAt (dCell c q) () (dmaAmt q.val) : CellTallies nD τ sig Unit) := by
  subst hq
  unfold tallyAt; refine congrArg _ (Finsupp.ext fun u => ?_); cases u
  rw [Pipeline.launchCredit_owing, Finsupp.single_eq_same, Finset.sum_congr rfl fun d _ => owed_recv d c k hk,
    Finset.sum_ite_eq' Finset.univ (prv c) fun _ => dmaAmt (recvQ k).val, if_pos (Finset.mem_univ _)]

/-- The cells a device holds credits of. -/
def credSems : List (SemLoc sig) := [SemLoc.reg barS, .dma (dsem 12), .dma (dsem 13), .dma (dsem 14), .dma (dsem 6), .dma (dsem 18), .dma (dsem 7), .dma (dsem 19), .dma (dsem 8), .dma (dsem 20), .dma (dsem 24), .dma (dsem 25), .dma (dsem 26)]
theorem creds_intro (c : Dev nD) : (Pipeline.launchCred O₀ c : sProp 𝕄) ⊢ creds c := by
  unfold Pipeline.launchCred
  refine (BI.bigSep_subset (Finset.subset_univ credSems.toFinset)).trans ?_
  rw [bigSep_eq_bigSepL_of_eq credSems rfl (by decide)]
  unfold credSems
  simp only [bigSepL_cons_cons, bigSepL_singleton]
  rw [launch_bar, launch_recv c 0 (by decide) (q := dsem 12) rfl, launch_recv c 1 (by decide) (q := dsem 13) rfl, launch_recv c 2 (by decide) (q := dsem 14) rfl, launch_recv c 3 (by decide) (q := dsem 6) rfl, launch_recv c 4 (by decide) (q := dsem 18) rfl, launch_recv c 5 (by decide) (q := dsem 7) rfl, launch_recv c 6 (by decide) (q := dsem 19) rfl, launch_recv c 7 (by decide) (q := dsem 8) rfl, launch_recv c 8 (by decide) (q := dsem 20) rfl, launch_recv c 9 (by decide) (q := dsem 24) rfl, launch_recv c 10 (by decide) (q := dsem 25) rfl, launch_recv c 11 (by decide) (q := dsem 26) rfl]
  exact Idealize.SL.BI.Entails.refl _

/-! ## The run's side conditions -/

theorem start_intro (c : Dev nD) :
    iprop(Pipeline.unscopedRestP Pipeline.Prefetch.none cfg0.spec c (fun b => m (c.tc.loc b)) ∗ levAts L lv
        ∗ Pipeline.launchCred O₀ c ∗ prngReg c (ρ c) ∗ G' m c)
      ⊢ (|={Set.univ}=> iprop(start m c ∗ emp) : sProp 𝕄) := by
  rw [show (Pipeline.unscopedRestP Pipeline.Prefetch.none cfg0.spec c (fun b => m (c.tc.loc b)) : sProp 𝕄)
      = iprop((c.tc.loc main_arg2 ↦{fullShare} m (c.tc.loc main_arg2)) ∗ (c.tc.loc main_arg3 ↦{fullShare} m (c.tc.loc main_arg3))) from by
    rw [Pipeline.unscopedRestP_eq_of_list (win := cfg0.spec) (c := c) Pipeline.Prefetch.none _ [main_arg2, main_arg3] (by decide) (by decide)]; rfl]
  iintro ⟨⟨H2, H3⟩, Hlev, Hcr, -, HG⟩
  ihave Hc := (creds_intro (F := F) c) $$ Hcr
  unfold start G' Env
  icases HG with ⟨%K, HR, HL⟩
  imodintro
  isplitl
  · isplitl [HL HR Hlev]
    · iexists K
      isplitr [HL]
      · isplitl [HR]; · iexact HR
        unfold levs; iexact Hlev
      iexact HL
    isplitl [Hc]; · iexact Hc
    isplitl [H2] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ rest
  iintro ⟨Hs, -, Hr⟩
  isplitl [Hs] <;> iassumption

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl]
  unfold Φ₁ ownZ rest
  exact Entails.of_eq rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- A final memory's device: the windows' arrays, and the weights. -/
def QY (c : Dev nD) (s : MemSt nD τ sig (Elt F)) : Prop :=
  (∀ sm : SemLoc sig, sm.isScoped .tc = false → s.sem ((c.tc : Thread nD τ), sm) = 0)
    ∧ s.mem (c.tc.loc main_arg2) = m (c.tc.loc main_arg2) ∧ s.mem (c.tc.loc main_arg3) = m (c.tc.loc main_arg3)
def QC : PUnit × MemSt nD τ sig (Elt F) → Prop := fun r =>
  ∀ c : Dev nD, (∀ w : Fin cfg0.W, r.2.mem ((cfg0.win w).arr.view.loc c.tc) = finalA m c w)
    ∧ r.2.mem (c.tc.loc main_arg2) = m (c.tc.loc main_arg2) ∧ r.2.mem (c.tc.loc main_arg3) = m (c.tc.loc main_arg3)

theorem read_whole_buf (c : Dev nD) (b : Ref sig .tc) (f : Buf (Elt F) (c.tc.loc b)) (s' : Phys nD τ sig (Elt F)) :
    (iprop(SI s' ∗ (c.tc.loc b) ↦{fullShare} f) : sProp 𝕄) ⊢ ⌜s'.mem.mem (c.tc.loc b) = f⌝ := by
  iintro H
  ihave %h := (SI_pointsTo_agree (st := s')) $$ H
  ipureintro
  exact funext fun i => h i (Finset.mem_univ i)

theorem fin_read (c : Dev nD) (s' : Phys nD τ sig (Elt F)) :
    (iprop(fin m c ∗ emp ∗ SI s') : sProp 𝕄) ⊢ |={Set.univ}=> iprop(⌜QY m c s'.mem⌝ ∗ SI s') := by
  unfold fin QY
  iintro ⟨⟨Hu, H2, H3⟩, -, HSI⟩
  ihave %h2 := (read_whole_buf c main_arg2 _ s') $$ [HSI H2]
  · isplitl [HSI] <;> iassumption
  ihave %h3 := (read_whole_buf c main_arg3 _ s') $$ [HSI H3]
  · isplitl [HSI] <;> iassumption
  imod (Pipeline.unscopedSems0_read (X := unscopedSems0 c) (c := c) fupd_intro s') $$ [Hu HSI] with ⟨%h1, HSI⟩
  · isplitl [Hu] <;> iassumption
  imodintro
  isplitr
  · ipureintro; exact ⟨h1, h2, h3⟩
  iexact HSI

set_option maxRecDepth 8000 in
/-- From any memory with zero counters, for any float values: every fair execution ends, with the windows' arrays at
    their computed contents, the weights unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := QY m) (hY := fin_read m)
    (hQ := fun _ h hs => ⟨fun c => ⟨(h c).1, (h c).2.2.2⟩, sem_eq_zero hs fun c => (h c).2.2.1⟩)

/-- The tokens and the router's columns after the run are what they were. -/
theorem finalA_x (c : Dev nD) : finalA m c (0 : Fin 3) = m (win0_0.arr.view.loc c.tc) :=
  (dats (F := F) m 0 c).arrAt_in (0 : Fin 3) rfl _
theorem finalA_g (c : Dev nD) : finalA m c (1 : Fin 3) = m (win0_1.arr.view.loc c.tc) :=
  (dats (F := F) m 0 c).arrAt_in (1 : Fin 3) rfl _
/-- The result after the run. -/
theorem finalA_o (c : Dev nD) : (win0_2.blk (0 : Fin 1)).view.read (Elt F) (finalA m c (2 : Fin 3)) = outv m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

end Cert.KernelIdeal.Ring
-- ==== Proof.Frames.lean ====
/- The claims that the programs run: the kernel as printed, the kernel over the extended reals, and the reference; and
   the one constant that the kernel over the extended reals has by name. -/
module

public import proofs.«01_k».proof.Defs
public import proofs.«01_k».proof.Proof.KernelLaunch
public import proofs.«01_k».proof.Proof.KernelIdealLaunch
public import proofs.«01_k».proof.Proof.Gen.ReferenceIdeal.Run

@[expose] public section

noncomputable section

namespace Cert.Proof

open Idealize.ShloMosaic Idealize.ShloMosaic.TcCoe Idealize.SL.Sem

instance facts_pre_kernel : Cert.Pre_gates_finite_KernelIdeal.Facts where
  bcast_S_S256x1024 := by decide
  reducesTo_S256x1024_S_d0_1 := by decide
  h_S_ := by decide
  bcast_S_S1024x4 := by decide
  reducesTo_S1024x4_S_d0_1 := by decide

instance facts_pre_reference : Cert.Pre_gates_finite_ReferenceIdeal.Facts where
  bcast_S_S1024x1024 := by decide
  reducesTo_S1024x1024_S_d0_1 := by decide
  h_S_ := by decide
  bcast_S_S1024x16 := by decide
  reducesTo_S1024x16_S_d0_1 := by decide

/-- The run of `Kernel`, read at the four arguments. -/
theorem frame_kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => (∀ c : Dev Cert.Kernel.nD,
        r.2.mem (c.tc.loc Cert.Kernel.main_arg0) = m (c.tc.loc Cert.Kernel.main_arg0)
        ∧ r.2.mem (c.tc.loc Cert.Kernel.main_arg1) = m (c.tc.loc Cert.Kernel.main_arg1)
        ∧ r.2.mem (c.tc.loc Cert.Kernel.main_arg2) = m (c.tc.loc Cert.Kernel.main_arg2)
        ∧ r.2.mem (c.tc.loc Cert.Kernel.main_arg3) = m (c.tc.loc Cert.Kernel.main_arg3))
        ∧ r.2.sem = fun _ => 0) :=
  (θ_run Cert.Kernel.defs _ _).mono
    (fun _ h => ⟨fun c => ⟨((h.1 c).1 (0 : Fin 3)).trans (Cert.Kernel.Ring.finalA_x m c),
      ((h.1 c).1 (1 : Fin 3)).trans (Cert.Kernel.Ring.finalA_g m c), (h.1 c).2.1, (h.1 c).2.2⟩, h.2⟩)
    (Cert.Kernel.Ring.run_main (F := Bits) m ρ)

/-- The run of `KernelIdeal`, read at the four arguments. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3))
        ∧ r.2.sem = fun _ => 0) :=
  (θ_run Cert.KernelIdeal.defs _ _).mono
    (fun _ h => ⟨fun c => ⟨((h.1 c).1 (0 : Fin 3)).trans (Cert.KernelIdeal.Ring.finalA_x m c),
      ((h.1 c).1 (1 : Fin 3)).trans (Cert.KernelIdeal.Ring.finalA_g m c), (h.1 c).2.1, (h.1 c).2.2⟩, h.2⟩)
    (Cert.KernelIdeal.Ring.run_main (F := Ideal) m ρ)

/-- The reference runs on its one device: no operation writes an argument, and it has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem quiescent_kernel : Cert.quiescent_Kernel := fun m g _ => frame_kernel m g
theorem quiescent_ideal : Cert.quiescent_KernelIdeal := fun m g _ => frame_ideal m g
theorem quiescent_ideal_pre : Cert.quiescent_KernelIdeal_pre_gates_finite_KernelIdeal := fun m g _ => frame_ideal m g
theorem quiescent_reference : Cert.quiescent_ReferenceIdeal := fun m g _ => frame_reference m g
theorem quiescent_reference_pre : Cert.quiescent_ReferenceIdeal_pre_gates_finite_ReferenceIdeal := fun m g _ => frame_reference m g

/-- The mask constant is −∞ over the extended reals. -/
theorem preserves : Cert.preserves_Kernel_KernelIdeal :=
  IdealRules.named_const.statement Cert.KernelIdeal.κ "mask" .f32 0xF149F2CA#32 ⊥ rfl

end Cert.Proof

end
-- ==== Proof.Moe.lean ====
/-
# Top-two routing over the extended reals

The mathematics of the layer, free of the two programs: how a token's two experts are picked out of its sixteen
gates, that the kernel's picking (the maximum, its first place, the maximum of the rest, its first place) and the
reference's ranking (how many gates beat this one) name the same two experts with the same weights, and that the
kernel's sum over all sixteen experts, each at its own share of the token, is the reference's sum over the two.
-/
module

public import Idealize.ShloMosaic.Lib.Pointwise
public import Mathlib.Tactic.FinCases
public import Mathlib.Tactic.Abel
public import Mathlib.Algebra.BigOperators.Fin

@[expose] public section

noncomputable section

namespace Cert.Moe

open Idealize.ShloMosaic
open scoped Classical

/-! ## Picking the first maximum -/

/-- The first place at which `G` reaches `m`, as a word; 16 where there is none. -/
def pickWord (G : Fin 16 → EReal) (m : EReal) : BitVec 32 :=
  Finset.fold IntOp.minsi (2147483647#32) (fun x : Fin 16 => if m ≤ G x then BitVec.ofNat 32 x else 16#32) Finset.univ

/-- `x` comes before `y`: its gate is greater, or as great and further to the front. -/
def beats (G : Fin 16 → EReal) (x y : Fin 16) : Prop := G y < G x ∨ (G x = G y ∧ x < y)

theorem beats_irrefl (G : Fin 16 → EReal) (x : Fin 16) : ¬ beats G x x := by
  rintro (h | h)
  · exact lt_irrefl _ h
  · exact lt_irrefl _ h.2

theorem beats_asymm {G : Fin 16 → EReal} {x y : Fin 16} (h : beats G x y) : ¬ beats G y x := by
  rintro (k | k) <;> rcases h with h | h
  · exact lt_asymm h k
  · rw [h.1] at k; exact lt_irrefl _ k
  · rw [k.1] at h; exact lt_irrefl _ h
  · exact lt_asymm h.2 k.2

theorem toInt_minsi (a b : BitVec 32) : (IntOp.minsi a b).toInt = min a.toInt b.toInt := by
  unfold IntOp.minsi
  rw [BitVec.slt]
  by_cases h : a.toInt < b.toInt
  · simp [h, le_of_lt h]
  · simp [h, min_eq_right (not_lt.mp h)]

theorem toInt_place (x : Fin 16) : (BitVec.ofNat 32 x.val).toInt = (x.val : Int) := by revert x; decide

/-- A minimum of words that one of them attains. -/
theorem fold_minsi_eq (f : Fin 16 → BitVec 32) (v : Fin 16) (hv : f v = BitVec.ofNat 32 v)
    (h : ∀ x, (v.val : Int) ≤ (f x).toInt) :
    Finset.fold IntOp.minsi (2147483647#32) f Finset.univ = BitVec.ofNat 32 v := by
  apply BitVec.eq_of_toInt_eq
  rw [← Finset.fold_hom (op' := min) (m := BitVec.toInt) (fun a b => toInt_minsi a b)]
  rw [toInt_place]
  apply le_antisymm
  · rw [Finset.fold_min_le]
    exact Or.inr ⟨v, Finset.mem_univ _, by rw [hv, toInt_place]⟩
  · rw [Finset.le_fold_min]
    refine ⟨?_, fun x _ => h x⟩
    have h16 := v.isLt
    have h2 : (2147483647#32 : BitVec 32).toInt = 2147483647 := by decide
    rw [h2]; omega

/-- The maximum is reached, and its first place comes before all others. -/
theorem first_pick (G : Fin 16 → EReal) :
    ∃ r : Fin 16, Finset.fold max ⊥ G Finset.univ = G r ∧ pickWord G (G r) = BitVec.ofNat 32 r
      ∧ ∀ y, y ≠ r → beats G r y := by
  obtain ⟨a, -, ha⟩ := Finset.exists_max_image Finset.univ G ⟨0, Finset.mem_univ _⟩
  let s := Finset.univ.filter (fun x => G a ≤ G x)
  have hs : s.Nonempty := ⟨a, by simp [s]⟩
  let r := s.min' hs
  have hr : G a ≤ G r := by have := Finset.min'_mem s hs; simpa [s] using this
  have hra : G r = G a := le_antisymm (ha r (Finset.mem_univ _)) hr
  have hle : ∀ x, G x ≤ G r := fun x => (ha x (Finset.mem_univ _)).trans hr
  have hmin : ∀ x, G r ≤ G x → r ≤ x := fun x hx => Finset.min'_le s x (by simpa [s] using hr.trans hx)
  refine ⟨r, ?_, ?_, ?_⟩
  · apply le_antisymm
    · rw [Finset.fold_max_le]; exact ⟨bot_le, fun x _ => hle x⟩
    · rw [Finset.le_fold_max]; exact Or.inr ⟨r, Finset.mem_univ _, le_rfl⟩
  · refine fold_minsi_eq _ r (if_pos le_rfl) fun x => ?_
    by_cases hx : G r ≤ G x
    · rw [if_pos hx, toInt_place]; exact_mod_cast hmin x hx
    · rw [if_neg hx]; have := r.isLt; have h2 : (16#32 : BitVec 32).toInt = 16 := by decide
      rw [h2]; omega
  · intro y hy
    rcases lt_or_eq_of_le (hle y) with h | h
    · exact Or.inl h
    · exact Or.inr ⟨h.symm, lt_of_le_of_ne (hmin y h.ge) (Ne.symm hy)⟩

/-- The gates with the first pick masked. -/
def masked (G : Fin 16 → EReal) (w : BitVec 32) : Fin 16 → EReal := fun x => if BitVec.ofNat 32 x.val = w then ⊥ else G x

theorem place_inj : ∀ x y : Fin 16, BitVec.ofNat 32 x.val = BitVec.ofNat 32 y.val ↔ x = y := by decide

/-- The kernel's two picks, when no gate is `-∞`. -/
theorem two_picks (G : Fin 16 → EReal) (hG : ∀ x, G x ≠ ⊥) (m₁ : EReal) (hm₁ : m₁ = Finset.fold max ⊥ G Finset.univ)
    (w₁ : BitVec 32) (hw₁ : w₁ = pickWord G m₁) (m₂ : EReal) (hm₂ : m₂ = Finset.fold max ⊥ (masked G w₁) Finset.univ)
    (w₂ : BitVec 32) (hw₂ : w₂ = pickWord (masked G w₁) m₂) :
    ∃ r₁ r₂ : Fin 16, r₁ ≠ r₂ ∧ w₁ = BitVec.ofNat 32 r₁ ∧ w₂ = BitVec.ofNat 32 r₂ ∧ m₁ = G r₁ ∧ m₂ = G r₂
      ∧ (∀ y, y ≠ r₁ → beats G r₁ y) ∧ (∀ y, y ≠ r₁ → y ≠ r₂ → beats G r₂ y) := by
  obtain ⟨r₁, h1, h2, h3⟩ := first_pick G
  rw [h1] at hm₁; subst hm₁
  rw [h2] at hw₁; subst hw₁
  have hmk : ∀ x, masked G (BitVec.ofNat 32 r₁.val) x = if x = r₁ then ⊥ else G x := fun x => by
    unfold masked; simp only [place_inj]
  obtain ⟨r₂, k1, k2, k3⟩ := first_pick (masked G (BitVec.ofNat 32 r₁.val))
  rw [k1] at hm₂; subst hm₂
  rw [k2] at hw₂; subst hw₂
  have hne : r₁ ≠ r₂ := by
    rintro rfl
    have hb : masked G (BitVec.ofNat 32 r₁.val) r₁ = ⊥ := by rw [hmk, if_pos rfl]
    obtain ⟨y, hy⟩ : ∃ y : Fin 16, y ≠ r₁ := exists_ne r₁
    have hyv : masked G (BitVec.ofNat 32 r₁.val) y = G y := by rw [hmk, if_neg hy]
    rcases k3 y hy with h | h
    · rw [hb] at h; exact not_lt_bot h
    · rw [hb, hyv] at h; exact hG y h.1.symm
  refine ⟨r₁, r₂, hne, rfl, rfl, rfl, by rw [hmk, if_neg hne.symm], h3, fun y hy₁ hy₂ => ?_⟩
  have := k3 y hy₂
  unfold beats at this ⊢
  rwa [hmk, hmk, if_neg hy₁, if_neg hne.symm] at this

/-! ## Where an expert's gate stands -/

/-- The column of expert `e`'s gate on the ring position `z`; the same map takes a column back to its expert. -/
def place (z : Fin 4) (e : Fin 16) : Fin 16 := ⟨4 * ((z.val + 4 - e.val / 4) % 4) + e.val % 4, by omega⟩

theorem place_place (z : Fin 4) (e : Fin 16) : place z (place z e) = e := by revert z e; decide

/-- The column as the reference computes it in words, from the token's ring position. -/
def plw (b : BitVec 32) (e : Fin 16) : BitVec 32 :=
  IntOp.addi (IntOp.muli (4#32) (IntOp.remsi ArithUnit.host (IntOp.addi (IntOp.subi b
    (IntOp.divsi ArithUnit.host (BitVec.ofNat 32 e.val) 4#32)) 4#32) 4#32)) (IntOp.remsi ArithUnit.host (BitVec.ofNat 32 e.val) 4#32)

theorem plw_eq : ∀ (z : Fin 4) (e : Fin 16), plw (BitVec.ofNat 32 z.val) e = BitVec.ofNat 32 (place z e).val := by decide +kernel

theorem slt_place : ∀ x y : Fin 16, IntOp.cmpi .slt (BitVec.ofNat 32 x.val) (BitVec.ofNat 32 y.val) = BitVec.ofBool (decide (x < y)) := by
  decide +kernel

/-- The kernel's expert of a column, in words: a floor division by four written with its sign correction. -/
def expw (z a : BitVec 32) : BitVec 32 :=
  IntOp.addi (IntOp.muli (4#32) (IntOp.remsi ArithUnit.vector (IntOp.addi (IntOp.subi z
    (Scalar.select (IntOp.andi (IntOp.cmpi .ne (IntOp.subi (BitVec.setWidth 32 (IntOp.cmpi .sgt a 0#32)) (BitVec.setWidth 32 (IntOp.cmpi .slt a 0#32)))
        (Scalar.subi (Scalar.extui (Scalar.cmpi .sgt 4#32 0#32)) (Scalar.extui (Scalar.cmpi .slt 4#32 0#32))))
        (IntOp.cmpi .ne (IntOp.remsi ArithUnit.vector a 4#32) 0#32))
      (IntOp.subi (IntOp.divsi ArithUnit.vector a 4#32) 1#32) (IntOp.divsi ArithUnit.vector a 4#32))) 4#32) 4#32))
    (IntOp.remsi ArithUnit.vector a 4#32)

theorem expw_eq : ∀ (z : Fin 4) (r : Fin 16), expw (BitVec.ofNat 32 z.val) (BitVec.ofNat 32 r.val) = BitVec.ofNat 32 (place z r).val := by
  decide +kernel

/-! ## The reference's ranks -/

/-- How many gates come before expert `e`'s, as the reference counts them. -/
def rankw (b : BitVec 32) (g : Fin 16 → EReal) (e : Fin 16) : BitVec 32 :=
  Finset.fold IntOp.addi (0#32) (fun x : Fin 16 => BitVec.setWidth 32 (IntOp.ori (BitVec.ofBool (decide (g e < g x)))
    (IntOp.andi (BitVec.ofBool (decide (g x = g e))) (IntOp.cmpi .slt (plw b x) (plw b e))))) Finset.univ

theorem fold_count (p : Fin 16 → Prop) (s : Finset (Fin 16)) :
    Finset.fold IntOp.addi (0#32) (fun x => BitVec.setWidth 32 (BitVec.ofBool (decide (p x)))) s
      = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (by simp [ha])]
      simp only [h, decide_true]
      show BitVec.setWidth 32 1#1 + _ = _
      rw [Nat.add_comm, BitVec.ofNat_add]; rfl
    · rw [if_neg h]
      simp only [h, decide_false]
      show BitVec.setWidth 32 0#1 + _ = _
      simp

theorem rankw_eq (z : Fin 4) (g : Fin 16 → EReal) (e : Fin 16) :
    rankw (BitVec.ofNat 32 z.val) g e
      = BitVec.ofNat 32 (Finset.univ.filter fun x => beats (fun r => g (place z r)) (place z x) (place z e)).card := by
  rw [← fold_count]
  unfold rankw
  congr 1
  funext x
  rw [plw_eq, plw_eq, slt_place]
  simp only [beats, place_place]
  congr 1
  by_cases h1 : g e < g x <;> by_cases h2 : g x = g e <;> by_cases h3 : place z x < place z e <;> simp [h1, h2, h3, IntOp.ori, IntOp.andi]

theorem card_lt (s : Finset (Fin 16)) : s.card < 2 ^ 32 :=
  lt_of_le_of_lt (Finset.card_le_univ s) (by decide)

/-- A rank compared with a small number. -/
theorem rank_cmp (s : Finset (Fin 16)) (k : ℕ) (hk : k < 2 ^ 32) :
    IntOp.cmpi .eq (BitVec.ofNat 32 s.card) (BitVec.ofNat 32 k) = BitVec.ofBool (decide (s.card = k)) := by
  unfold IntOp.cmpi
  congr 1
  have h := card_lt s
  rw [Bool.eq_iff_iff, beq_iff_eq, decide_eq_true_iff, ← BitVec.toNat_inj, BitVec.toNat_ofNat, BitVec.toNat_ofNat,
    Nat.mod_eq_of_lt h, Nat.mod_eq_of_lt hk]

section Ranks

variable (z : Fin 4) (g : Fin 16 → EReal) (r₁ r₂ : Fin 16) (hne : r₁ ≠ r₂)
  (h₁ : ∀ y, y ≠ r₁ → beats (fun r => g (place z r)) r₁ y)
  (h₂ : ∀ y, y ≠ r₁ → y ≠ r₂ → beats (fun r => g (place z r)) r₂ y)

include h₁ in
theorem rank_zero (e : Fin 16) :
    IntOp.cmpi .eq (rankw (BitVec.ofNat 32 z.val) g e) 0#32 = BitVec.ofBool (decide (e = place z r₁)) := by
  rw [rankw_eq, show (0#32 : BitVec 32) = BitVec.ofNat 32 0 from rfl, rank_cmp _ 0 (by decide)]
  congr 1
  rw [decide_eq_decide, Finset.card_eq_zero, Finset.filter_eq_empty_iff]
  constructor
  · intro h
    by_contra hc
    have hp : place z e ≠ r₁ := fun hh => hc (by rw [← hh, place_place])
    exact h (Finset.mem_univ (place z r₁)) (by rw [place_place]; exact h₁ _ hp)
  · rintro rfl x - hx
    rw [place_place] at hx
    by_cases hp : place z x = r₁
    · rw [hp] at hx; exact beats_irrefl _ _ hx
    · exact beats_asymm (h₁ _ hp) hx

include h₁ h₂ hne in
theorem rank_one (e : Fin 16) :
    IntOp.cmpi .eq (rankw (BitVec.ofNat 32 z.val) g e) 1#32 = BitVec.ofBool (decide (e = place z r₂)) := by
  rw [rankw_eq, show (1#32 : BitVec 32) = BitVec.ofNat 32 1 from rfl, rank_cmp _ 1 (by decide)]
  congr 1
  rw [decide_eq_decide, Finset.card_eq_one]
  constructor
  · rintro ⟨a, ha⟩
    have hmem : ∀ x, beats (fun r => g (place z r)) (place z x) (place z e) ↔ x = a := fun x => by
      have := Finset.ext_iff.mp ha x; simpa using this
    by_contra hc
    have hp₂ : place z e ≠ r₂ := fun hh => hc (by rw [← hh, place_place])
    by_cases hp₁ : place z e = r₁
    · have := (hmem a).mpr rfl
      rw [hp₁] at this
      by_cases hp : place z a = r₁
      · rw [hp] at this; exact beats_irrefl _ _ this
      · exact beats_asymm (h₁ _ hp) this
    · have e1 := (hmem (place z r₁)).mp (by rw [place_place]; exact h₁ _ hp₁)
      have e2 := (hmem (place z r₂)).mp (by rw [place_place]; exact h₂ _ hp₁ hp₂)
      apply hne
      have := congrArg (place z) (e1.trans e2.symm)
      rwa [place_place, place_place] at this
  · rintro rfl
    refine ⟨place z r₁, ?_⟩
    ext x
    simp only [Finset.mem_filter, Finset.mem_univ, true_and, Finset.mem_singleton, place_place]
    constructor
    · intro hx
      by_contra hc
      have hp₁ : place z x ≠ r₁ := fun hh => hc (by rw [← hh, place_place])
      by_cases hp₂ : place z x = r₂
      · rw [hp₂] at hx; exact beats_irrefl _ _ hx
      · exact beats_asymm (h₂ _ hp₁ hp₂) hx
    · rintro rfl
      rw [place_place]; exact h₁ _ hne.symm

end Ranks

/-! ## The weights -/

/-- A sum of which a mask keeps one term. -/
theorem sum_select (p : Fin 16) (c : Fin 16 → BitVec 1) (hc : ∀ e, c e = BitVec.ofBool (decide (e = p))) (f : Fin 16 → EReal) :
    ∑ e, Scalar.select (c e) (f e) 0 = f p := by
  rw [Finset.sum_eq_single p]
  · rw [hc]; simp [Scalar.select]
  · intro b _ hb; rw [hc]; simp [Scalar.select, hb]
  · intro h; exact absurd (Finset.mem_univ p) h

/-- The value of the gate of rank `k`. -/
def val (b : BitVec 32) (g : Fin 16 → EReal) (k : BitVec 32) : EReal :=
  ∑ e, Scalar.select (IntOp.cmpi .eq (rankw b g e) k) (g e) 0

/-- The reference's output for one token and one column, `y e` expert `e`'s output there. -/
def refOut (b : BitVec 32) (g y : Fin 16 → EReal) : EReal :=
  (∑ e, Scalar.select (IntOp.cmpi .eq (rankw b g e) 0#32)
      (y e * Ideal.div (Ideal.exp (val b g 0#32 - max (val b g 0#32) (val b g 1#32)))
        (Ideal.exp (val b g 0#32 - max (val b g 0#32) (val b g 1#32)) + Ideal.exp (val b g 1#32 - max (val b g 0#32) (val b g 1#32)))) 0)
  + ∑ e, Scalar.select (IntOp.cmpi .eq (rankw b g e) 1#32)
      (y e * Ideal.div (Ideal.exp (val b g 1#32 - max (val b g 0#32) (val b g 1#32)))
        (Ideal.exp (val b g 0#32 - max (val b g 0#32) (val b g 1#32)) + Ideal.exp (val b g 1#32 - max (val b g 0#32) (val b g 1#32)))) 0

theorem div_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The picks of the kernel, their experts' numbers, their weights, and the reference's output by them. -/
theorem picks (z : Fin 4) (g G : Fin 16 → EReal) (hfin : ∀ e, g e ≠ ⊥ ∧ g e ≠ ⊤) (hG : ∀ r, G r = g (place z r))
    (m₁ : EReal) (hm₁ : m₁ = Finset.fold max ⊥ G Finset.univ)
    (w₁ : BitVec 32) (hw₁ : w₁ = pickWord G m₁) (m₂ : EReal) (hm₂ : m₂ = Finset.fold max ⊥ (masked G w₁) Finset.univ)
    (w₂ : BitVec 32) (hw₂ : w₂ = pickWord (masked G w₁) m₂) :
    ∃ (p₁ p₂ : Fin 16) (s₁ s₂ : ℝ), p₁ ≠ p₂ ∧ 0 ≤ s₁ ∧ 0 ≤ s₂
      ∧ expw (BitVec.ofNat 32 z.val) w₁ = BitVec.ofNat 32 p₁ ∧ expw (BitVec.ofNat 32 z.val) w₂ = BitVec.ofNat 32 p₂
      ∧ Ideal.div 1 (1 + Ideal.exp (m₂ - m₁)) = (s₁ : EReal)
      ∧ Ideal.div (Ideal.exp (m₂ - m₁)) (1 + Ideal.exp (m₂ - m₁)) = (s₂ : EReal)
      ∧ ∀ y, refOut (BitVec.ofNat 32 z.val) g y = y p₁ * s₁ + y p₂ * s₂ := by
  obtain rfl : G = fun r => g (place z r) := funext hG
  obtain ⟨r₁, r₂, hne, rfl, rfl, rfl, rfl, h₁, h₂⟩ :=
    two_picks _ (fun x => (hfin _).1) m₁ hm₁ w₁ hw₁ m₂ hm₂ w₂ hw₂
  clear hm₁ hw₁ hm₂ hw₂ hG
  have c0 := rank_zero z g r₁ h₁
  have c1 := rank_one z g r₁ r₂ hne h₁ h₂
  have v0 : val (BitVec.ofNat 32 z.val) g 0#32 = g (place z r₁) := sum_select _ _ c0 _
  have v1 : val (BitVec.ofNat 32 z.val) g 1#32 = g (place z r₂) := sum_select _ _ c1 _
  have hle : g (place z r₂) ≤ g (place z r₁) := by
    rcases h₁ r₂ hne.symm with h | h
    · exact h.le
    · exact h.1.ge
  obtain ⟨a, ha⟩ : ∃ a : ℝ, g (place z r₁) = a := ⟨_, (EReal.coe_toReal (hfin _).2 (hfin _).1).symm⟩
  obtain ⟨b, hb⟩ : ∃ b : ℝ, g (place z r₂) = b := ⟨_, (EReal.coe_toReal (hfin _).2 (hfin _).1).symm⟩
  have hexp : Ideal.exp ((b : EReal) - (a : EReal)) = ((Real.exp (b - a) : ℝ) : EReal) := by
    rw [← EReal.coe_sub]; rfl
  have hexp0 : Ideal.exp ((a : EReal) - (a : EReal)) = ((1 : ℝ) : EReal) := by
    rw [← EReal.coe_sub, sub_self]; show ((Real.exp 0 : ℝ) : EReal) = _; rw [Real.exp_zero]
  have hpos : 0 < 1 + Real.exp (b - a) := by positivity
  have hden : (1 : EReal) + ((Real.exp (b - a) : ℝ) : EReal) = ((1 + Real.exp (b - a) : ℝ) : EReal) := by
    rw [EReal.coe_add]; rfl
  refine ⟨place z r₁, place z r₂, 1 / (1 + Real.exp (b - a)), Real.exp (b - a) / (1 + Real.exp (b - a)), ?_, by positivity, by positivity,
    expw_eq z r₁, expw_eq z r₂, ?_, ?_, fun y => ?_⟩
  · intro h
    have := congrArg (place z) h
    rw [place_place, place_place] at this
    exact hne this
  · show Ideal.div 1 (1 + Ideal.exp (g (place z r₂) - g (place z r₁))) = _
    rw [ha, hb, hexp, hden, ← div_real _ _ hpos]; rfl
  · show Ideal.div (Ideal.exp (g (place z r₂) - g (place z r₁))) (1 + Ideal.exp (g (place z r₂) - g (place z r₁))) = _
    rw [ha, hb, hexp, hden, ← div_real _ _ hpos]
  · unfold refOut
    rw [v0, v1, max_eq_left hle, sum_select _ _ c0, sum_select _ _ c1, ha, hb, hexp, hexp0, ← EReal.coe_add, div_real _ _ hpos, div_real _ _ hpos]

/-! ## An expert's share -/

/-- What expert `(W, V)` gives for a token `x` taken `s` times, at one column. -/
def contrib (x : Fin 1024 → EReal) (s : EReal) (W : Fin 1024 → Fin 2048 → EReal) (V : Fin 2048 → EReal) : EReal :=
  ∑ f, max (∑ d, (x d * s) * W d f) 0 * V f

/-- The expert's output for the token itself. -/
def ffn (x : Fin 1024 → EReal) (W : Fin 1024 → Fin 2048 → EReal) (V : Fin 2048 → EReal) : EReal :=
  ∑ f, max (∑ d, x d * W d f) 0 * V f

theorem sum_mul_real {n : ℕ} (s : ℝ) (hs : 0 ≤ s) (f : Fin n → EReal) : (∑ i, f i) * (s : EReal) = ∑ i, f i * (s : EReal) := by
  have h0 : (0 : EReal) ≤ (s : EReal) := by exact_mod_cast hs
  induction (Finset.univ : Finset (Fin n)) using Finset.induction_on with
  | empty => simp
  | insert a t ha ih =>
    rw [Finset.sum_insert ha, Finset.sum_insert ha, EReal.right_distrib_of_nonneg_of_ne_top h0 (EReal.coe_ne_top s), ih]

theorem max_mul_real (s : ℝ) (hs : 0 ≤ s) (a : EReal) : max (a * (s : EReal)) 0 = max a 0 * (s : EReal) := by
  have h0 : (0 : EReal) ≤ (s : EReal) := by exact_mod_cast hs
  rcases le_total a 0 with h | h
  · rw [max_eq_right h, zero_mul, max_eq_right (EReal.mul_nonpos_iff.mpr (Or.inr ⟨h, h0⟩))]
  · rw [max_eq_left h, max_eq_left (mul_nonneg h h0)]

theorem contrib_real (x : Fin 1024 → EReal) (s : ℝ) (hs : 0 ≤ s) (W : Fin 1024 → Fin 2048 → EReal) (V : Fin 2048 → EReal) :
    contrib x s W V = ffn x W V * (s : EReal) := by
  unfold contrib ffn
  rw [sum_mul_real s hs]
  refine Finset.sum_congr rfl fun f _ => ?_
  rw [show (∑ d, (x d * (s : EReal)) * W d f) = (∑ d, x d * W d f) * (s : EReal) by
    rw [sum_mul_real s hs]; exact Finset.sum_congr rfl fun d _ => by rw [mul_right_comm]]
  rw [max_mul_real s hs, mul_right_comm]

/-- The share of expert number `w` as the kernel computes it from a token's gate data. -/
def sel (w : ℤ) (i : Fin 4 → EReal) : EReal :=
  FloatOps.sitofp (F := Ideal) FTy.f32 (BitVec.setWidth 32 (BitVec.ofBool (decide (i 0 = ((w : ℝ) : EReal))))) * i 2
    + FloatOps.sitofp (F := Ideal) FTy.f32 (BitVec.setWidth 32 (BitVec.ofBool (decide (i 1 = ((w : ℝ) : EReal))))) * i 3

theorem sitofp_bit (b : Prop) [Decidable b] :
    FloatOps.sitofp (F := Ideal) FTy.f32 (BitVec.setWidth 32 (BitVec.ofBool (decide b))) = if b then (1 : EReal) else 0 := by
  by_cases h : b
  · simp only [h, decide_true, if_true]
    show (((BitVec.setWidth 32 1#1).toInt : ℝ) : EReal) = 1
    rw [show (BitVec.setWidth 32 1#1).toInt = 1 by decide]; simp
  · simp only [h, decide_false, if_false]
    show (((BitVec.setWidth 32 0#1).toInt : ℝ) : EReal) = 0
    rw [show (BitVec.setWidth 32 0#1).toInt = 0 by decide]; simp

theorem sitofp_place (p : Fin 16) : FloatOps.sitofp (F := Ideal) FTy.f32 (BitVec.ofNat 32 p.val) = (((p.val : ℤ) : ℝ) : EReal) := by
  show (((BitVec.ofNat 32 p.val).toInt : ℝ) : EReal) = _
  rw [toInt_place]

/-- An expert's contribution by whether the token picked it. -/
theorem contrib_sel (p₁ p₂ e : Fin 16) (hne : p₁ ≠ p₂) (s₁ s₂ : ℝ) (h₁ : 0 ≤ s₁) (h₂ : 0 ≤ s₂) (i : Fin 4 → EReal)
    (i0 : i 0 = FloatOps.sitofp (F := Ideal) FTy.f32 (BitVec.ofNat 32 p₁.val)) (i1 : i 1 = FloatOps.sitofp (F := Ideal) FTy.f32 (BitVec.ofNat 32 p₂.val))
    (i2 : i 2 = (s₁ : EReal)) (i3 : i 3 = (s₂ : EReal))
    (x : Fin 1024 → EReal) (W : Fin 1024 → Fin 2048 → EReal) (V : Fin 2048 → EReal) :
    contrib x (sel (e.val : ℤ) i) W V = (if e = p₁ then ffn x W V * s₁ else 0) + (if e = p₂ then ffn x W V * s₂ else 0) := by
  have hcmp : ∀ p : Fin 16, ((((p.val : ℤ) : ℝ) : EReal) = (((e.val : ℤ) : ℝ) : EReal)) ↔ e = p := fun p => by
    rw [EReal.coe_eq_coe_iff]; norm_cast; rw [Fin.ext_iff]; exact eq_comm
  have hs : sel (e.val : ℤ) i = (((if e = p₁ then s₁ else 0) + (if e = p₂ then s₂ else 0) : ℝ) : EReal) := by
    unfold sel
    rw [i0, i1, i2, i3, sitofp_bit, sitofp_bit, sitofp_place, sitofp_place]
    simp only [hcmp]
    split_ifs <;> simp
  rw [hs, contrib_real _ _ (by split_ifs <;> positivity)]
  by_cases e1 : e = p₁
  · have e2 : e ≠ p₂ := fun h => hne (e1.symm.trans h)
    simp [e1, e2, hne]
  · by_cases e2 : e = p₂
    · simp [e1, e2, Ne.symm hne]
    · simp [e1, e2]

/-- The sixteen contributions, whatever they depend on, add up to the two picked experts' outputs. -/
theorem sum_sel (p₁ p₂ : Fin 16) (y : Fin 16 → EReal) (s₁ s₂ : EReal) :
    ∑ e, ((if e = p₁ then y e * s₁ else 0) + (if e = p₂ then y e * s₂ else 0)) = y p₁ * s₁ + y p₂ * s₂ := by
  rw [Finset.sum_add_distrib]
  simp

/-- Expert `j` of the ring position `h` places before `z`. -/
def nth (z : Fin 4) (h j : Fin 4) : Fin 16 := ⟨4 * ((z.val + 4 - h.val) % 4) + j.val, by omega⟩

/-- The order in which the ring adds up the experts' contributions. -/
theorem ring_sum (z : Fin 4) (f : Fin 16 → EReal) :
    (((0 + f (nth z 0 0)) + f (nth z 0 1)) + ((0 + f (nth z 0 2)) + f (nth z 0 3)))
      + ((((0 + f (nth z 1 0)) + f (nth z 1 1)) + ((0 + f (nth z 1 2)) + f (nth z 1 3)))
      + ((((0 + f (nth z 2 0)) + f (nth z 2 1)) + ((0 + f (nth z 2 2)) + f (nth z 2 3)))
      + (((0 + f (nth z 3 0)) + f (nth z 3 1)) + ((0 + f (nth z 3 2)) + f (nth z 3 3))))) = ∑ e, f e := by
  simp only [zero_add, Fin.sum_univ_succ, Finset.univ_eq_empty, Finset.sum_empty, add_zero]
  fin_cases z
  · show (f 0 + f 1 + (f 2 + f 3)) + ((f 12 + f 13 + (f 14 + f 15)) + ((f 8 + f 9 + (f 10 + f 11)) + (f 4 + f 5 + (f 6 + f 7)))) = f 0 + (f 1 + (f 2 + (f 3 + (f 4 + (f 5 + (f 6 + (f 7 + (f 8 + (f 9 + (f 10 + (f 11 + (f 12 + (f 13 + (f 14 + f 15))))))))))))))
    abel
  · show (f 4 + f 5 + (f 6 + f 7)) + ((f 0 + f 1 + (f 2 + f 3)) + ((f 12 + f 13 + (f 14 + f 15)) + (f 8 + f 9 + (f 10 + f 11)))) = f 0 + (f 1 + (f 2 + (f 3 + (f 4 + (f 5 + (f 6 + (f 7 + (f 8 + (f 9 + (f 10 + (f 11 + (f 12 + (f 13 + (f 14 + f 15))))))))))))))
    abel
  · show (f 8 + f 9 + (f 10 + f 11)) + ((f 4 + f 5 + (f 6 + f 7)) + ((f 0 + f 1 + (f 2 + f 3)) + (f 12 + f 13 + (f 14 + f 15)))) = f 0 + (f 1 + (f 2 + (f 3 + (f 4 + (f 5 + (f 6 + (f 7 + (f 8 + (f 9 + (f 10 + (f 11 + (f 12 + (f 13 + (f 14 + f 15))))))))))))))
    abel
  · show (f 12 + f 13 + (f 14 + f 15)) + ((f 8 + f 9 + (f 10 + f 11)) + ((f 4 + f 5 + (f 6 + f 7)) + (f 0 + f 1 + (f 2 + f 3)))) = f 0 + (f 1 + (f 2 + (f 3 + (f 4 + (f 5 + (f 6 + (f 7 + (f 8 + (f 9 + (f 10 + (f 11 + (f 12 + (f 13 + (f 14 + f 15))))))))))))))
    abel

end Cert.Moe

end
-- ==== Proof.Steps.lean ====
/-
# The kernel's pure values, element by element

Each pure value the kernel computes, read at one element over the extended reals.
-/
module

public import proofs.«01_k».proof.Proof.Gen.KernelIdeal.Skeleton
public import proofs.«01_k».proof.Proof.Moe

@[expose] public section

set_option maxRecDepth 16384

noncomputable section

namespace Cert.KernelIdeal.Gen

open Idealize.ShloMosaic Idealize.SL.Sem Cert.Moe

variable [Cert.KernelIdeal.Facts]

/-- An expert's number, in words: of four to a device, the one at `o` plus the trip. -/
abbrev ew (z o : BitVec 32) (j : ℕ) : ℤ := (Scalar.addi (Scalar.addi (Scalar.muli 4#32 z) o) (Scf.iv 0#32 1#32 j)).toInt

/-- One trip of a loop over the experts. -/
abbrev trip (n : ℤ) (x : Vec Ideal S1x256x1024 .bf16) (i : Vec Ideal S1x256x4 .f32) (a : FVec Ideal S256x1024 .f32)
    (w1 : Vec Ideal S1x1024x2048 .f32) (w2 : Vec Ideal S1x2048x1024 .f32) (t : Fin 256) (d : Fin 1024) : EReal :=
  a (ix2 t d) + contrib (fun k => x (ix3 0 t k)) (sel n fun q => i (ix3 0 t q)) (fun k f => w1 (ix3 0 k f)) (fun f => w2 (ix3 0 f d))

section Trips

variable (z : BitVec 32) (x : Vec Ideal S1x256x1024 .bf16) (i : Vec Ideal S1x256x4 .f32) (a : FVec Ideal S256x1024 .f32)
  (w1 : Vec Ideal S1x1024x2048 .f32) (w2 : Vec Ideal S1x2048x1024 .f32) (t : Fin 256) (d : Fin 1024)

theorem pay20_at (j : Fin k0_t1_loop.trips) : k0_pay20 z x i i i i j a w1 w2 (ix2 t d) = trip (ew z 0#32 j) x i a w1 w2 t d := by
  pointwise [k0_pay20]; rfl
theorem pay23_at (j : Fin k0_t2_loop.trips) : k0_pay23 z x i i i i j a w1 w2 (ix2 t d) = trip (ew z 0#32 j) x i a w1 w2 t d := by
  pointwise [k0_pay23]; rfl
theorem pay26_at (j : Fin k0_t3_loop.trips) : k0_pay26 z x i i i i j a w1 w2 (ix2 t d) = trip (ew z 0#32 j) x i a w1 w2 t d := by
  pointwise [k0_pay26]; rfl
theorem pay29_at (j : Fin k0_t4_loop.trips) : k0_pay29 z x i i i i j a w1 w2 (ix2 t d) = trip (ew z 0#32 j) x i a w1 w2 t d := by
  pointwise [k0_pay29]; rfl
theorem pay33_at (j : Fin k0_t5_loop.trips) : k0_pay33 z (k0_pay31 x) i i i i j a w1 w2 (ix2 t d) = trip (ew z 2#32 j) x i a w1 w2 t d := by
  pointwise [k0_pay33, k0_pay31]; rfl
theorem pay36_at (j : Fin k0_t6_loop.trips) : k0_pay36 z x i i i i j a w1 w2 (ix2 t d) = trip (ew z 2#32 j) x i a w1 w2 t d := by
  pointwise [k0_pay36]; rfl
theorem pay39_at (j : Fin k0_t7_loop.trips) : k0_pay39 z x i i i i j a w1 w2 (ix2 t d) = trip (ew z 2#32 j) x i a w1 w2 t d := by
  pointwise [k0_pay39]; rfl
theorem pay47_at (j : Fin k0_t8_loop.trips) :
    k0_pay47 z (k0_pay41 x) (k0_pay42 i) (k0_pay43 i) (k0_pay44 i) (k0_pay45 i) 0#32 1#32 j a w1 w2 (ix2 t d) = trip (ew z 2#32 j) x i a w1 w2 t d := by
  pointwise [k0_pay47, k0_pay41, k0_pay42, k0_pay43, k0_pay44, k0_pay45]; rfl

end Trips

section Gates

variable (x : Vec Ideal S256x1024 .f32) (r0 r1 r2 r3 : Vec Ideal S1x1024x4 .f32) (t : Fin 256)

/-- A token's gates in the order the columns arrive. -/
theorem pay4_at (e : Fin 16) (R : Fin 1024 → EReal)
    (h0 : ∀ k (h : e.val < 4), r0 (ix3 0 k ⟨e.val, h⟩) = R k) (h1 : ∀ k (_ : ¬ e.val < 4) (h : e.val - 4 < 4), r1 (ix3 0 k ⟨e.val - 4, h⟩) = R k)
    (h2 : ∀ k (_ : ¬ e.val < 4) (_ : ¬ e.val - 4 < 4) (h : e.val - 4 - 4 < 4), r2 (ix3 0 k ⟨e.val - 4 - 4, h⟩) = R k)
    (h3 : ∀ k (_ : ¬ e.val < 4) (_ : ¬ e.val - 4 < 4) (_ : ¬ e.val - 4 - 4 < 4), r3 (ix3 0 k ⟨e.val - 4 - 4 - 4, by have := e.isLt; omega⟩) = R k) :
    k0_pay4 x r0 r1 r2 r3 (ix2 t e) = ∑ k, x (ix2 t k) * R k := by
  pointwise [k0_pay4, k0_pay3]
  refine Finset.sum_congr rfl fun k _ => ?_
  refine congrArg (x (ix2 t k) * ·) ?_
  split
  · exact h0 k _
  · split
    · exact h1 k ‹_› _
    · split
      · exact h2 k ‹_› ‹_› _
      · exact h3 k ‹_› ‹_› ‹_›

theorem ninf : Ideal.ofBits FTy.f32 0xFF800000#32 = (⊥ : EReal) := by
  show Ideal.ieee 8 23 0xFF800000#32 = _
  unfold Ideal.ieee
  simp

theorem pay5_at : k0_pay5 x r0 r1 r2 r3 (ix2 t 0) = Finset.fold max ⊥ (fun e => k0_pay4 x r0 r1 r2 r3 (ix2 t e)) Finset.univ := by
  pointwise [k0_pay5]
  rw [ninf]

theorem pay6_at (e : Fin 16) : k0_pay6 x r0 r1 r2 r3 (ix2 t e)
    = BitVec.ofBool (decide (k0_pay5 x r0 r1 r2 r3 (ix2 t 0) ≤ k0_pay4 x r0 r1 r2 r3 (ix2 t e))) := by
  pointwise [k0_pay6]

abbrev ix : IVec S256x16 32 := iota .tc S256x16 32 [1] iota_S256x16_d1_w32

theorem pay8_at : k0_pay8 ix (k0_pay6 x r0 r1 r2 r3) k0_pay7 (ix2 t 0)
    = pickWord (fun e => k0_pay4 x r0 r1 r2 r3 (ix2 t e)) (k0_pay5 x r0 r1 r2 r3 (ix2 t 0)) := by
  pointwise [k0_pay8, k0_pay7]
  unfold pickWord
  congr 1
  funext e
  rw [pay6_at]
  by_cases h : k0_pay5 x r0 r1 r2 r3 (ix2 t 0) ≤ k0_pay4 x r0 r1 r2 r3 (ix2 t e) <;> simp [h, Scalar.select]

variable (g : FVec Ideal S256x16 .f32) (h : IVec S256x16 1)

theorem pay9_at (e : Fin 16) : k0_pay9 g ix h k0_pay7 (ix2 t e) = masked (fun e => g (ix2 t e)) (k0_pay8 ix h k0_pay7 (ix2 t 0)) e := by
  pointwise [k0_pay9]
  unfold masked
  rw [show (Named.named κ "mask" 4048155338#32 : Ideal .f32) = (⊥ : EReal) from IdealRules.named_const.ideal_named_scalar _ _ _ _ rfl]
  generalize k0_pay8 ix h k0_pay7 (ix2 t 0) = w
  by_cases hc : BitVec.ofNat 32 e.val = w
  · simp [hc, Scalar.select, IntOp.cmpi]
  · rw [if_neg hc]
    have hb : (BitVec.ofNat 32 e.val == w) = false := by simpa using hc
    simp [hb, Scalar.select, IntOp.cmpi]

theorem pay10_at : k0_pay10 g ix h k0_pay7 (ix2 t 0)
    = Finset.fold max ⊥ (masked (fun e => g (ix2 t e)) (k0_pay8 ix h k0_pay7 (ix2 t 0))) Finset.univ := by
  pointwise [k0_pay10]
  rw [ninf]
  congr 1
  funext e
  exact pay9_at t g h e

theorem pay11_at : k0_pay11 g ix h k0_pay7 (ix2 t 0)
    = pickWord (masked (fun e => g (ix2 t e)) (k0_pay8 ix h k0_pay7 (ix2 t 0))) (k0_pay10 g ix h k0_pay7 (ix2 t 0)) := by
  pointwise [k0_pay11]
  unfold pickWord
  congr 1
  funext e
  rw [pay9_at t g h e]

theorem pay13_at (z : BitVec 32) : k0_pay13 (k0_pay8 ix h k0_pay7) (k0_pay12 z ix h k0_pay7) 4#32 (ix2 t 0) = expw z (k0_pay8 ix h k0_pay7 (ix2 t 0)) := by
  pointwise [k0_pay13, k0_pay12]; rfl

theorem pay14_at (z : BitVec 32) (a : IVec S256x1 32) : k0_pay14 z a (ix2 t 0) = expw z (a (ix2 t 0)) := by
  pointwise [k0_pay14]; rfl

variable (a b : IVec S256x1 32) (u v : FVec Ideal S256x1 .f32)

theorem pay18_0 : k0_pay18 a b u v (ix3 0 t 0) = FloatOps.sitofp (F := Ideal) FTy.f32 (a (ix2 t 0)) := by
  pointwise [k0_pay18]
theorem pay18_1 : k0_pay18 a b u v (ix3 0 t 1) = FloatOps.sitofp (F := Ideal) FTy.f32 (b (ix2 t 0)) := by
  pointwise [k0_pay18]
theorem pay18_2 : k0_pay18 a b u v (ix3 0 t 2) = v (ix2 t 0) := by
  pointwise [k0_pay18]
theorem pay18_3 : k0_pay18 a b u v (ix3 0 t 3) = Ideal.div (u (ix2 t 0)) (1 + u (ix2 t 0)) := by
  pointwise [k0_pay18]
theorem pay16_at : k0_pay16 u v (ix2 t 0) = Ideal.div 1 (1 + Ideal.exp (v (ix2 t 0) - u (ix2 t 0))) := by
  pointwise [k0_pay16, k0_pay15]
theorem pay15_at : k0_pay15 u v (ix2 t 0) = Ideal.exp (v (ix2 t 0) - u (ix2 t 0)) := by
  pointwise [k0_pay15]

end Gates

section Sums

variable (a b : FVec Ideal S256x1024 .f32) (r : Vec Ideal S1x256x1024 .bf16) (g : Vec Ideal S1024x4 .f32) (t : Fin 256) (d : Fin 1024)

theorem pay2_at (k : Fin 1024) (e : Fin 4) : k0_pay2 g (ix3 0 k e) = g (ix2 k e) := by pointwise [k0_pay2]
theorem pay17_at : (k0_pay17 (F := Ideal) (k0_pay3 a) (ix3 0 t d) : EReal) = (a (ix2 t d) : EReal) := by pointwise [k0_pay17, k0_pay3]
theorem pay19_at : k0_pay19 (F := Ideal) (ix2 t d) = (0 : EReal) := by pointwise [k0_pay19]
theorem pay22_at : k0_pay22 (F := Ideal) (ix2 t d) = (0 : EReal) := by pointwise [k0_pay22]
theorem pay25_at : k0_pay25 (F := Ideal) (ix2 t d) = (0 : EReal) := by pointwise [k0_pay25]
theorem pay28_at : k0_pay28 (F := Ideal) (ix2 t d) = (0 : EReal) := by pointwise [k0_pay28]
theorem pay32_at : k0_pay32 (F := Ideal) (ix2 t d) = (0 : EReal) := by pointwise [k0_pay32]
theorem pay35_at : k0_pay35 (F := Ideal) (ix2 t d) = (0 : EReal) := by pointwise [k0_pay35]
theorem pay38_at : k0_pay38 (F := Ideal) (ix2 t d) = (0 : EReal) := by pointwise [k0_pay38]
theorem pay46_at : k0_pay46 (F := Ideal) (ix2 t d) = (0 : EReal) := by pointwise [k0_pay46]
theorem pay21_at : k0_pay21 a (ix2 t d) = a (ix2 t d) := by pointwise [k0_pay21]
theorem pay24_at : k0_pay24 a (ix2 t d) = a (ix2 t d) := by pointwise [k0_pay24]
theorem pay27_at : k0_pay27 a (ix2 t d) = a (ix2 t d) := by pointwise [k0_pay27]
theorem pay30_at : k0_pay30 a (ix2 t d) = a (ix2 t d) := by pointwise [k0_pay30]
theorem pay34_at : k0_pay34 a b (ix3 0 t d) = b (ix2 t d) + a (ix2 t d) := by pointwise [k0_pay34]
theorem pay37_at : k0_pay37 a b r (ix3 0 t d) = b (ix2 t d) + a (ix2 t d) + r (ix3 0 t d) := by pointwise [k0_pay37]
theorem pay40_at : k0_pay40 a b r (ix3 0 t d) = b (ix2 t d) + a (ix2 t d) + r (ix3 0 t d) := by pointwise [k0_pay40]
theorem pay1_at : k0_pay1 (k0_pay48 a b) r (ix2 t d) = a (ix2 t d) + b (ix2 t d) + r (ix3 0 t d) := by pointwise [k0_pay1, k0_pay48]

end Sums

end Cert.KernelIdeal.Gen

end
-- ==== Proof.KernelValue.lean ====
/-
# The kernel's output, element by element

A device's tokens come back to it with the sixteen experts' contributions, each computed on the device that holds
the expert and added up around the ring.
-/
module

public import proofs.«01_k».proof.Proof.KernelIdealRing
public import proofs.«01_k».proof.Proof.Steps

@[expose] public section

set_option maxRecDepth 16384

noncomputable section

namespace Cert.KernelIdeal.Ring

open Cert.KernelIdeal Cert.KernelIdeal.Gen Idealize.ShloMosaic Idealize.ShloMosaic.TcCoe Idealize.SL.Sem Cert.Moe

variable [Cert.KernelIdeal.Facts]

variable (m : (ℓ : Loc nD τ sig) → Buf (Elt Ideal) ℓ) (c : Dev nD)

/-- The device's place in its ring. -/
def zp (c : Dev nD) : Fin 4 := ⟨c.val % 4, Nat.mod_lt _ (by decide)⟩

theorem zw_eq : ∀ c : Dev nD, zw c = BitVec.ofNat 32 (zp c).val := by decide +kernel
theorem ew_eq0 : ∀ c : Dev nD, ew (zw c) 0#32 0 = ((4 * (zp c).val + 0 : ℕ) : ℤ) := by decide +kernel
theorem ew_eq1 : ∀ c : Dev nD, ew (zw c) 0#32 1 = ((4 * (zp c).val + 1 : ℕ) : ℤ) := by decide +kernel
theorem ew_eq2 : ∀ c : Dev nD, ew (zw c) 2#32 0 = ((4 * (zp c).val + 2 : ℕ) : ℤ) := by decide +kernel
theorem ew_eq3 : ∀ c : Dev nD, ew (zw c) 2#32 1 = ((4 * (zp c).val + 3 : ℕ) : ℤ) := by decide +kernel

/-- A device's inputs at an element. -/
def kX (t : Fin 256) (k : Fin 1024) : EReal := m (c.tc.loc main_arg0) (ix2 t k)
def kR (k : Fin 1024) (e : Fin 4) : EReal := m (c.tc.loc main_arg1) (ix2 k e)
def kW (e : Fin 4) (k : Fin 1024) (f : Fin 2048) : EReal := m (c.tc.loc main_arg2) (ix3 e k f)
def kV (e : Fin 4) (f : Fin 2048) (d : Fin 1024) : EReal := m (c.tc.loc main_arg3) (ix3 e f d)

/-- A one-expert window at an element. -/
theorem unit_at {A B : ℕ} (o : Fin 3 → ℕ) (j : Fin 4) (ho : o 0 = j.val ∧ o 1 = 0 ∧ o 2 = 0)
    (inb : ∀ a, o a + (⟨3, ![1, A, B]⟩ : Shape).size a ≤ (⟨3, ![4, A, B]⟩ : Shape).size a) (k : Fin A) (f : Fin B) :
    (Rect.unit (s := ⟨3, ![4, A, B]⟩) o (⟨3, ![1, A, B]⟩ : Shape).size inb).emb (ix3 0 k f) = ix3 j k f := by
  funext a
  apply Fin.ext
  rw [Rect.emb_apply]
  obtain ⟨h0, h1, h2⟩ := ho
  fin_cases a
  · show o 0 + 1 * 0 = j.val; omega
  · show o 1 + 1 * k.val = k.val; omega
  · show o 2 + 1 * f.val = f.val; omega

theorem w1v0_at (k : Fin 1024) (f : Fin 2048) : w1v0 m c (ix3 0 k f) = kW m c 0 k f :=
  congrArg (m (c.tc.loc main_arg2)) (unit_at _ 0 ⟨rfl, rfl, rfl⟩ _ k f)
theorem w2v0_at (f : Fin 2048) (d : Fin 1024) : w2v0 m c (ix3 0 f d) = kV m c 0 f d :=
  congrArg (m (c.tc.loc main_arg3)) (unit_at _ 0 ⟨rfl, rfl, rfl⟩ _ f d)
theorem w1v1_at (k : Fin 1024) (f : Fin 2048) : w1v1 m c (ix3 0 k f) = kW m c 1 k f :=
  congrArg (m (c.tc.loc main_arg2)) (unit_at _ 1 ⟨rfl, rfl, rfl⟩ _ k f)
theorem w2v1_at (f : Fin 2048) (d : Fin 1024) : w2v1 m c (ix3 0 f d) = kV m c 1 f d :=
  congrArg (m (c.tc.loc main_arg3)) (unit_at _ 1 ⟨rfl, rfl, rfl⟩ _ f d)
theorem w1v2_at (k : Fin 1024) (f : Fin 2048) : w1v2 m c (ix3 0 k f) = kW m c 2 k f :=
  congrArg (m (c.tc.loc main_arg2)) (unit_at _ 2 ⟨rfl, rfl, rfl⟩ _ k f)
theorem w2v2_at (f : Fin 2048) (d : Fin 1024) : w2v2 m c (ix3 0 f d) = kV m c 2 f d :=
  congrArg (m (c.tc.loc main_arg3)) (unit_at _ 2 ⟨rfl, rfl, rfl⟩ _ f d)
theorem w1v3_at (k : Fin 1024) (f : Fin 2048) : w1v3 m c (ix3 0 k f) = kW m c 3 k f :=
  congrArg (m (c.tc.loc main_arg2)) (unit_at _ 3 ⟨rfl, rfl, rfl⟩ _ k f)
theorem w2v3_at (f : Fin 2048) (d : Fin 1024) : w2v3 m c (ix3 0 f d) = kV m c 3 f d :=
  congrArg (m (c.tc.loc main_arg3)) (unit_at _ 3 ⟨rfl, rfl, rfl⟩ _ f d)

theorem xstg_at (t : Fin 256) (k : Fin 1024) : xstg m c (ix2 t k) = kX m c t k := by
  have hz : (fun a => (win0_0.index (0 : Fin 1)) a * main_arg0.ty.shape.size a) = fun _ => 0 :=
    funext fun a => by fin_cases a <;> decide
  exact congrFun (Memref.read_access_unit_zero (Elt Ideal) main_arg0 hz (fun a => by fin_cases a <;> decide) (m (c.tc.loc main_arg0))) (ix2 t k)
theorem gstg_at (k : Fin 1024) (e : Fin 4) : gstg m c (ix2 k e) = kR m c k e := by
  have hz : (fun a => (win0_1.index (0 : Fin 1)) a * main_arg1.ty.shape.size a) = fun _ => 0 :=
    funext fun a => by fin_cases a <;> decide
  exact congrFun (Memref.read_access_unit_zero (Elt Ideal) main_arg1 hz (fun a => by fin_cases a <;> decide) (m (c.tc.loc main_arg1))) (ix2 k e)

/-! ## The contributions -/

/-- What device `c` adds for expert `j` of its four to the tokens in slot `h`. -/
def cb (h : ℕ) (j : Fin 4) (t : Fin 256) (d : Fin 1024) : EReal :=
  contrib (fun k => Xh m h c (ix3 0 t k)) (sel ((4 * (zp c).val + j.val : ℕ) : ℤ) fun q => Ih m h c (ix3 0 t q)) (kW m c j) (fun f => kV m c j f d)

variable (t : Fin 256) (d : Fin 1024)

theorem lp1_at : lp1 m c (ix2 t d) = (0 + cb m c 0 0 t d) + cb m c 0 1 t d := by
  unfold lp1
  rw [pay20_at]
  unfold trip
  rw [pay20_at]
  unfold trip
  rw [pay19_at]
  dsimp only
  rw [ew_eq0, ew_eq1]
  simp only [w1v0_at, w2v0_at, w1v1_at, w2v1_at]
  rfl
theorem lp2_at : lp2 m c (ix2 t d) = (0 + cb m c 1 0 t d) + cb m c 1 1 t d := by
  unfold lp2
  rw [pay23_at]
  unfold trip
  rw [pay23_at]
  unfold trip
  rw [pay22_at]
  dsimp only
  rw [ew_eq0, ew_eq1]
  simp only [w1v0_at, w2v0_at, w1v1_at, w2v1_at]
  rfl
theorem lp3_at : lp3 m c (ix2 t d) = (0 + cb m c 2 0 t d) + cb m c 2 1 t d := by
  unfold lp3
  rw [pay26_at]
  unfold trip
  rw [pay26_at]
  unfold trip
  rw [pay25_at]
  dsimp only
  rw [ew_eq0, ew_eq1]
  simp only [w1v0_at, w2v0_at, w1v1_at, w2v1_at]
  rfl
theorem lp4_at : lp4 m c (ix2 t d) = (0 + cb m c 3 0 t d) + cb m c 3 1 t d := by
  unfold lp4
  rw [pay29_at]
  unfold trip
  rw [pay29_at]
  unfold trip
  rw [pay28_at]
  dsimp only
  rw [ew_eq0, ew_eq1]
  simp only [w1v0_at, w2v0_at, w1v1_at, w2v1_at]
  rfl
theorem lp5_at : lp5 m c (ix2 t d) = (0 + cb m c 1 2 t d) + cb m c 1 3 t d := by
  unfold lp5
  rw [pay33_at]
  unfold trip
  rw [pay33_at]
  unfold trip
  rw [pay32_at]
  dsimp only
  rw [ew_eq2, ew_eq3]
  simp only [w1v2_at, w2v2_at, w1v3_at, w2v3_at]
  rfl
theorem lp6_at : lp6 m c (ix2 t d) = (0 + cb m c 2 2 t d) + cb m c 2 3 t d := by
  unfold lp6
  rw [pay36_at]
  unfold trip
  rw [pay36_at]
  unfold trip
  rw [pay35_at]
  dsimp only
  rw [ew_eq2, ew_eq3]
  simp only [w1v2_at, w2v2_at, w1v3_at, w2v3_at]
  rfl
theorem lp7_at : lp7 m c (ix2 t d) = (0 + cb m c 3 2 t d) + cb m c 3 3 t d := by
  unfold lp7
  rw [pay39_at]
  unfold trip
  rw [pay39_at]
  unfold trip
  rw [pay38_at]
  dsimp only
  rw [ew_eq2, ew_eq3]
  simp only [w1v2_at, w2v2_at, w1v3_at, w2v3_at]
  rfl
theorem lp8_at : lp8 m c (ix2 t d) = (0 + cb m c 0 2 t d) + cb m c 0 3 t d := by
  unfold lp8
  rw [pay47_at]
  unfold trip
  rw [pay47_at]
  unfold trip
  rw [pay46_at]
  dsimp only
  rw [ew_eq2, ew_eq3]
  simp only [w1v2_at, w2v2_at, w1v3_at, w2v3_at]
  rfl

theorem red0_at : red0 m c (ix3 0 t d) = (0 + cb m c 1 0 t d + cb m c 1 1 t d) + (0 + cb m c 1 2 t d + cb m c 1 3 t d) := by
  unfold red0 pt1
  rw [pay34_at, pay24_at, lp2_at, lp5_at]
theorem red1_at : red1 m c (ix3 0 t d) = (0 + cb m c 2 0 t d + cb m c 2 1 t d) + (0 + cb m c 2 2 t d + cb m c 2 3 t d) + red0 m (prv c) (ix3 0 t d) := by
  unfold red1 pt2
  rw [pay37_at, pay27_at, lp3_at, lp6_at]
theorem red2_at : red2 m c (ix3 0 t d) = (0 + cb m c 3 0 t d + cb m c 3 1 t d) + (0 + cb m c 3 2 t d + cb m c 3 3 t d) + red1 m (prv c) (ix3 0 t d) := by
  unfold red2 pt3
  rw [pay40_at, pay30_at, lp4_at, lp7_at]
theorem outv_at : outv m c (ix2 t d) = (0 + cb m c 0 0 t d + cb m c 0 1 t d) + (0 + cb m c 0 2 t d + cb m c 0 3 t d) + red2 m (prv c) (ix3 0 t d) := by
  unfold outv pt0
  rw [pay1_at, pay21_at, lp1_at, lp8_at]

/-! ## The gates -/

/-- A token's gates in the order in which the columns arrive. -/
def kG (r : Fin 16) : EReal := ∑ k, kX m c t k * kR m (back (r.val / 4) c) k ⟨r.val % 4, Nat.mod_lt _ (by decide)⟩

theorem Rh_at (h : ℕ) (k : Fin 1024) (e : Fin 4) : Rh m h c (ix3 0 k e) = kR m (back h c) k e := by
  unfold Rh R0
  rw [pay2_at, gstg_at]

theorem gat_at (r : Fin 16) : gat m c (ix2 t r) = kG m c t r := by
  unfold gat kG
  rw [pay4_at (xstg m c) _ _ _ _ t r fun k => kR m (back (r.val / 4) c) k ⟨r.val % 4, Nat.mod_lt _ (by decide)⟩]
  · exact Finset.sum_congr rfl fun k _ => by rw [xstg_at]
  · intro k h
    rw [Rh_at]
    have h4 : r.val / 4 = 0 := by omega
    rw [h4]
    exact congrArg _ (Fin.ext (by show r.val = r.val % 4; omega))
  · intro k _ h
    rw [Rh_at]
    have h4 : r.val / 4 = 1 := by omega
    rw [h4]
    exact congrArg _ (Fin.ext (by show r.val - 4 = r.val % 4; omega))
  · intro k _ _ h
    rw [Rh_at]
    have h4 : r.val / 4 = 2 := by omega
    rw [h4]
    exact congrArg _ (Fin.ext (by show r.val - 4 - 4 = r.val % 4; omega))
  · intro k _ _ h
    rw [Rh_at]
    have h4 : r.val / 4 = 3 := by omega
    rw [h4]
    exact congrArg _ (Fin.ext (by show r.val - 4 - 4 - 4 = r.val % 4; omega))

/-- The kernel's maxima and picks of a token's gates. -/
def m1 : EReal := top m c (ix2 t 0)
def a1 : BitVec 32 := k0_pay8 ix (hit m c) k0_pay7 (ix2 t 0)
def m2 : EReal := snd2 m c (ix2 t 0)
def a2 : BitVec 32 := k0_pay11 (gat m c) ix (hit m c) k0_pay7 (ix2 t 0)

theorem m1_eq : m1 m c t = Finset.fold max ⊥ (kG m c t) Finset.univ := by
  unfold m1 top
  rw [pay5_at]
  exact congrArg (fun f => Finset.fold max ⊥ f Finset.univ) (funext fun r => gat_at m c t r)
theorem a1_eq : a1 m c t = pickWord (kG m c t) (m1 m c t) := by
  unfold a1 hit
  rw [pay8_at]
  exact congrArg (fun f => pickWord f (m1 m c t)) (funext fun r => gat_at m c t r)
theorem m2_eq : m2 m c t = Finset.fold max ⊥ (masked (kG m c t) (a1 m c t)) Finset.univ := by
  unfold m2 snd2
  rw [pay10_at]
  exact congrArg (fun f => Finset.fold max ⊥ (masked f (a1 m c t)) Finset.univ) (funext fun r => gat_at m c t r)
theorem a2_eq : a2 m c t = pickWord (masked (kG m c t) (a1 m c t)) (m2 m c t) := by
  unfold a2
  rw [pay11_at]
  exact congrArg (fun f => pickWord (masked f (a1 m c t)) (m2 m c t)) (funext fun r => gat_at m c t r)

theorem info0 : info m c (ix3 0 t 0) = FloatOps.sitofp (F := Ideal) FTy.f32 (expw (BitVec.ofNat 32 (zp c).val) (a1 m c t)) := by
  unfold info
  rw [pay18_0, pay13_at, zw_eq]
  rfl
theorem info1 : info m c (ix3 0 t 1) = FloatOps.sitofp (F := Ideal) FTy.f32 (expw (BitVec.ofNat 32 (zp c).val) (a2 m c t)) := by
  unfold info
  rw [pay18_1, pay14_at, zw_eq]
  rfl
theorem info2 : info m c (ix3 0 t 2) = Ideal.div 1 (1 + Ideal.exp (m2 m c t - m1 m c t)) := by
  unfold info
  rw [pay18_2, pay16_at]
  rfl
theorem info3 : info m c (ix3 0 t 3) = Ideal.div (Ideal.exp (m2 m c t - m1 m c t)) (1 + Ideal.exp (m2 m c t - m1 m c t)) := by
  unfold info
  rw [pay18_3, pay15_at]
  rfl

/-! ## Around the ring -/

theorem back4 : ∀ c : Dev nD, prv (prv (prv (prv c))) = c := by decide +kernel
theorem zp_prv : ∀ c : Dev nD, (zp (prv c)).val = ((zp c).val + 3) % 4 := by decide +kernel

/-- The contributions in slot `h` of the device `h` places on are to the device's own tokens. -/
theorem cb_back (c' : Dev nD) (h : ℕ) (hb : back h c' = c) (j : Fin 4) :
    cb m c' h j t d = contrib (kX m c t) (sel ((4 * (zp c').val + j.val : ℕ) : ℤ) fun q => info m c (ix3 0 t q)) (kW m c' j) (fun f => kV m c' j f d) := by
  unfold cb Xh Ih
  rw [hb]
  congr 1
  funext k
  unfold xb
  rw [← xstg_at]
  exact pay17_at (xstg m c) t k

end Cert.KernelIdeal.Ring

end
-- ==== Proof.RefValue.lean ====
/-
# The reference's result, element by element
-/
module

public import proofs.«01_k».proof.Proof.Gen.ReferenceIdeal.Run
public import Idealize.ShloMosaic.Lib.Tactic.CleanTypes
public import proofs.«01_k».proof.Proof.Moe

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Moe

variable (m : (ℓ : Loc nD τ sig) → Buf (Elt Ideal) ℓ) (c : Dev nD)

/-- The four inputs at an element. -/
def inX (t k : Fin 1024) : EReal := m (c.tc.loc main_arg0) (ix2 t k)
def inR (k : Fin 1024) (e : Fin 16) : EReal := m (c.tc.loc main_arg1) (ix2 k e)
def inW (e : Fin 16) (k : Fin 1024) (f : Fin 2048) : EReal := m (c.tc.loc main_arg2) (ix3 e k f)
def inV (e : Fin 16) (f : Fin 2048) (d : Fin 1024) : EReal := m (c.tc.loc main_arg3) (ix3 e f d)

/-- The gate of token `t` for expert `e`, and expert `e`'s output for the token at column `d`. -/
def gate (t : Fin 1024) (e : Fin 16) : EReal := ∑ k, inX m c t k * inR m c k e
def outp (t d : Fin 1024) (e : Fin 16) : EReal := ffn (inX m c t) (inW m c e) (fun f => inV m c e f d)

theorem row_word : ∀ t : Fin 1024, IntOp.divsi ArithUnit.host (BitVec.ofNat 32 t.val) 256#32 = BitVec.ofNat 32 (t.val / 256) := by decide +kernel

set_option maxHeartbeats 4000000 in
/-- The reference routes a token by the ring position that holds it. -/
theorem result_at (t d : Fin 1024) :
    res_main_v74 m c (ix2 t d) = refOut (BitVec.ofNat 32 (t.val / 256)) (gate m c t) (outp m c t d) := by
  rw [← row_word]
  unfold res_main_v74
  clean_types
  pointwise
  simp only [id]
  pointwise
  rfl

end Cert.ReferenceIdeal.Value

end
-- ==== Proof.Value.lean ====
/-
# The value claim

Over the extended reals the kernel's output on every device is that device's block of the reference's result, when
the tokens and the router's columns are finite.
-/
module

public import proofs.«01_k».proof.Defs
public import proofs.«01_k».proof.Proof.Frames
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem Cert.Moe
open Cert.KernelIdeal.Ring (zp kX kR kW kV prv back)
open Cert.ReferenceIdeal.Value (inX inR inW inV gate outp)

/-! ## The precondition -/

theorem one_of_andi {a b : BitVec 1} (h : IntOp.andi a b = 1#1) : a = 1#1 ∧ b = 1#1 := by
  revert a b; decide

theorem fold_andi_one {ι : Type} [DecidableEq ι] (s : Finset ι) (f : ι → BitVec 1)
    (h : Finset.fold IntOp.andi (1#1) f s = 1#1) : ∀ i ∈ s, f i = 1#1 := by
  induction s using Finset.induction_on with
  | empty => simp
  | insert a s ha ih =>
    rw [Finset.fold_insert ha] at h
    obtain ⟨h1, h2⟩ := one_of_andi h
    intro i hi
    rcases Finset.mem_insert.mp hi with rfl | hi
    · exact h1
    · exact ih h2 i hi

theorem pinf : Ideal.ofBits FTy.f32 0x7F800000#32 = (⊤ : EReal) := by
  show Ideal.ieee 8 23 0x7F800000#32 = _
  unfold Ideal.ieee
  simp

theorem pre_at (a0 : FVec Ideal Cert.Pre_gates_finite_KernelIdeal.S256x1024 .f32)
    (a1 : FVec Ideal Cert.Pre_gates_finite_KernelIdeal.S1024x4 .f32)
    (a2 : FVec Ideal Cert.Pre_gates_finite_KernelIdeal.S4x1024x2048 .f32)
    (a3 : FVec Ideal Cert.Pre_gates_finite_KernelIdeal.S4x2048x1024 .f32) :
    Cert.Pre_gates_finite_KernelIdeal.fn (F := Ideal) a0 a1 a2 a3 ix0 =
      IntOp.andi
        (Finset.fold IntOp.andi (1#1) (fun k : Fin 256 × Fin 1024 => BitVec.ofBool (decide
          (max (a0 (ix2 k.1 k.2) : EReal) (-(a0 (ix2 k.1 k.2) : EReal)) < Ideal.ofBits FTy.f32 0x7F800000#32))) Finset.univ)
        (Finset.fold IntOp.andi (1#1) (fun k : Fin 1024 × Fin 4 => BitVec.ofBool (decide
          (max (a1 (ix2 k.1 k.2) : EReal) (-(a1 (ix2 k.1 k.2) : EReal)) < Ideal.ofBits FTy.f32 0x7F800000#32))) Finset.univ) := by
  unfold Cert.Pre_gates_finite_KernelIdeal.fn
  clean_types
  pointwise
  rfl

theorem finite_of_abs (a : EReal) (h : BitVec.ofBool (decide (max a (-a) < Ideal.ofBits FTy.f32 0x7F800000#32)) = 1#1) :
    a ≠ ⊥ ∧ a ≠ ⊤ := by
  rw [pinf] at h
  constructor
  · rintro rfl; simp at h
  · rintro rfl; simp at h

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Under the precondition a device's tokens and its router columns hold real numbers. -/
theorem finite_inputs (hpre : Cert.Pre_KernelIdeal_gates_finite_KernelIdeal m) (c : Dev Cert.KernelIdeal.nD) :
    (∀ t k, kX m c t k ≠ ⊥ ∧ kX m c t k ≠ ⊤) ∧ (∀ k e, kR m c k e ≠ ⊥ ∧ kR m c k e ≠ ⊤) := by
  have h := congrFun (hpre c) ix0
  rw [pre_at] at h
  obtain ⟨h0, h1⟩ := one_of_andi h
  exact ⟨fun t k => finite_of_abs _ (fold_andi_one _ _ h0 (t, k) (Finset.mem_univ _)),
    fun k e => finite_of_abs _ (fold_andi_one _ _ h1 (k, e) (Finset.mem_univ _))⟩

theorem coe_sum {n : ℕ} (s : Finset (Fin n)) (f : Fin n → ℝ) : ((∑ i ∈ s, f i : ℝ) : EReal) = ∑ i ∈ s, (f i : EReal) := by
  induction s using Finset.induction_on with
  | empty => simp
  | insert a s hs ih => rw [Finset.sum_insert hs, Finset.sum_insert hs, EReal.coe_add, ih]

theorem sum_finite {n : ℕ} (f g : Fin n → EReal) (hf : ∀ i, f i ≠ ⊥ ∧ f i ≠ ⊤) (hg : ∀ i, g i ≠ ⊥ ∧ g i ≠ ⊤) :
    (∑ i, f i * g i) ≠ ⊥ ∧ (∑ i, f i * g i) ≠ ⊤ := by
  have h : (∑ i, f i * g i) = ((∑ i, (f i).toReal * (g i).toReal : ℝ) : EReal) := by
    rw [coe_sum]
    refine Finset.sum_congr rfl fun i _ => ?_
    rw [EReal.coe_mul, EReal.coe_toReal (hf i).2 (hf i).1, EReal.coe_toReal (hg i).2 (hg i).1]
  rw [h]
  exact ⟨EReal.coe_ne_bot _, EReal.coe_ne_top _⟩

/-! ## The blocks of the two programs' inputs -/

/-- The kernel's inputs are the devices' blocks of the reference's. -/
abbrev Agree : Prop := ∀ c : Dev Cert.KernelIdeal.nD,
  m (c.tc.loc Cert.KernelIdeal.main_arg0) = Layout.blockN ⟨2, ![256, 1024]⟩ ⟨2, ![1024, 1024]⟩ (Layout.meshBlock [2, 4, 4] ![[2], []] c) (m' ((0 : Dev Cert.ReferenceIdeal.nD).tc.loc Cert.ReferenceIdeal.main_arg0))
  ∧ m (c.tc.loc Cert.KernelIdeal.main_arg1) = Layout.blockN ⟨2, ![1024, 4]⟩ ⟨2, ![1024, 16]⟩ (Layout.meshBlock [2, 4, 4] ![[], [2]] c) (m' ((0 : Dev Cert.ReferenceIdeal.nD).tc.loc Cert.ReferenceIdeal.main_arg1))
  ∧ m (c.tc.loc Cert.KernelIdeal.main_arg2) = Layout.blockN ⟨3, ![4, 1024, 2048]⟩ ⟨3, ![16, 1024, 2048]⟩ (Layout.meshBlock [2, 4, 4] ![[2], [], []] c) (m' ((0 : Dev Cert.ReferenceIdeal.nD).tc.loc Cert.ReferenceIdeal.main_arg2))
  ∧ m (c.tc.loc Cert.KernelIdeal.main_arg3) = Layout.blockN ⟨3, ![4, 2048, 1024]⟩ ⟨3, ![16, 2048, 1024]⟩ (Layout.meshBlock [2, 4, 4] ![[2], [], []] c) (m' ((0 : Dev Cert.ReferenceIdeal.nD).tc.loc Cert.ReferenceIdeal.main_arg3))

theorem lin_z : ∀ c : Dev Cert.KernelIdeal.nD, Layout.meshLin [2, 4, 4] c.val [2] = (zp c).val := by decide +kernel
theorem lin_n : ∀ c : Dev Cert.KernelIdeal.nD, Layout.meshLin [2, 4, 4] c.val [] = 0 := by decide +kernel

/-- Row `t` of a device's tokens, among all tokens, and expert `e` of a device, among all experts. -/
def row (z : Fin 4) (t : Fin 256) : Fin 1024 := ⟨256 * z.val + t.val, by omega⟩
def exq (z : Fin 4) (e : Fin 4) : Fin 16 := ⟨4 * z.val + e.val, by omega⟩

theorem row_div (z : Fin 4) (t : Fin 256) : (row z t).val / 256 = z.val := by show (256 * z.val + t.val) / 256 = _; omega

/-- A device's block of rows, at an element. -/
theorem rows_at (c : Dev Cert.KernelIdeal.nD) (v : (⟨2, ![1024, 1024]⟩ : Shape).Idx → EReal) (t : Fin 256) (k : Fin 1024) :
    Layout.blockN ⟨2, ![256, 1024]⟩ ⟨2, ![1024, 1024]⟩ (Layout.meshBlock [2, 4, 4] ![[2], []] c) v (by decide) (ix2 t k) = v (ix2 (row (zp c) t) k) := by
  rw [Layout.blockN_apply]
  refine congrArg v (funext fun a => Fin.ext ?_)
  rw [Layout.TilesN.idx_val, Layout.meshBlock_val]
  fin_cases a
  · show Layout.meshLin [2, 4, 4] c.val [2] * 256 + t.val = 256 * (zp c).val + t.val
    rw [lin_z]; omega
  · show Layout.meshLin [2, 4, 4] c.val [] * 1024 + k.val = k.val
    rw [lin_n]; omega

theorem cols_at (c : Dev Cert.KernelIdeal.nD) (v : (⟨2, ![1024, 16]⟩ : Shape).Idx → EReal) (k : Fin 1024) (e : Fin 4) :
    Layout.blockN ⟨2, ![1024, 4]⟩ ⟨2, ![1024, 16]⟩ (Layout.meshBlock [2, 4, 4] ![[], [2]] c) v (by decide) (ix2 k e) = v (ix2 k (exq (zp c) e)) := by
  rw [Layout.blockN_apply]
  refine congrArg v (funext fun a => Fin.ext ?_)
  rw [Layout.TilesN.idx_val, Layout.meshBlock_val]
  fin_cases a
  · show Layout.meshLin [2, 4, 4] c.val [] * 1024 + k.val = k.val
    rw [lin_n]; omega
  · show Layout.meshLin [2, 4, 4] c.val [2] * 4 + e.val = 4 * (zp c).val + e.val
    rw [lin_z]; omega

theorem experts_at {A B : ℕ} (c : Dev Cert.KernelIdeal.nD) (h : Layout.TilesN ⟨3, ![4, A, B]⟩ ⟨3, ![16, A, B]⟩ (fun b => Layout.cutSize [2, 4, 4] ((![[2], [], []] : Fin 3 → List ℕ) b)))
    (v : (⟨3, ![16, A, B]⟩ : Shape).Idx → EReal) (e : Fin 4) (k : Fin A) (f : Fin B) :
    Layout.blockN ⟨3, ![4, A, B]⟩ ⟨3, ![16, A, B]⟩ (Layout.meshBlock [2, 4, 4] ![[2], [], []] c) v h (ix3 e k f) = v (ix3 (exq (zp c) e) k f) := by
  rw [Layout.blockN_apply]
  refine congrArg v (funext fun a => Fin.ext ?_)
  rw [Layout.TilesN.idx_val, Layout.meshBlock_val]
  fin_cases a
  · show Layout.meshLin [2, 4, 4] c.val [2] * 4 + e.val = 4 * (zp c).val + e.val
    rw [lin_z]; omega
  · show Layout.meshLin [2, 4, 4] c.val [] * A + k.val = k.val
    rw [lin_n]; omega
  · show Layout.meshLin [2, 4, 4] c.val [] * B + f.val = f.val
    rw [lin_n]; omega

variable {m m'} (ha : Agree m m')
include ha

theorem kX_eq (c : Dev Cert.KernelIdeal.nD) (t : Fin 256) (k : Fin 1024) : kX m c t k = inX m' 0 (row (zp c) t) k :=
  (congrFun (ha c).1 (ix2 t k)).trans (rows_at c _ t k)
theorem kR_eq (c : Dev Cert.KernelIdeal.nD) (k : Fin 1024) (e : Fin 4) : kR m c k e = inR m' 0 k (exq (zp c) e) :=
  (congrFun (ha c).2.1 (ix2 k e)).trans (cols_at c _ k e)
theorem kW_eq (c : Dev Cert.KernelIdeal.nD) (e : Fin 4) (k : Fin 1024) (f : Fin 2048) : kW m c e k f = inW m' 0 (exq (zp c) e) k f :=
  (congrFun (ha c).2.2.1 (ix3 e k f)).trans (experts_at c _ _ e k f)
theorem kV_eq (c : Dev Cert.KernelIdeal.nD) (e : Fin 4) (f : Fin 2048) (d : Fin 1024) : kV m c e f d = inV m' 0 (exq (zp c) e) f d :=
  (congrFun (ha c).2.2.2 (ix3 e f d)).trans (experts_at c _ _ e f d)

/-! ## The gates -/

omit ha in
theorem zp_back : ∀ (h : Fin 4) (c : Dev Cert.KernelIdeal.nD), (zp (back h.val c)).val = ((zp c).val + 4 - h.val) % 4 := by decide +kernel

/-- The gate at ring slot `r` is the gate of the expert whose place that is. -/
theorem kG_eq (c : Dev Cert.KernelIdeal.nD) (t : Fin 256) (r : Fin 16) :
    Cert.KernelIdeal.Ring.kG m c t r = gate m' 0 (row (zp c) t) (place (zp c) r) := by
  unfold Cert.KernelIdeal.Ring.kG gate
  refine Finset.sum_congr rfl fun k _ => ?_
  rw [kX_eq ha, kR_eq ha]
  congr 2
  apply Fin.ext
  show 4 * (zp (back (r.val / 4) c)).val + r.val % 4 = 4 * (((zp c).val + 4 - r.val / 4) % 4) + r.val % 4
  rw [zp_back ⟨r.val / 4, by omega⟩ c]

theorem gate_finite (hpre : Cert.Pre_KernelIdeal_gates_finite_KernelIdeal m) (c : Dev Cert.KernelIdeal.nD) (t : Fin 256) (e : Fin 16) :
    gate m' 0 (row (zp c) t) e ≠ ⊥ ∧ gate m' 0 (row (zp c) t) e ≠ ⊤ := by
  rw [← place_place (zp c) e, ← kG_eq ha]
  exact sum_finite _ _ (fun k => (finite_inputs m hpre c).1 t k) (fun k => (finite_inputs m hpre _).2 k _)

/-! ## One element of the output -/

/-- What expert `e` adds to row `t` of device `c`, from the reference's weights. -/
def part (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (t : Fin 256) (d : Fin 1024) (e : Fin 16) : EReal :=
  contrib (inX m' 0 (row (zp c) t)) (sel (e.val : ℤ) fun q => Cert.KernelIdeal.Ring.info m c (ix3 0 t q)) (inW m' 0 e) (fun f => inV m' 0 e f d)

theorem cb_eq (c c' : Dev Cert.KernelIdeal.nD) (t : Fin 256) (d : Fin 1024) (h : ℕ) (i : Fin 4) (hb : back h c' = c)
    (hz : (zp c').val = ((zp c).val + 4 - i.val) % 4) (j : Fin 4) :
    Cert.KernelIdeal.Ring.cb m c' h j t d = part m m' c t d (nth (zp c) i j) := by
  have hn : exq (zp c') j = nth (zp c) i j := Fin.ext (by show 4 * (zp c').val + j.val = 4 * (((zp c).val + 4 - i.val) % 4) + j.val; rw [hz])
  have hx : kX m c t = inX m' 0 (row (zp c) t) := funext fun k => kX_eq ha c t k
  have hw : kW m c' j = inW m' 0 (nth (zp c) i j) := funext fun k => funext fun f => by rw [kW_eq ha, hn]
  have hv : (fun f => kV m c' j f d) = fun f => inV m' 0 (nth (zp c) i j) f d := funext fun f => by rw [kV_eq ha, hn]
  rw [Cert.KernelIdeal.Ring.cb_back m c t d c' h hb j, hx, hw, hv]
  unfold part
  rw [← hn]
  rfl

theorem outv_sum (c : Dev Cert.KernelIdeal.nD) (t : Fin 256) (d : Fin 1024) :
    Cert.KernelIdeal.Ring.outv m c (ix2 t d) = ∑ e, part m m' c t d e := by
  have q0 := cb_eq ha c c t d 0 0 rfl (zp_back 0 c)
  have q1 := cb_eq ha c (prv c) t d 3 1 (Cert.KernelIdeal.Ring.back4 c) (zp_back 1 c)
  have q2 := cb_eq ha c (prv (prv c)) t d 2 2 (Cert.KernelIdeal.Ring.back4 c) (zp_back 2 c)
  have q3 := cb_eq ha c (prv (prv (prv c))) t d 1 3 (Cert.KernelIdeal.Ring.back4 c) (zp_back 3 c)
  rw [← ring_sum (zp c), Cert.KernelIdeal.Ring.outv_at, Cert.KernelIdeal.Ring.red2_at, Cert.KernelIdeal.Ring.red1_at,
    Cert.KernelIdeal.Ring.red0_at]
  simp only [q0, q1, q2, q3]

/-- The kernel's output on a device is its block of the reference's result. -/
theorem outv_eq (hpre : Cert.Pre_KernelIdeal_gates_finite_KernelIdeal m) (c : Dev Cert.KernelIdeal.nD) (t : Fin 256) (d : Fin 1024) :
    Cert.KernelIdeal.Ring.outv m c (ix2 t d) = Cert.ReferenceIdeal.Value.res_main_v74 m' 0 (ix2 (row (zp c) t) d) := by
  obtain ⟨p₁, p₂, s₁, s₂, hne, h₁, h₂, e₁, e₂, w₁, w₂, hy⟩ := picks (zp c) (gate m' 0 (row (zp c) t)) (Cert.KernelIdeal.Ring.kG m c t)
    (gate_finite ha hpre c t) (kG_eq ha c t) _ (Cert.KernelIdeal.Ring.m1_eq m c t) _ (Cert.KernelIdeal.Ring.a1_eq m c t)
    _ (Cert.KernelIdeal.Ring.m2_eq m c t) _ (Cert.KernelIdeal.Ring.a2_eq m c t)
  rw [Cert.ReferenceIdeal.Value.result_at, row_div, hy, outv_sum ha, ← sum_sel]
  refine Finset.sum_congr rfl fun e _ => ?_
  exact contrib_sel p₁ p₂ e hne s₁ s₂ h₁ h₂ (fun q => Cert.KernelIdeal.Ring.info m c (ix3 0 t q))
    ((Cert.KernelIdeal.Ring.info0 m c t).trans (congrArg _ e₁)) ((Cert.KernelIdeal.Ring.info1 m c t).trans (congrArg _ e₂))
    ((Cert.KernelIdeal.Ring.info2 m c t).trans w₁) ((Cert.KernelIdeal.Ring.info3 m c t).trans w₂) _ _ _

end

/-! ## The two runs -/

/-- The output array of a device, whole. -/
theorem out_whole (m : (ℓ : Loc Cert.KernelIdeal.nD Cert.KernelIdeal.τ Cert.KernelIdeal.sig) → Buf (Elt Ideal) ℓ) (c : Dev Cert.KernelIdeal.nD) :
    Cert.KernelIdeal.Ring.finalA m c (2 : Fin 3) = Cert.KernelIdeal.Ring.outv m c := by
  have hz : (fun a => (Cert.KernelIdeal.win0_2.index (0 : Fin 1)) a * Cert.KernelIdeal.main_v1.ty.shape.size a) = fun _ => 0 :=
    funext fun a => by fin_cases a <;> decide
  exact (Memref.read_access_unit_zero (Elt Ideal) Cert.KernelIdeal.main_v1 hz (fun a => by fin_cases a <;> decide)
    (Cert.KernelIdeal.Ring.finalA m c (2 : Fin 3))).symm.trans (Cert.KernelIdeal.Ring.finalA_o m c)

/-- Both programs run, and each device's output is its block of the reference's result. -/
theorem algebraic : Cert.algebraic_KernelIdeal_ReferenceIdeal_pre_gates_finite_KernelIdeal := by
  intro m g m' g' hpre ha
  refine ⟨Cert.ReferenceIdeal.Value.res_main_v74 m' 0, ?_, ?_⟩
  · refine (θ_run Cert.KernelIdeal.defs _ _).mono (fun r h c => ?_) (Cert.KernelIdeal.Ring.run_main (F := Ideal) m g)
    refine ⟨((h.1 c).1 (2 : Fin 3)).trans ((out_whole m c).trans (funext fun i => ?_)),
      ((h.1 c).1 (0 : Fin 3)).trans (Cert.KernelIdeal.Ring.finalA_x m c),
      ((h.1 c).1 (1 : Fin 3)).trans (Cert.KernelIdeal.Ring.finalA_g m c), (h.1 c).2.1, (h.1 c).2.2⟩
    obtain ⟨t, d, rfl⟩ : ∃ (t : Fin 256) (d : Fin 1024), i = ix2 t d := ⟨i 0, i 1, eq_ix2 i⟩
    exact (outv_eq ha hpre c t d).trans (rows_at c _ t d).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  facts_pre_kernel, facts_pre_reference, quiescent_kernel, quiescent_ideal, quiescent_ideal_pre,
  quiescent_reference, quiescent_reference_pre, preserves, algebraic⟩

end Cert.Proof

end
